-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutReferenceIdeal (m : (ℓ : Loc Cert.MixOutReferenceIdeal.nD Cert.MixOutReferenceIdeal.τ Cert.MixOutReferenceIdeal.sig) → Buf (Elt Ideal) ℓ) : Prop :=
  True

def Pre_Qb (m : (ℓ : Loc Cert.Qb.nD Cert.Qb.τ Cert.Qb.sig) → Buf (Elt Bits) ℓ) : Prop :=
  True

def Pre_QbIdeal (m : (ℓ : Loc Cert.QbIdeal.nD Cert.QbIdeal.τ Cert.QbIdeal.sig) → Buf (Elt Ideal) ℓ) : Prop :=
  True

def Pre_QbReferenceIdeal (m : (ℓ : Loc Cert.QbReferenceIdeal.nD Cert.QbReferenceIdeal.τ Cert.QbReferenceIdeal.sig) → Buf (Elt Ideal) ℓ) : Prop :=
  True

def Pre_Kvb (m : (ℓ : Loc Cert.Kvb.nD Cert.Kvb.τ Cert.Kvb.sig) → Buf (Elt Bits) ℓ) : Prop :=
  True

def Pre_KvbIdeal (m : (ℓ : Loc Cert.KvbIdeal.nD Cert.KvbIdeal.τ Cert.KvbIdeal.sig) → Buf (Elt Ideal) ℓ) : Prop :=
  True

def Pre_KvbReferenceIdeal (m : (ℓ : Loc Cert.KvbReferenceIdeal.nD Cert.KvbReferenceIdeal.τ Cert.KvbReferenceIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormReferenceIdeal (m : (ℓ : Loc Cert.FinalNormReferenceIdeal.nD Cert.FinalNormReferenceIdeal.τ Cert.FinalNormReferenceIdeal.sig) → Buf (Elt Ideal) ℓ) : Prop :=
  True

def Pre_NormMod (m : (ℓ : Loc Cert.NormMod.nD Cert.NormMod.τ Cert.NormMod.sig) → Buf (Elt Bits) ℓ) : Prop :=
  True

def Pre_NormModIdeal (m : (ℓ : Loc Cert.NormModIdeal.nD Cert.NormModIdeal.τ Cert.NormModIdeal.sig) → Buf (Elt Ideal) ℓ) : Prop :=
  True

def Pre_NormModReferenceIdeal (m : (ℓ : Loc Cert.NormModReferenceIdeal.nD Cert.NormModReferenceIdeal.τ Cert.NormModReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def Pre_OddRotary (m : (ℓ : Loc Cert.OddRotary.nD Cert.OddRotary.τ Cert.OddRotary.sig) → Buf (Elt Bits) ℓ) : Prop :=
  True

def Pre_OddRotaryIdeal (m : (ℓ : Loc Cert.OddRotaryIdeal.nD Cert.OddRotaryIdeal.τ Cert.OddRotaryIdeal.sig) → Buf (Elt Ideal) ℓ) : Prop :=
  True

def Pre_OddRotaryReferenceIdeal (m : (ℓ : Loc Cert.OddRotaryReferenceIdeal.nD Cert.OddRotaryReferenceIdeal.τ Cert.OddRotaryReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1)
      ∧ r.2.mem ((c.tc : Thread Cert.EvenInReferenceIdeal.nD Cert.EvenInReferenceIdeal.τ).loc Cert.EvenInReferenceIdeal.main_arg2) = m ((c.tc : Thread Cert.EvenInReferenceIdeal.nD Cert.EvenInReferenceIdeal.τ).loc Cert.EvenInReferenceIdeal.main_arg2)
      ∧ r.2.mem ((c.tc : Thread Cert.EvenInReferenceIdeal.nD Cert.EvenInReferenceIdeal.τ).loc Cert.EvenInReferenceIdeal.main_arg3) = m ((c.tc : Thread Cert.EvenInReferenceIdeal.nD Cert.EvenInReferenceIdeal.τ).loc Cert.EvenInReferenceIdeal.main_arg3)
      ∧ r.2.mem ((c.tc : Thread Cert.EvenInReferenceIdeal.nD Cert.EvenInReferenceIdeal.τ).loc Cert.EvenInReferenceIdeal.main_arg4) = m ((c.tc : Thread Cert.EvenInReferenceIdeal.nD Cert.EvenInReferenceIdeal.τ).loc Cert.EvenInReferenceIdeal.main_arg4))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1)
      ∧ r.2.mem ((c.tc : Thread Cert.OddInReferenceIdeal.nD Cert.OddInReferenceIdeal.τ).loc Cert.OddInReferenceIdeal.main_arg2) = m ((c.tc : Thread Cert.OddInReferenceIdeal.nD Cert.OddInReferenceIdeal.τ).loc Cert.OddInReferenceIdeal.main_arg2))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ r.2.sem = fun _ => 0)

def quiescent_MixOutReferenceIdeal [hMixOutReferenceIdeal : Cert.MixOutReferenceIdeal.Facts] : Prop :=
  ∀ (m : (ℓ : Loc Cert.MixOutReferenceIdeal.nD Cert.MixOutReferenceIdeal.τ Cert.MixOutReferenceIdeal.sig) → Buf (Elt Ideal) ℓ) (g : Dev Cert.MixOutReferenceIdeal.nD → PrngReg), Pre_MixOutReferenceIdeal m →
    θ_run (Cert.MixOutReferenceIdeal.defs (F := Ideal)) (onTc (τ := Cert.MixOutReferenceIdeal.τ) (Cert.MixOutReferenceIdeal.main (F := Ideal))) ⟨m, fun _ => 0, g⟩ (fun r => (∀ c : Dev Cert.MixOutReferenceIdeal.nD,
      r.2.mem ((c.tc : Thread Cert.MixOutReferenceIdeal.nD Cert.MixOutReferenceIdeal.τ).loc Cert.MixOutReferenceIdeal.main_arg0) = m ((c.tc : Thread Cert.MixOutReferenceIdeal.nD Cert.MixOutReferenceIdeal.τ).loc Cert.MixOutReferenceIdeal.main_arg0)
      ∧ r.2.mem ((c.tc : Thread Cert.MixOutReferenceIdeal.nD Cert.MixOutReferenceIdeal.τ).loc Cert.MixOutReferenceIdeal.main_arg1) = m ((c.tc : Thread Cert.MixOutReferenceIdeal.nD Cert.MixOutReferenceIdeal.τ).loc Cert.MixOutReferenceIdeal.main_arg1)
      ∧ r.2.mem ((c.tc : Thread Cert.MixOutReferenceIdeal.nD Cert.MixOutReferenceIdeal.τ).loc Cert.MixOutReferenceIdeal.main_arg2) = m ((c.tc : Thread Cert.MixOutReferenceIdeal.nD Cert.MixOutReferenceIdeal.τ).loc Cert.MixOutReferenceIdeal.main_arg2)
      ∧ r.2.mem ((c.tc : Thread Cert.MixOutReferenceIdeal.nD Cert.MixOutReferenceIdeal.τ).loc Cert.MixOutReferenceIdeal.main_arg3) = m ((c.tc : Thread Cert.MixOutReferenceIdeal.nD Cert.MixOutReferenceIdeal.τ).loc Cert.MixOutReferenceIdeal.main_arg3))
      ∧ r.2.sem = fun _ => 0)

def quiescent_Qb [hQb : Cert.Qb.Facts] : Prop :=
  ∀ (m : (ℓ : Loc Cert.Qb.nD Cert.Qb.τ Cert.Qb.sig) → Buf (Elt Bits) ℓ) (g : Dev Cert.Qb.nD → PrngReg), Pre_Qb m →
    θ_run (Cert.Qb.defs (F := Bits)) (onTc (τ := Cert.Qb.τ) (Cert.Qb.main (F := Bits))) ⟨m, fun _ => 0, g⟩ (fun r => (∀ c : Dev Cert.Qb.nD,
      r.2.mem ((c.tc : Thread Cert.Qb.nD Cert.Qb.τ).loc Cert.Qb.main_arg0) = m ((c.tc : Thread Cert.Qb.nD Cert.Qb.τ).loc Cert.Qb.main_arg0)
      ∧ r.2.mem ((c.tc : Thread Cert.Qb.nD Cert.Qb.τ).loc Cert.Qb.main_arg1) = m ((c.tc : Thread Cert.Qb.nD Cert.Qb.τ).loc Cert.Qb.main_arg1))
      ∧ r.2.sem = fun _ => 0)

def quiescent_QbIdeal [hQbIdeal : Cert.QbIdeal.Facts] : Prop :=
  ∀ (m : (ℓ : Loc Cert.QbIdeal.nD Cert.QbIdeal.τ Cert.QbIdeal.sig) → Buf (Elt Ideal) ℓ) (g : Dev Cert.QbIdeal.nD → PrngReg), Pre_QbIdeal m →
    θ_run (Cert.QbIdeal.defs (F := Ideal)) (onTc (τ := Cert.QbIdeal.τ) (Cert.QbIdeal.main (F := Ideal))) ⟨m, fun _ => 0, g⟩ (fun r => (∀ c : Dev Cert.QbIdeal.nD,
      r.2.mem ((c.tc : Thread Cert.QbIdeal.nD Cert.QbIdeal.τ).loc Cert.QbIdeal.main_arg0) = m ((c.tc : Thread Cert.QbIdeal.nD Cert.QbIdeal.τ).loc Cert.QbIdeal.main_arg0)
      ∧ r.2.mem ((c.tc : Thread Cert.QbIdeal.nD Cert.QbIdeal.τ).loc Cert.QbIdeal.main_arg1) = m ((c.tc : Thread Cert.QbIdeal.nD Cert.QbIdeal.τ).loc Cert.QbIdeal.main_arg1))
      ∧ r.2.sem = fun _ => 0)

def quiescent_QbReferenceIdeal [hQbReferenceIdeal : Cert.QbReferenceIdeal.Facts] : Prop :=
  ∀ (m : (ℓ : Loc Cert.QbReferenceIdeal.nD Cert.QbReferenceIdeal.τ Cert.QbReferenceIdeal.sig) → Buf (Elt Ideal) ℓ) (g : Dev Cert.QbReferenceIdeal.nD → PrngReg), Pre_QbReferenceIdeal m →
    θ_run (Cert.QbReferenceIdeal.defs (F := Ideal)) (onTc (τ := Cert.QbReferenceIdeal.τ) (Cert.QbReferenceIdeal.main (F := Ideal))) ⟨m, fun _ => 0, g⟩ (fun r => (∀ c : Dev Cert.QbReferenceIdeal.nD,
      r.2.mem ((c.tc : Thread Cert.QbReferenceIdeal.nD Cert.QbReferenceIdeal.τ).loc Cert.QbReferenceIdeal.main_arg0) = m ((c.tc : Thread Cert.QbReferenceIdeal.nD Cert.QbReferenceIdeal.τ).loc Cert.QbReferenceIdeal.main_arg0)
      ∧ r.2.mem ((c.tc : Thread Cert.QbReferenceIdeal.nD Cert.QbReferenceIdeal.τ).loc Cert.QbReferenceIdeal.main_arg1) = m ((c.tc : Thread Cert.QbReferenceIdeal.nD Cert.QbReferenceIdeal.τ).loc Cert.QbReferenceIdeal.main_arg1))
      ∧ r.2.sem = fun _ => 0)

def quiescent_Kvb [hKvb : Cert.Kvb.Facts] : Prop :=
  ∀ (m : (ℓ : Loc Cert.Kvb.nD Cert.Kvb.τ Cert.Kvb.sig) → Buf (Elt Bits) ℓ) (g : Dev Cert.Kvb.nD → PrngReg), Pre_Kvb m →
    θ_run (Cert.Kvb.defs (F := Bits)) (onTc (τ := Cert.Kvb.τ) (Cert.Kvb.main (F := Bits))) ⟨m, fun _ => 0, g⟩ (fun r => (∀ c : Dev Cert.Kvb.nD,
      r.2.mem ((c.tc : Thread Cert.Kvb.nD Cert.Kvb.τ).loc Cert.Kvb.main_arg0) = m ((c.tc : Thread Cert.Kvb.nD Cert.Kvb.τ).loc Cert.Kvb.main_arg0)
      ∧ r.2.mem ((c.tc : Thread Cert.Kvb.nD Cert.Kvb.τ).loc Cert.Kvb.main_arg1) = m ((c.tc : Thread Cert.Kvb.nD Cert.Kvb.τ).loc Cert.Kvb.main_arg1))
      ∧ r.2.sem = fun _ => 0)

def quiescent_KvbIdeal [hKvbIdeal : Cert.KvbIdeal.Facts] : Prop :=
  ∀ (m : (ℓ : Loc Cert.KvbIdeal.nD Cert.KvbIdeal.τ Cert.KvbIdeal.sig) → Buf (Elt Ideal) ℓ) (g : Dev Cert.KvbIdeal.nD → PrngReg), Pre_KvbIdeal m →
    θ_run (Cert.KvbIdeal.defs (F := Ideal)) (onTc (τ := Cert.KvbIdeal.τ) (Cert.KvbIdeal.main (F := Ideal))) ⟨m, fun _ => 0, g⟩ (fun r => (∀ c : Dev Cert.KvbIdeal.nD,
      r.2.mem ((c.tc : Thread Cert.KvbIdeal.nD Cert.KvbIdeal.τ).loc Cert.KvbIdeal.main_arg0) = m ((c.tc : Thread Cert.KvbIdeal.nD Cert.KvbIdeal.τ).loc Cert.KvbIdeal.main_arg0)
      ∧ r.2.mem ((c.tc : Thread Cert.KvbIdeal.nD Cert.KvbIdeal.τ).loc Cert.KvbIdeal.main_arg1) = m ((c.tc : Thread Cert.KvbIdeal.nD Cert.KvbIdeal.τ).loc Cert.KvbIdeal.main_arg1))
      ∧ r.2.sem = fun _ => 0)

def quiescent_KvbReferenceIdeal [hKvbReferenceIdeal : Cert.KvbReferenceIdeal.Facts] : Prop :=
  ∀ (m : (ℓ : Loc Cert.KvbReferenceIdeal.nD Cert.KvbReferenceIdeal.τ Cert.KvbReferenceIdeal.sig) → Buf (Elt Ideal) ℓ) (g : Dev Cert.KvbReferenceIdeal.nD → PrngReg), Pre_KvbReferenceIdeal m →
    θ_run (Cert.KvbReferenceIdeal.defs (F := Ideal)) (onTc (τ := Cert.KvbReferenceIdeal.τ) (Cert.KvbReferenceIdeal.main (F := Ideal))) ⟨m, fun _ => 0, g⟩ (fun r => (∀ c : Dev Cert.KvbReferenceIdeal.nD,
      r.2.mem ((c.tc : Thread Cert.KvbReferenceIdeal.nD Cert.KvbReferenceIdeal.τ).loc Cert.KvbReferenceIdeal.main_arg0) = m ((c.tc : Thread Cert.KvbReferenceIdeal.nD Cert.KvbReferenceIdeal.τ).loc Cert.KvbReferenceIdeal.main_arg0)
      ∧ r.2.mem ((c.tc : Thread Cert.KvbReferenceIdeal.nD Cert.KvbReferenceIdeal.τ).loc Cert.KvbReferenceIdeal.main_arg1) = m ((c.tc : Thread Cert.KvbReferenceIdeal.nD Cert.KvbReferenceIdeal.τ).loc Cert.KvbReferenceIdeal.main_arg1))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormReferenceIdeal [hFinalNormReferenceIdeal : Cert.FinalNormReferenceIdeal.Facts] : Prop :=
  ∀ (m : (ℓ : Loc Cert.FinalNormReferenceIdeal.nD Cert.FinalNormReferenceIdeal.τ Cert.FinalNormReferenceIdeal.sig) → Buf (Elt Ideal) ℓ) (g : Dev Cert.FinalNormReferenceIdeal.nD → PrngReg), Pre_FinalNormReferenceIdeal m →
    θ_run (Cert.FinalNormReferenceIdeal.defs (F := Ideal)) (onTc (τ := Cert.FinalNormReferenceIdeal.τ) (Cert.FinalNormReferenceIdeal.main (F := Ideal))) ⟨m, fun _ => 0, g⟩ (fun r => (∀ c : Dev Cert.FinalNormReferenceIdeal.nD,
      r.2.mem ((c.tc : Thread Cert.FinalNormReferenceIdeal.nD Cert.FinalNormReferenceIdeal.τ).loc Cert.FinalNormReferenceIdeal.main_arg0) = m ((c.tc : Thread Cert.FinalNormReferenceIdeal.nD Cert.FinalNormReferenceIdeal.τ).loc Cert.FinalNormReferenceIdeal.main_arg0)
      ∧ r.2.mem ((c.tc : Thread Cert.FinalNormReferenceIdeal.nD Cert.FinalNormReferenceIdeal.τ).loc Cert.FinalNormReferenceIdeal.main_arg1) = m ((c.tc : Thread Cert.FinalNormReferenceIdeal.nD Cert.FinalNormReferenceIdeal.τ).loc Cert.FinalNormReferenceIdeal.main_arg1))
      ∧ r.2.sem = fun _ => 0)

def quiescent_NormMod [hNormMod : Cert.NormMod.Facts] : Prop :=
  ∀ (m : (ℓ : Loc Cert.NormMod.nD Cert.NormMod.τ Cert.NormMod.sig) → Buf (Elt Bits) ℓ) (g : Dev Cert.NormMod.nD → PrngReg), Pre_NormMod m →
    θ_run (Cert.NormMod.defs (F := Bits)) (onTc (τ := Cert.NormMod.τ) (Cert.NormMod.main (F := Bits))) ⟨m, fun _ => 0, g⟩ (fun r => (∀ c : Dev Cert.NormMod.nD,
      r.2.mem ((c.tc : Thread Cert.NormMod.nD Cert.NormMod.τ).loc Cert.NormMod.main_arg0) = m ((c.tc : Thread Cert.NormMod.nD Cert.NormMod.τ).loc Cert.NormMod.main_arg0)
      ∧ r.2.mem ((c.tc : Thread Cert.NormMod.nD Cert.NormMod.τ).loc Cert.NormMod.main_arg1) = m ((c.tc : Thread Cert.NormMod.nD Cert.NormMod.τ).loc Cert.NormMod.main_arg1)
      ∧ r.2.mem ((c.tc : Thread Cert.NormMod.nD Cert.NormMod.τ).loc Cert.NormMod.main_arg2) = m ((c.tc : Thread Cert.NormMod.nD Cert.NormMod.τ).loc Cert.NormMod.main_arg2)
      ∧ r.2.mem ((c.tc : Thread Cert.NormMod.nD Cert.NormMod.τ).loc Cert.NormMod.main_arg3) = m ((c.tc : Thread Cert.NormMod.nD Cert.NormMod.τ).loc Cert.NormMod.main_arg3))
      ∧ r.2.sem = fun _ => 0)

def quiescent_NormModIdeal [hNormModIdeal : Cert.NormModIdeal.Facts] : Prop :=
  ∀ (m : (ℓ : Loc Cert.NormModIdeal.nD Cert.NormModIdeal.τ Cert.NormModIdeal.sig) → Buf (Elt Ideal) ℓ) (g : Dev Cert.NormModIdeal.nD → PrngReg), Pre_NormModIdeal m →
    θ_run (Cert.NormModIdeal.defs (F := Ideal)) (onTc (τ := Cert.NormModIdeal.τ) (Cert.NormModIdeal.main (F := Ideal))) ⟨m, fun _ => 0, g⟩ (fun r => (∀ c : Dev Cert.NormModIdeal.nD,
      r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
      ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
      ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
      ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ r.2.sem = fun _ => 0)

def quiescent_NormModReferenceIdeal [hNormModReferenceIdeal : Cert.NormModReferenceIdeal.Facts] : Prop :=
  ∀ (m : (ℓ : Loc Cert.NormModReferenceIdeal.nD Cert.NormModReferenceIdeal.τ Cert.NormModReferenceIdeal.sig) → Buf (Elt Ideal) ℓ) (g : Dev Cert.NormModReferenceIdeal.nD → PrngReg), Pre_NormModReferenceIdeal m →
    θ_run (Cert.NormModReferenceIdeal.defs (F := Ideal)) (onTc (τ := Cert.NormModReferenceIdeal.τ) (Cert.NormModReferenceIdeal.main (F := Ideal))) ⟨m, fun _ => 0, g⟩ (fun r => (∀ c : Dev Cert.NormModReferenceIdeal.nD,
      r.2.mem ((c.tc : Thread Cert.NormModReferenceIdeal.nD Cert.NormModReferenceIdeal.τ).loc Cert.NormModReferenceIdeal.main_arg0) = m ((c.tc : Thread Cert.NormModReferenceIdeal.nD Cert.NormModReferenceIdeal.τ).loc Cert.NormModReferenceIdeal.main_arg0)
      ∧ r.2.mem ((c.tc : Thread Cert.NormModReferenceIdeal.nD Cert.NormModReferenceIdeal.τ).loc Cert.NormModReferenceIdeal.main_arg1) = m ((c.tc : Thread Cert.NormModReferenceIdeal.nD Cert.NormModReferenceIdeal.τ).loc Cert.NormModReferenceIdeal.main_arg1)
      ∧ r.2.mem ((c.tc : Thread Cert.NormModReferenceIdeal.nD Cert.NormModReferenceIdeal.τ).loc Cert.NormModReferenceIdeal.main_arg2) = m ((c.tc : Thread Cert.NormModReferenceIdeal.nD Cert.NormModReferenceIdeal.τ).loc Cert.NormModReferenceIdeal.main_arg2)
      ∧ r.2.mem ((c.tc : Thread Cert.NormModReferenceIdeal.nD Cert.NormModReferenceIdeal.τ).loc Cert.NormModReferenceIdeal.main_arg3) = m ((c.tc : Thread Cert.NormModReferenceIdeal.nD Cert.NormModReferenceIdeal.τ).loc Cert.NormModReferenceIdeal.main_arg3))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def quiescent_OddRotary [hOddRotary : Cert.OddRotary.Facts] : Prop :=
  ∀ (m : (ℓ : Loc Cert.OddRotary.nD Cert.OddRotary.τ Cert.OddRotary.sig) → Buf (Elt Bits) ℓ) (g : Dev Cert.OddRotary.nD → PrngReg), Pre_OddRotary m →
    θ_run (Cert.OddRotary.defs (F := Bits)) (onTc (τ := Cert.OddRotary.τ) (Cert.OddRotary.main (F := Bits))) ⟨m, fun _ => 0, g⟩ (fun r => (∀ c : Dev Cert.OddRotary.nD,
      r.2.mem ((c.tc : Thread Cert.OddRotary.nD Cert.OddRotary.τ).loc Cert.OddRotary.main_arg0) = m ((c.tc : Thread Cert.OddRotary.nD Cert.OddRotary.τ).loc Cert.OddRotary.main_arg0)
      ∧ r.2.mem ((c.tc : Thread Cert.OddRotary.nD Cert.OddRotary.τ).loc Cert.OddRotary.main_arg1) = m ((c.tc : Thread Cert.OddRotary.nD Cert.OddRotary.τ).loc Cert.OddRotary.main_arg1))
      ∧ r.2.sem = fun _ => 0)

def quiescent_OddRotaryIdeal [hOddRotaryIdeal : Cert.OddRotaryIdeal.Facts] : Prop :=
  ∀ (m : (ℓ : Loc Cert.OddRotaryIdeal.nD Cert.OddRotaryIdeal.τ Cert.OddRotaryIdeal.sig) → Buf (Elt Ideal) ℓ) (g : Dev Cert.OddRotaryIdeal.nD → PrngReg), Pre_OddRotaryIdeal m →
    θ_run (Cert.OddRotaryIdeal.defs (F := Ideal)) (onTc (τ := Cert.OddRotaryIdeal.τ) (Cert.OddRotaryIdeal.main (F := Ideal))) ⟨m, fun _ => 0, g⟩ (fun r => (∀ c : Dev Cert.OddRotaryIdeal.nD,
      r.2.mem ((c.tc : Thread Cert.OddRotaryIdeal.nD Cert.OddRotaryIdeal.τ).loc Cert.OddRotaryIdeal.main_arg0) = m ((c.tc : Thread Cert.OddRotaryIdeal.nD Cert.OddRotaryIdeal.τ).loc Cert.OddRotaryIdeal.main_arg0)
      ∧ r.2.mem ((c.tc : Thread Cert.OddRotaryIdeal.nD Cert.OddRotaryIdeal.τ).loc Cert.OddRotaryIdeal.main_arg1) = m ((c.tc : Thread Cert.OddRotaryIdeal.nD Cert.OddRotaryIdeal.τ).loc Cert.OddRotaryIdeal.main_arg1))
      ∧ r.2.sem = fun _ => 0)

def quiescent_OddRotaryReferenceIdeal [hOddRotaryReferenceIdeal : Cert.OddRotaryReferenceIdeal.Facts] : Prop :=
  ∀ (m : (ℓ : Loc Cert.OddRotaryReferenceIdeal.nD Cert.OddRotaryReferenceIdeal.τ Cert.OddRotaryReferenceIdeal.sig) → Buf (Elt Ideal) ℓ) (g : Dev Cert.OddRotaryReferenceIdeal.nD → PrngReg), Pre_OddRotaryReferenceIdeal m →
    θ_run (Cert.OddRotaryReferenceIdeal.defs (F := Ideal)) (onTc (τ := Cert.OddRotaryReferenceIdeal.τ) (Cert.OddRotaryReferenceIdeal.main (F := Ideal))) ⟨m, fun _ => 0, g⟩ (fun r => (∀ c : Dev Cert.OddRotaryReferenceIdeal.nD,
      r.2.mem ((c.tc : Thread Cert.OddRotaryReferenceIdeal.nD Cert.OddRotaryReferenceIdeal.τ).loc Cert.OddRotaryReferenceIdeal.main_arg0) = m ((c.tc : Thread Cert.OddRotaryReferenceIdeal.nD Cert.OddRotaryReferenceIdeal.τ).loc Cert.OddRotaryReferenceIdeal.main_arg0)
      ∧ r.2.mem ((c.tc : Thread Cert.OddRotaryReferenceIdeal.nD Cert.OddRotaryReferenceIdeal.τ).loc Cert.OddRotaryReferenceIdeal.main_arg1) = m ((c.tc : Thread Cert.OddRotaryReferenceIdeal.nD Cert.OddRotaryReferenceIdeal.τ).loc Cert.OddRotaryReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)
      ∧ m' ((c.tc : Thread Cert.EvenInReferenceIdeal.nD Cert.EvenInReferenceIdeal.τ).loc Cert.EvenInReferenceIdeal.main_arg2) = m ((c.tc : Thread Cert.EvenInIdeal.nD Cert.EvenInIdeal.τ).loc Cert.EvenInIdeal.main_arg2)
      ∧ m' ((c.tc : Thread Cert.EvenInReferenceIdeal.nD Cert.EvenInReferenceIdeal.τ).loc Cert.EvenInReferenceIdeal.main_arg3) = m ((c.tc : Thread Cert.EvenInIdeal.nD Cert.EvenInIdeal.τ).loc Cert.EvenInIdeal.main_arg3)
      ∧ m' ((c.tc : Thread Cert.EvenInReferenceIdeal.nD Cert.EvenInReferenceIdeal.τ).loc Cert.EvenInReferenceIdeal.main_arg4) = m ((c.tc : Thread Cert.EvenInIdeal.nD Cert.EvenInIdeal.τ).loc Cert.EvenInIdeal.main_arg4)) →
    ∃ (v0 : (c : Dev Cert.EvenInIdeal.nD) → Buf (Elt Ideal) ((c.tc : Thread Cert.EvenInIdeal.nD Cert.EvenInIdeal.τ).loc Cert.EvenInIdeal.main_v1)) (v1 : (c : Dev Cert.EvenInIdeal.nD) → Buf (Elt Ideal) ((c.tc : Thread Cert.EvenInIdeal.nD Cert.EvenInIdeal.τ).loc Cert.EvenInIdeal.main_v24)) (v2 : (c : Dev Cert.EvenInIdeal.nD) → Buf (Elt Ideal) ((c.tc : Thread Cert.EvenInIdeal.nD Cert.EvenInIdeal.τ).loc Cert.EvenInIdeal.main_v25)) (v3 : (c : Dev Cert.EvenInIdeal.nD) → Buf (Elt Ideal) ((c.tc : Thread Cert.EvenInIdeal.nD Cert.EvenInIdeal.τ).loc Cert.EvenInIdeal.main_v27)) (v4 : (c : Dev Cert.EvenInIdeal.nD) → Buf (Elt Ideal) ((c.tc : Thread Cert.EvenInIdeal.nD Cert.EvenInIdeal.τ).loc Cert.EvenInIdeal.main_v28)) (v5 : (c : Dev Cert.EvenInIdeal.nD) → Buf (Elt Ideal) ((c.tc : Thread Cert.EvenInIdeal.nD Cert.EvenInIdeal.τ).loc Cert.EvenInIdeal.main_v29)) (v6 : (c : Dev Cert.EvenInIdeal.nD) → Buf (Elt Ideal) ((c.tc : Thread Cert.EvenInIdeal.nD Cert.EvenInIdeal.τ).loc Cert.EvenInIdeal.main_v30)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v1) = v0 c
          ∧ r.2.mem ((c.tc : Thread Cert.EvenInIdeal.nD Cert.EvenInIdeal.τ).loc Cert.EvenInIdeal.main_v24) = v1 c
          ∧ r.2.mem ((c.tc : Thread Cert.EvenInIdeal.nD Cert.EvenInIdeal.τ).loc Cert.EvenInIdeal.main_v25) = v2 c
          ∧ r.2.mem ((c.tc : Thread Cert.EvenInIdeal.nD Cert.EvenInIdeal.τ).loc Cert.EvenInIdeal.main_v27) = v3 c
          ∧ r.2.mem ((c.tc : Thread Cert.EvenInIdeal.nD Cert.EvenInIdeal.τ).loc Cert.EvenInIdeal.main_v28) = v4 c
          ∧ r.2.mem ((c.tc : Thread Cert.EvenInIdeal.nD Cert.EvenInIdeal.τ).loc Cert.EvenInIdeal.main_v29) = v5 c
          ∧ r.2.mem ((c.tc : Thread Cert.EvenInIdeal.nD Cert.EvenInIdeal.τ).loc Cert.EvenInIdeal.main_v30) = v6 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v1) = v0 c
          ∧ r.2.mem ((c.tc : Thread Cert.EvenInReferenceIdeal.nD Cert.EvenInReferenceIdeal.τ).loc Cert.EvenInReferenceIdeal.main_v21) = v1 c
          ∧ r.2.mem ((c.tc : Thread Cert.EvenInReferenceIdeal.nD Cert.EvenInReferenceIdeal.τ).loc Cert.EvenInReferenceIdeal.main_v22) = v2 c
          ∧ r.2.mem ((c.tc : Thread Cert.EvenInReferenceIdeal.nD Cert.EvenInReferenceIdeal.τ).loc Cert.EvenInReferenceIdeal.main_v23) = v3 c
          ∧ r.2.mem ((c.tc : Thread Cert.EvenInReferenceIdeal.nD Cert.EvenInReferenceIdeal.τ).loc Cert.EvenInReferenceIdeal.main_v24) = v4 c
          ∧ r.2.mem ((c.tc : Thread Cert.EvenInReferenceIdeal.nD Cert.EvenInReferenceIdeal.τ).loc Cert.EvenInReferenceIdeal.main_v25) = v5 c
          ∧ r.2.mem ((c.tc : Thread Cert.EvenInReferenceIdeal.nD Cert.EvenInReferenceIdeal.τ).loc Cert.EvenInReferenceIdeal.main_v26) = v6 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1)
          ∧ r.2.mem ((c.tc : Thread Cert.EvenInReferenceIdeal.nD Cert.EvenInReferenceIdeal.τ).loc Cert.EvenInReferenceIdeal.main_arg2) = m' ((c.tc : Thread Cert.EvenInReferenceIdeal.nD Cert.EvenInReferenceIdeal.τ).loc Cert.EvenInReferenceIdeal.main_arg2)
          ∧ r.2.mem ((c.tc : Thread Cert.EvenInReferenceIdeal.nD Cert.EvenInReferenceIdeal.τ).loc Cert.EvenInReferenceIdeal.main_arg3) = m' ((c.tc : Thread Cert.EvenInReferenceIdeal.nD Cert.EvenInReferenceIdeal.τ).loc Cert.EvenInReferenceIdeal.main_arg3)
          ∧ r.2.mem ((c.tc : Thread Cert.EvenInReferenceIdeal.nD Cert.EvenInReferenceIdeal.τ).loc Cert.EvenInReferenceIdeal.main_arg4) = m' ((c.tc : Thread Cert.EvenInReferenceIdeal.nD Cert.EvenInReferenceIdeal.τ).loc Cert.EvenInReferenceIdeal.main_arg4))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)
      ∧ m' ((c.tc : Thread Cert.OddInReferenceIdeal.nD Cert.OddInReferenceIdeal.τ).loc Cert.OddInReferenceIdeal.main_arg2) = m ((c.tc : Thread Cert.OddInIdeal.nD Cert.OddInIdeal.τ).loc Cert.OddInIdeal.main_arg2)) →
    ∃ (v0 : (c : Dev Cert.OddInIdeal.nD) → Buf (Elt Ideal) ((c.tc : Thread Cert.OddInIdeal.nD Cert.OddInIdeal.τ).loc Cert.OddInIdeal.main_v12)) (v1 : (c : Dev Cert.OddInIdeal.nD) → Buf (Elt Ideal) ((c.tc : Thread Cert.OddInIdeal.nD Cert.OddInIdeal.τ).loc Cert.OddInIdeal.main_v43)) (v2 : (c : Dev Cert.OddInIdeal.nD) → Buf (Elt Ideal) ((c.tc : Thread Cert.OddInIdeal.nD Cert.OddInIdeal.τ).loc Cert.OddInIdeal.main_v76)) (v3 : (c : Dev Cert.OddInIdeal.nD) → Buf (Elt Ideal) ((c.tc : Thread Cert.OddInIdeal.nD Cert.OddInIdeal.τ).loc Cert.OddInIdeal.main_v44)) (v4 : (c : Dev Cert.OddInIdeal.nD) → Buf (Elt Ideal) ((c.tc : Thread Cert.OddInIdeal.nD Cert.OddInIdeal.τ).loc Cert.OddInIdeal.main_v77)) (v5 : (c : Dev Cert.OddInIdeal.nD) → Buf (Elt Ideal) ((c.tc : Thread Cert.OddInIdeal.nD Cert.OddInIdeal.τ).loc Cert.OddInIdeal.main_v45)) (v6 : (c : Dev Cert.OddInIdeal.nD) → Buf (Elt Ideal) ((c.tc : Thread Cert.OddInIdeal.nD Cert.OddInIdeal.τ).loc Cert.OddInIdeal.main_v78)) (v7 : (c : Dev Cert.OddInIdeal.nD) → Buf (Elt Ideal) ((c.tc : Thread Cert.OddInIdeal.nD Cert.OddInIdeal.τ).loc Cert.OddInIdeal.main_v28)) (v8 : (c : Dev Cert.OddInIdeal.nD) → Buf (Elt Ideal) ((c.tc : Thread Cert.OddInIdeal.nD Cert.OddInIdeal.τ).loc Cert.OddInIdeal.main_v61)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v12) = v0 c
          ∧ r.2.mem ((c.tc : Thread Cert.OddInIdeal.nD Cert.OddInIdeal.τ).loc Cert.OddInIdeal.main_v43) = v1 c
          ∧ r.2.mem ((c.tc : Thread Cert.OddInIdeal.nD Cert.OddInIdeal.τ).loc Cert.OddInIdeal.main_v76) = v2 c
          ∧ r.2.mem ((c.tc : Thread Cert.OddInIdeal.nD Cert.OddInIdeal.τ).loc Cert.OddInIdeal.main_v44) = v3 c
          ∧ r.2.mem ((c.tc : Thread Cert.OddInIdeal.nD Cert.OddInIdeal.τ).loc Cert.OddInIdeal.main_v77) = v4 c
          ∧ r.2.mem ((c.tc : Thread Cert.OddInIdeal.nD Cert.OddInIdeal.τ).loc Cert.OddInIdeal.main_v45) = v5 c
          ∧ r.2.mem ((c.tc : Thread Cert.OddInIdeal.nD Cert.OddInIdeal.τ).loc Cert.OddInIdeal.main_v78) = v6 c
          ∧ r.2.mem ((c.tc : Thread Cert.OddInIdeal.nD Cert.OddInIdeal.τ).loc Cert.OddInIdeal.main_v28) = v7 c
          ∧ r.2.mem ((c.tc : Thread Cert.OddInIdeal.nD Cert.OddInIdeal.τ).loc Cert.OddInIdeal.main_v61) = v8 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v13) = v0 c
          ∧ r.2.mem ((c.tc : Thread Cert.OddInReferenceIdeal.nD Cert.OddInReferenceIdeal.τ).loc Cert.OddInReferenceIdeal.main_v37) = v1 c
          ∧ r.2.mem ((c.tc : Thread Cert.OddInReferenceIdeal.nD Cert.OddInReferenceIdeal.τ).loc Cert.OddInReferenceIdeal.main_v63) = v2 c
          ∧ r.2.mem ((c.tc : Thread Cert.OddInReferenceIdeal.nD Cert.OddInReferenceIdeal.τ).loc Cert.OddInReferenceIdeal.main_v38) = v3 c
          ∧ r.2.mem ((c.tc : Thread Cert.OddInReferenceIdeal.nD Cert.OddInReferenceIdeal.τ).loc Cert.OddInReferenceIdeal.main_v64) = v4 c
          ∧ r.2.mem ((c.tc : Thread Cert.OddInReferenceIdeal.nD Cert.OddInReferenceIdeal.τ).loc Cert.OddInReferenceIdeal.main_v39) = v5 c
          ∧ r.2.mem ((c.tc : Thread Cert.OddInReferenceIdeal.nD Cert.OddInReferenceIdeal.τ).loc Cert.OddInReferenceIdeal.main_v65) = v6 c
          ∧ r.2.mem ((c.tc : Thread Cert.OddInReferenceIdeal.nD Cert.OddInReferenceIdeal.τ).loc Cert.OddInReferenceIdeal.main_v23) = v7 c
          ∧ r.2.mem ((c.tc : Thread Cert.OddInReferenceIdeal.nD Cert.OddInReferenceIdeal.τ).loc Cert.OddInReferenceIdeal.main_v49) = v8 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1)
          ∧ r.2.mem ((c.tc : Thread Cert.OddInReferenceIdeal.nD Cert.OddInReferenceIdeal.τ).loc Cert.OddInReferenceIdeal.main_arg2) = m' ((c.tc : Thread Cert.OddInReferenceIdeal.nD Cert.OddInReferenceIdeal.τ).loc Cert.OddInReferenceIdeal.main_arg2))

def preserves_MixOut_MixOutIdeal : Prop :=
  True

def algebraic_MixOutIdeal_MixOutReferenceIdeal [hMixOutIdeal : Cert.MixOutIdeal.Facts] [hMixOutReferenceIdeal : Cert.MixOutReferenceIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutReferenceIdeal.nD Cert.MixOutReferenceIdeal.τ Cert.MixOutReferenceIdeal.sig) → Buf (Elt Ideal) ℓ) (g' : Dev Cert.MixOutReferenceIdeal.nD → PrngReg), Pre_MixOutIdeal m →
    (∀ c : Dev Cert.MixOutIdeal.nD,
      m' ((c.tc : Thread Cert.MixOutReferenceIdeal.nD Cert.MixOutReferenceIdeal.τ).loc Cert.MixOutReferenceIdeal.main_arg0) = m ((c.tc : Thread Cert.MixOutIdeal.nD Cert.MixOutIdeal.τ).loc Cert.MixOutIdeal.main_arg0)
      ∧ m' ((c.tc : Thread Cert.MixOutReferenceIdeal.nD Cert.MixOutReferenceIdeal.τ).loc Cert.MixOutReferenceIdeal.main_arg1) = m ((c.tc : Thread Cert.MixOutIdeal.nD Cert.MixOutIdeal.τ).loc Cert.MixOutIdeal.main_arg1)
      ∧ m' ((c.tc : Thread Cert.MixOutReferenceIdeal.nD Cert.MixOutReferenceIdeal.τ).loc Cert.MixOutReferenceIdeal.main_arg2) = m ((c.tc : Thread Cert.MixOutIdeal.nD Cert.MixOutIdeal.τ).loc Cert.MixOutIdeal.main_arg2)
      ∧ m' ((c.tc : Thread Cert.MixOutReferenceIdeal.nD Cert.MixOutReferenceIdeal.τ).loc Cert.MixOutReferenceIdeal.main_arg3) = m ((c.tc : Thread Cert.MixOutIdeal.nD Cert.MixOutIdeal.τ).loc Cert.MixOutIdeal.main_arg3)) →
    ∃ (v0 : (c : Dev Cert.MixOutIdeal.nD) → Buf (Elt Ideal) ((c.tc : Thread Cert.MixOutIdeal.nD Cert.MixOutIdeal.τ).loc Cert.MixOutIdeal.main_v8)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v8) = v0 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3))
      ∧ θ_run (Cert.MixOutReferenceIdeal.defs (F := Ideal)) (onTc (τ := Cert.MixOutReferenceIdeal.τ) (Cert.MixOutReferenceIdeal.main (F := Ideal))) ⟨m', fun _ => 0, g'⟩ (fun r => ∀ c : Dev Cert.MixOutReferenceIdeal.nD,
          r.2.mem ((c.tc : Thread Cert.MixOutReferenceIdeal.nD Cert.MixOutReferenceIdeal.τ).loc Cert.MixOutReferenceIdeal.main_v22) = v0 c
          ∧ r.2.mem ((c.tc : Thread Cert.MixOutReferenceIdeal.nD Cert.MixOutReferenceIdeal.τ).loc Cert.MixOutReferenceIdeal.main_arg0) = m' ((c.tc : Thread Cert.MixOutReferenceIdeal.nD Cert.MixOutReferenceIdeal.τ).loc Cert.MixOutReferenceIdeal.main_arg0)
          ∧ r.2.mem ((c.tc : Thread Cert.MixOutReferenceIdeal.nD Cert.MixOutReferenceIdeal.τ).loc Cert.MixOutReferenceIdeal.main_arg1) = m' ((c.tc : Thread Cert.MixOutReferenceIdeal.nD Cert.MixOutReferenceIdeal.τ).loc Cert.MixOutReferenceIdeal.main_arg1)
          ∧ r.2.mem ((c.tc : Thread Cert.MixOutReferenceIdeal.nD Cert.MixOutReferenceIdeal.τ).loc Cert.MixOutReferenceIdeal.main_arg2) = m' ((c.tc : Thread Cert.MixOutReferenceIdeal.nD Cert.MixOutReferenceIdeal.τ).loc Cert.MixOutReferenceIdeal.main_arg2)
          ∧ r.2.mem ((c.tc : Thread Cert.MixOutReferenceIdeal.nD Cert.MixOutReferenceIdeal.τ).loc Cert.MixOutReferenceIdeal.main_arg3) = m' ((c.tc : Thread Cert.MixOutReferenceIdeal.nD Cert.MixOutReferenceIdeal.τ).loc Cert.MixOutReferenceIdeal.main_arg3))

def preserves_Qb_QbIdeal : Prop :=
  True

def algebraic_QbIdeal_QbReferenceIdeal [hQbIdeal : Cert.QbIdeal.Facts] [hQbReferenceIdeal : Cert.QbReferenceIdeal.Facts] : Prop :=
  ∀ (m : (ℓ : Loc Cert.QbIdeal.nD Cert.QbIdeal.τ Cert.QbIdeal.sig) → Buf (Elt Ideal) ℓ) (g : Dev Cert.QbIdeal.nD → PrngReg)
    (m' : (ℓ : Loc Cert.QbReferenceIdeal.nD Cert.QbReferenceIdeal.τ Cert.QbReferenceIdeal.sig) → Buf (Elt Ideal) ℓ) (g' : Dev Cert.QbReferenceIdeal.nD → PrngReg), Pre_QbIdeal m →
    (∀ c : Dev Cert.QbIdeal.nD,
      m' ((c.tc : Thread Cert.QbReferenceIdeal.nD Cert.QbReferenceIdeal.τ).loc Cert.QbReferenceIdeal.main_arg0) = m ((c.tc : Thread Cert.QbIdeal.nD Cert.QbIdeal.τ).loc Cert.QbIdeal.main_arg0)
      ∧ m' ((c.tc : Thread Cert.QbReferenceIdeal.nD Cert.QbReferenceIdeal.τ).loc Cert.QbReferenceIdeal.main_arg1) = m ((c.tc : Thread Cert.QbIdeal.nD Cert.QbIdeal.τ).loc Cert.QbIdeal.main_arg1)) →
    ∃ (v0 : (c : Dev Cert.QbIdeal.nD) → Buf (Elt Ideal) ((c.tc : Thread Cert.QbIdeal.nD Cert.QbIdeal.τ).loc Cert.QbIdeal.main_v1)),
      θ_run (Cert.QbIdeal.defs (F := Ideal)) (onTc (τ := Cert.QbIdeal.τ) (Cert.QbIdeal.main (F := Ideal))) ⟨m, fun _ => 0, g⟩ (fun r => ∀ c : Dev Cert.QbIdeal.nD,
          r.2.mem ((c.tc : Thread Cert.QbIdeal.nD Cert.QbIdeal.τ).loc Cert.QbIdeal.main_v1) = v0 c
          ∧ r.2.mem ((c.tc : Thread Cert.QbIdeal.nD Cert.QbIdeal.τ).loc Cert.QbIdeal.main_arg0) = m ((c.tc : Thread Cert.QbIdeal.nD Cert.QbIdeal.τ).loc Cert.QbIdeal.main_arg0)
          ∧ r.2.mem ((c.tc : Thread Cert.QbIdeal.nD Cert.QbIdeal.τ).loc Cert.QbIdeal.main_arg1) = m ((c.tc : Thread Cert.QbIdeal.nD Cert.QbIdeal.τ).loc Cert.QbIdeal.main_arg1))
      ∧ θ_run (Cert.QbReferenceIdeal.defs (F := Ideal)) (onTc (τ := Cert.QbReferenceIdeal.τ) (Cert.QbReferenceIdeal.main (F := Ideal))) ⟨m', fun _ => 0, g'⟩ (fun r => ∀ c : Dev Cert.QbReferenceIdeal.nD,
          r.2.mem ((c.tc : Thread Cert.QbReferenceIdeal.nD Cert.QbReferenceIdeal.τ).loc Cert.QbReferenceIdeal.main_v0) = v0 c
          ∧ r.2.mem ((c.tc : Thread Cert.QbReferenceIdeal.nD Cert.QbReferenceIdeal.τ).loc Cert.QbReferenceIdeal.main_arg0) = m' ((c.tc : Thread Cert.QbReferenceIdeal.nD Cert.QbReferenceIdeal.τ).loc Cert.QbReferenceIdeal.main_arg0)
          ∧ r.2.mem ((c.tc : Thread Cert.QbReferenceIdeal.nD Cert.QbReferenceIdeal.τ).loc Cert.QbReferenceIdeal.main_arg1) = m' ((c.tc : Thread Cert.QbReferenceIdeal.nD Cert.QbReferenceIdeal.τ).loc Cert.QbReferenceIdeal.main_arg1))

def preserves_Kvb_KvbIdeal : Prop :=
  True

def algebraic_KvbIdeal_KvbReferenceIdeal [hKvbIdeal : Cert.KvbIdeal.Facts] [hKvbReferenceIdeal : Cert.KvbReferenceIdeal.Facts] : Prop :=
  ∀ (m : (ℓ : Loc Cert.KvbIdeal.nD Cert.KvbIdeal.τ Cert.KvbIdeal.sig) → Buf (Elt Ideal) ℓ) (g : Dev Cert.KvbIdeal.nD → PrngReg)
    (m' : (ℓ : Loc Cert.KvbReferenceIdeal.nD Cert.KvbReferenceIdeal.τ Cert.KvbReferenceIdeal.sig) → Buf (Elt Ideal) ℓ) (g' : Dev Cert.KvbReferenceIdeal.nD → PrngReg), Pre_KvbIdeal m →
    (∀ c : Dev Cert.KvbIdeal.nD,
      m' ((c.tc : Thread Cert.KvbReferenceIdeal.nD Cert.KvbReferenceIdeal.τ).loc Cert.KvbReferenceIdeal.main_arg0) = m ((c.tc : Thread Cert.KvbIdeal.nD Cert.KvbIdeal.τ).loc Cert.KvbIdeal.main_arg0)
      ∧ m' ((c.tc : Thread Cert.KvbReferenceIdeal.nD Cert.KvbReferenceIdeal.τ).loc Cert.KvbReferenceIdeal.main_arg1) = m ((c.tc : Thread Cert.KvbIdeal.nD Cert.KvbIdeal.τ).loc Cert.KvbIdeal.main_arg1)) →
    ∃ (v0 : (c : Dev Cert.KvbIdeal.nD) → Buf (Elt Ideal) ((c.tc : Thread Cert.KvbIdeal.nD Cert.KvbIdeal.τ).loc Cert.KvbIdeal.main_v1)),
      θ_run (Cert.KvbIdeal.defs (F := Ideal)) (onTc (τ := Cert.KvbIdeal.τ) (Cert.KvbIdeal.main (F := Ideal))) ⟨m, fun _ => 0, g⟩ (fun r => ∀ c : Dev Cert.KvbIdeal.nD,
          r.2.mem ((c.tc : Thread Cert.KvbIdeal.nD Cert.KvbIdeal.τ).loc Cert.KvbIdeal.main_v1) = v0 c
          ∧ r.2.mem ((c.tc : Thread Cert.KvbIdeal.nD Cert.KvbIdeal.τ).loc Cert.KvbIdeal.main_arg0) = m ((c.tc : Thread Cert.KvbIdeal.nD Cert.KvbIdeal.τ).loc Cert.KvbIdeal.main_arg0)
          ∧ r.2.mem ((c.tc : Thread Cert.KvbIdeal.nD Cert.KvbIdeal.τ).loc Cert.KvbIdeal.main_arg1) = m ((c.tc : Thread Cert.KvbIdeal.nD Cert.KvbIdeal.τ).loc Cert.KvbIdeal.main_arg1))
      ∧ θ_run (Cert.KvbReferenceIdeal.defs (F := Ideal)) (onTc (τ := Cert.KvbReferenceIdeal.τ) (Cert.KvbReferenceIdeal.main (F := Ideal))) ⟨m', fun _ => 0, g'⟩ (fun r => ∀ c : Dev Cert.KvbReferenceIdeal.nD,
          r.2.mem ((c.tc : Thread Cert.KvbReferenceIdeal.nD Cert.KvbReferenceIdeal.τ).loc Cert.KvbReferenceIdeal.main_v0) = v0 c
          ∧ r.2.mem ((c.tc : Thread Cert.KvbReferenceIdeal.nD Cert.KvbReferenceIdeal.τ).loc Cert.KvbReferenceIdeal.main_arg0) = m' ((c.tc : Thread Cert.KvbReferenceIdeal.nD Cert.KvbReferenceIdeal.τ).loc Cert.KvbReferenceIdeal.main_arg0)
          ∧ r.2.mem ((c.tc : Thread Cert.KvbReferenceIdeal.nD Cert.KvbReferenceIdeal.τ).loc Cert.KvbReferenceIdeal.main_arg1) = m' ((c.tc : Thread Cert.KvbReferenceIdeal.nD Cert.KvbReferenceIdeal.τ).loc Cert.KvbReferenceIdeal.main_arg1))

def preserves_FinalNorm_FinalNormIdeal : Prop :=
  True

def algebraic_FinalNormIdeal_FinalNormReferenceIdeal [hFinalNormIdeal : Cert.FinalNormIdeal.Facts] [hFinalNormReferenceIdeal : Cert.FinalNormReferenceIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormReferenceIdeal.nD Cert.FinalNormReferenceIdeal.τ Cert.FinalNormReferenceIdeal.sig) → Buf (Elt Ideal) ℓ) (g' : Dev Cert.FinalNormReferenceIdeal.nD → PrngReg), Pre_FinalNormIdeal m →
    (∀ c : Dev Cert.FinalNormIdeal.nD,
      m' ((c.tc : Thread Cert.FinalNormReferenceIdeal.nD Cert.FinalNormReferenceIdeal.τ).loc Cert.FinalNormReferenceIdeal.main_arg0) = m ((c.tc : Thread Cert.FinalNormIdeal.nD Cert.FinalNormIdeal.τ).loc Cert.FinalNormIdeal.main_arg0)
      ∧ m' ((c.tc : Thread Cert.FinalNormReferenceIdeal.nD Cert.FinalNormReferenceIdeal.τ).loc Cert.FinalNormReferenceIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormReferenceIdeal.defs (F := Ideal)) (onTc (τ := Cert.FinalNormReferenceIdeal.τ) (Cert.FinalNormReferenceIdeal.main (F := Ideal))) ⟨m', fun _ => 0, g'⟩ (fun r => ∀ c : Dev Cert.FinalNormReferenceIdeal.nD,
          r.2.mem ((c.tc : Thread Cert.FinalNormReferenceIdeal.nD Cert.FinalNormReferenceIdeal.τ).loc Cert.FinalNormReferenceIdeal.main_v12) = v0 c
          ∧ r.2.mem ((c.tc : Thread Cert.FinalNormReferenceIdeal.nD Cert.FinalNormReferenceIdeal.τ).loc Cert.FinalNormReferenceIdeal.main_arg0) = m' ((c.tc : Thread Cert.FinalNormReferenceIdeal.nD Cert.FinalNormReferenceIdeal.τ).loc Cert.FinalNormReferenceIdeal.main_arg0)
          ∧ r.2.mem ((c.tc : Thread Cert.FinalNormReferenceIdeal.nD Cert.FinalNormReferenceIdeal.τ).loc Cert.FinalNormReferenceIdeal.main_arg1) = m' ((c.tc : Thread Cert.FinalNormReferenceIdeal.nD Cert.FinalNormReferenceIdeal.τ).loc Cert.FinalNormReferenceIdeal.main_arg1))

def preserves_NormMod_NormModIdeal : Prop :=
  True

def algebraic_NormModIdeal_NormModReferenceIdeal [hNormModIdeal : Cert.NormModIdeal.Facts] [hNormModReferenceIdeal : Cert.NormModReferenceIdeal.Facts] : Prop :=
  ∀ (m : (ℓ : Loc Cert.NormModIdeal.nD Cert.NormModIdeal.τ Cert.NormModIdeal.sig) → Buf (Elt Ideal) ℓ) (g : Dev Cert.NormModIdeal.nD → PrngReg)
    (m' : (ℓ : Loc Cert.NormModReferenceIdeal.nD Cert.NormModReferenceIdeal.τ Cert.NormModReferenceIdeal.sig) → Buf (Elt Ideal) ℓ) (g' : Dev Cert.NormModReferenceIdeal.nD → PrngReg), Pre_NormModIdeal m →
    (∀ c : Dev Cert.NormModIdeal.nD,
      m' ((c.tc : Thread Cert.NormModReferenceIdeal.nD Cert.NormModReferenceIdeal.τ).loc Cert.NormModReferenceIdeal.main_arg0) = m ((c.tc : Thread Cert.NormModIdeal.nD Cert.NormModIdeal.τ).loc Cert.NormModIdeal.main_arg0)
      ∧ m' ((c.tc : Thread Cert.NormModReferenceIdeal.nD Cert.NormModReferenceIdeal.τ).loc Cert.NormModReferenceIdeal.main_arg1) = m ((c.tc : Thread Cert.NormModIdeal.nD Cert.NormModIdeal.τ).loc Cert.NormModIdeal.main_arg1)
      ∧ m' ((c.tc : Thread Cert.NormModReferenceIdeal.nD Cert.NormModReferenceIdeal.τ).loc Cert.NormModReferenceIdeal.main_arg2) = m ((c.tc : Thread Cert.NormModIdeal.nD Cert.NormModIdeal.τ).loc Cert.NormModIdeal.main_arg2)
      ∧ m' ((c.tc : Thread Cert.NormModReferenceIdeal.nD Cert.NormModReferenceIdeal.τ).loc Cert.NormModReferenceIdeal.main_arg3) = m ((c.tc : Thread Cert.NormModIdeal.nD Cert.NormModIdeal.τ).loc Cert.NormModIdeal.main_arg3)) →
    ∃ (v0 : (c : Dev Cert.NormModIdeal.nD) → Buf (Elt Ideal) ((c.tc : Thread Cert.NormModIdeal.nD Cert.NormModIdeal.τ).loc Cert.NormModIdeal.main_v15)),
      θ_run (Cert.NormModIdeal.defs (F := Ideal)) (onTc (τ := Cert.NormModIdeal.τ) (Cert.NormModIdeal.main (F := Ideal))) ⟨m, fun _ => 0, g⟩ (fun r => ∀ c : Dev Cert.NormModIdeal.nD,
          r.2.mem ((c.tc : Thread Cert.NormModIdeal.nD Cert.NormModIdeal.τ).loc Cert.NormModIdeal.main_v15) = v0 c
          ∧ r.2.mem ((c.tc : Thread Cert.NormModIdeal.nD Cert.NormModIdeal.τ).loc Cert.NormModIdeal.main_arg0) = m ((c.tc : Thread Cert.NormModIdeal.nD Cert.NormModIdeal.τ).loc Cert.NormModIdeal.main_arg0)
          ∧ r.2.mem ((c.tc : Thread Cert.NormModIdeal.nD Cert.NormModIdeal.τ).loc Cert.NormModIdeal.main_arg1) = m ((c.tc : Thread Cert.NormModIdeal.nD Cert.NormModIdeal.τ).loc Cert.NormModIdeal.main_arg1)
          ∧ r.2.mem ((c.tc : Thread Cert.NormModIdeal.nD Cert.NormModIdeal.τ).loc Cert.NormModIdeal.main_arg2) = m ((c.tc : Thread Cert.NormModIdeal.nD Cert.NormModIdeal.τ).loc Cert.NormModIdeal.main_arg2)
          ∧ r.2.mem ((c.tc : Thread Cert.NormModIdeal.nD Cert.NormModIdeal.τ).loc Cert.NormModIdeal.main_arg3) = m ((c.tc : Thread Cert.NormModIdeal.nD Cert.NormModIdeal.τ).loc Cert.NormModIdeal.main_arg3))
      ∧ θ_run (Cert.NormModReferenceIdeal.defs (F := Ideal)) (onTc (τ := Cert.NormModReferenceIdeal.τ) (Cert.NormModReferenceIdeal.main (F := Ideal))) ⟨m', fun _ => 0, g'⟩ (fun r => ∀ c : Dev Cert.NormModReferenceIdeal.nD,
          r.2.mem ((c.tc : Thread Cert.NormModReferenceIdeal.nD Cert.NormModReferenceIdeal.τ).loc Cert.NormModReferenceIdeal.main_v53) = v0 c
          ∧ r.2.mem ((c.tc : Thread Cert.NormModReferenceIdeal.nD Cert.NormModReferenceIdeal.τ).loc Cert.NormModReferenceIdeal.main_arg0) = m' ((c.tc : Thread Cert.NormModReferenceIdeal.nD Cert.NormModReferenceIdeal.τ).loc Cert.NormModReferenceIdeal.main_arg0)
          ∧ r.2.mem ((c.tc : Thread Cert.NormModReferenceIdeal.nD Cert.NormModReferenceIdeal.τ).loc Cert.NormModReferenceIdeal.main_arg1) = m' ((c.tc : Thread Cert.NormModReferenceIdeal.nD Cert.NormModReferenceIdeal.τ).loc Cert.NormModReferenceIdeal.main_arg1)
          ∧ r.2.mem ((c.tc : Thread Cert.NormModReferenceIdeal.nD Cert.NormModReferenceIdeal.τ).loc Cert.NormModReferenceIdeal.main_arg2) = m' ((c.tc : Thread Cert.NormModReferenceIdeal.nD Cert.NormModReferenceIdeal.τ).loc Cert.NormModReferenceIdeal.main_arg2)
          ∧ r.2.mem ((c.tc : Thread Cert.NormModReferenceIdeal.nD Cert.NormModReferenceIdeal.τ).loc Cert.NormModReferenceIdeal.main_arg3) = m' ((c.tc : Thread Cert.NormModReferenceIdeal.nD Cert.NormModReferenceIdeal.τ).loc Cert.NormModReferenceIdeal.main_arg3))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v1)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v1) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v40) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def preserves_OddRotary_OddRotaryIdeal : Prop :=
  True

def algebraic_OddRotaryIdeal_OddRotaryReferenceIdeal [hOddRotaryIdeal : Cert.OddRotaryIdeal.Facts] [hOddRotaryReferenceIdeal : Cert.OddRotaryReferenceIdeal.Facts] : Prop :=
  ∀ (m : (ℓ : Loc Cert.OddRotaryIdeal.nD Cert.OddRotaryIdeal.τ Cert.OddRotaryIdeal.sig) → Buf (Elt Ideal) ℓ) (g : Dev Cert.OddRotaryIdeal.nD → PrngReg)
    (m' : (ℓ : Loc Cert.OddRotaryReferenceIdeal.nD Cert.OddRotaryReferenceIdeal.τ Cert.OddRotaryReferenceIdeal.sig) → Buf (Elt Ideal) ℓ) (g' : Dev Cert.OddRotaryReferenceIdeal.nD → PrngReg), Pre_OddRotaryIdeal m →
    (∀ c : Dev Cert.OddRotaryIdeal.nD,
      m' ((c.tc : Thread Cert.OddRotaryReferenceIdeal.nD Cert.OddRotaryReferenceIdeal.τ).loc Cert.OddRotaryReferenceIdeal.main_arg0) = m ((c.tc : Thread Cert.OddRotaryIdeal.nD Cert.OddRotaryIdeal.τ).loc Cert.OddRotaryIdeal.main_arg0)
      ∧ m' ((c.tc : Thread Cert.OddRotaryReferenceIdeal.nD Cert.OddRotaryReferenceIdeal.τ).loc Cert.OddRotaryReferenceIdeal.main_arg1) = m ((c.tc : Thread Cert.OddRotaryIdeal.nD Cert.OddRotaryIdeal.τ).loc Cert.OddRotaryIdeal.main_arg1)) →
    ∃ (v0 : (c : Dev Cert.OddRotaryIdeal.nD) → Buf (Elt Ideal) ((c.tc : Thread Cert.OddRotaryIdeal.nD Cert.OddRotaryIdeal.τ).loc Cert.OddRotaryIdeal.main_v69)) (v1 : (c : Dev Cert.OddRotaryIdeal.nD) → Buf (Elt Ideal) ((c.tc : Thread Cert.OddRotaryIdeal.nD Cert.OddRotaryIdeal.τ).loc Cert.OddRotaryIdeal.main_v122)),
      θ_run (Cert.OddRotaryIdeal.defs (F := Ideal)) (onTc (τ := Cert.OddRotaryIdeal.τ) (Cert.OddRotaryIdeal.main (F := Ideal))) ⟨m, fun _ => 0, g⟩ (fun r => ∀ c : Dev Cert.OddRotaryIdeal.nD,
          r.2.mem ((c.tc : Thread Cert.OddRotaryIdeal.nD Cert.OddRotaryIdeal.τ).loc Cert.OddRotaryIdeal.main_v69) = v0 c
          ∧ r.2.mem ((c.tc : Thread Cert.OddRotaryIdeal.nD Cert.OddRotaryIdeal.τ).loc Cert.OddRotaryIdeal.main_v122) = v1 c
          ∧ r.2.mem ((c.tc : Thread Cert.OddRotaryIdeal.nD Cert.OddRotaryIdeal.τ).loc Cert.OddRotaryIdeal.main_arg0) = m ((c.tc : Thread Cert.OddRotaryIdeal.nD Cert.OddRotaryIdeal.τ).loc Cert.OddRotaryIdeal.main_arg0)
          ∧ r.2.mem ((c.tc : Thread Cert.OddRotaryIdeal.nD Cert.OddRotaryIdeal.τ).loc Cert.OddRotaryIdeal.main_arg1) = m ((c.tc : Thread Cert.OddRotaryIdeal.nD Cert.OddRotaryIdeal.τ).loc Cert.OddRotaryIdeal.main_arg1))
      ∧ θ_run (Cert.OddRotaryReferenceIdeal.defs (F := Ideal)) (onTc (τ := Cert.OddRotaryReferenceIdeal.τ) (Cert.OddRotaryReferenceIdeal.main (F := Ideal))) ⟨m', fun _ => 0, g'⟩ (fun r => ∀ c : Dev Cert.OddRotaryReferenceIdeal.nD,
          r.2.mem ((c.tc : Thread Cert.OddRotaryReferenceIdeal.nD Cert.OddRotaryReferenceIdeal.τ).loc Cert.OddRotaryReferenceIdeal.main_v43) = v0 c
          ∧ r.2.mem ((c.tc : Thread Cert.OddRotaryReferenceIdeal.nD Cert.OddRotaryReferenceIdeal.τ).loc Cert.OddRotaryReferenceIdeal.main_v81) = v1 c
          ∧ r.2.mem ((c.tc : Thread Cert.OddRotaryReferenceIdeal.nD Cert.OddRotaryReferenceIdeal.τ).loc Cert.OddRotaryReferenceIdeal.main_arg0) = m' ((c.tc : Thread Cert.OddRotaryReferenceIdeal.nD Cert.OddRotaryReferenceIdeal.τ).loc Cert.OddRotaryReferenceIdeal.main_arg0)
          ∧ r.2.mem ((c.tc : Thread Cert.OddRotaryReferenceIdeal.nD Cert.OddRotaryReferenceIdeal.τ).loc Cert.OddRotaryReferenceIdeal.main_arg1) = m' ((c.tc : Thread Cert.OddRotaryReferenceIdeal.nD Cert.OddRotaryReferenceIdeal.τ).loc Cert.OddRotaryReferenceIdeal.main_arg1))

def Claim : Prop :=
  ∃ (hKernel : Cert.Kernel.Facts) (hKernelIdeal : Cert.KernelIdeal.Facts) (hReferenceIdeal : Cert.ReferenceIdeal.Facts) (hEvenIn : Cert.EvenIn.Facts) (hEvenInIdeal : Cert.EvenInIdeal.Facts) (hEvenInReferenceIdeal : Cert.EvenInReferenceIdeal.Facts) (hOddIn : Cert.OddIn.Facts) (hOddInIdeal : Cert.OddInIdeal.Facts) (hOddInReferenceIdeal : Cert.OddInReferenceIdeal.Facts) (hMixOut : Cert.MixOut.Facts) (hMixOutIdeal : Cert.MixOutIdeal.Facts) (hMixOutReferenceIdeal : Cert.MixOutReferenceIdeal.Facts) (hQb : Cert.Qb.Facts) (hQbIdeal : Cert.QbIdeal.Facts) (hQbReferenceIdeal : Cert.QbReferenceIdeal.Facts) (hKvb : Cert.Kvb.Facts) (hKvbIdeal : Cert.KvbIdeal.Facts) (hKvbReferenceIdeal : Cert.KvbReferenceIdeal.Facts) (hFinalNorm : Cert.FinalNorm.Facts) (hFinalNormIdeal : Cert.FinalNormIdeal.Facts) (hFinalNormReferenceIdeal : Cert.FinalNormReferenceIdeal.Facts) (hNormMod : Cert.NormMod.Facts) (hNormModIdeal : Cert.NormModIdeal.Facts) (hNormModReferenceIdeal : Cert.NormModReferenceIdeal.Facts) (hModulation : Cert.Modulation.Facts) (hModulationIdeal : Cert.ModulationIdeal.Facts) (hModulationReferenceIdeal : Cert.ModulationReferenceIdeal.Facts) (hOddRotary : Cert.OddRotary.Facts) (hOddRotaryIdeal : Cert.OddRotaryIdeal.Facts) (hOddRotaryReferenceIdeal : Cert.OddRotaryReferenceIdeal.Facts) (hPre_finite_scores : Cert.Pre_finite_scores.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_MixOut (hMixOut := hMixOut)
    ∧ quiescent_MixOutIdeal (hMixOutIdeal := hMixOutIdeal)
    ∧ quiescent_MixOutReferenceIdeal (hMixOutReferenceIdeal := hMixOutReferenceIdeal)
    ∧ quiescent_Qb (hQb := hQb)
    ∧ quiescent_QbIdeal (hQbIdeal := hQbIdeal)
    ∧ quiescent_QbReferenceIdeal (hQbReferenceIdeal := hQbReferenceIdeal)
    ∧ quiescent_Kvb (hKvb := hKvb)
    ∧ quiescent_KvbIdeal (hKvbIdeal := hKvbIdeal)
    ∧ quiescent_KvbReferenceIdeal (hKvbReferenceIdeal := hKvbReferenceIdeal)
    ∧ quiescent_FinalNorm (hFinalNorm := hFinalNorm)
    ∧ quiescent_FinalNormIdeal (hFinalNormIdeal := hFinalNormIdeal)
    ∧ quiescent_FinalNormReferenceIdeal (hFinalNormReferenceIdeal := hFinalNormReferenceIdeal)
    ∧ quiescent_NormMod (hNormMod := hNormMod)
    ∧ quiescent_NormModIdeal (hNormModIdeal := hNormModIdeal)
    ∧ quiescent_NormModReferenceIdeal (hNormModReferenceIdeal := hNormModReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ quiescent_OddRotary (hOddRotary := hOddRotary)
    ∧ quiescent_OddRotaryIdeal (hOddRotaryIdeal := hOddRotaryIdeal)
    ∧ quiescent_OddRotaryReferenceIdeal (hOddRotaryReferenceIdeal := hOddRotaryReferenceIdeal)
    ∧ preserves_Kernel_KernelIdeal
    ∧ algebraic_KernelIdeal_ReferenceIdeal_pre_finite_scores (hKernelIdeal := hKernelIdeal) (hReferenceIdeal := hReferenceIdeal) (hPre_finite_scores := hPre_finite_scores)
    ∧ preserves_EvenIn_EvenInIdeal
    ∧ algebraic_EvenInIdeal_EvenInReferenceIdeal (hEvenInIdeal := hEvenInIdeal) (hEvenInReferenceIdeal := hEvenInReferenceIdeal)
    ∧ preserves_OddIn_OddInIdeal
    ∧ algebraic_OddInIdeal_OddInReferenceIdeal (hOddInIdeal := hOddInIdeal) (hOddInReferenceIdeal := hOddInReferenceIdeal)
    ∧ preserves_MixOut_MixOutIdeal
    ∧ algebraic_MixOutIdeal_MixOutReferenceIdeal (hMixOutIdeal := hMixOutIdeal) (hMixOutReferenceIdeal := hMixOutReferenceIdeal)
    ∧ preserves_Qb_QbIdeal
    ∧ algebraic_QbIdeal_QbReferenceIdeal (hQbIdeal := hQbIdeal) (hQbReferenceIdeal := hQbReferenceIdeal)
    ∧ preserves_Kvb_KvbIdeal
    ∧ algebraic_KvbIdeal_KvbReferenceIdeal (hKvbIdeal := hKvbIdeal) (hKvbReferenceIdeal := hKvbReferenceIdeal)
    ∧ preserves_FinalNorm_FinalNormIdeal
    ∧ algebraic_FinalNormIdeal_FinalNormReferenceIdeal (hFinalNormIdeal := hFinalNormIdeal) (hFinalNormReferenceIdeal := hFinalNormReferenceIdeal)
    ∧ preserves_NormMod_NormModIdeal
    ∧ algebraic_NormModIdeal_NormModReferenceIdeal (hNormModIdeal := hNormModIdeal) (hNormModReferenceIdeal := hNormModReferenceIdeal)
    ∧ preserves_Modulation_ModulationIdeal
    ∧ algebraic_ModulationIdeal_ModulationReferenceIdeal (hModulationIdeal := hModulationIdeal) (hModulationReferenceIdeal := hModulationReferenceIdeal)
    ∧ preserves_OddRotary_OddRotaryIdeal
    ∧ algebraic_OddRotaryIdeal_OddRotaryReferenceIdeal (hOddRotaryIdeal := hOddRotaryIdeal) (hOddRotaryReferenceIdeal := hOddRotaryReferenceIdeal)
-- ==== Pre_finite_scores.lean ====
abbrev S2x8192x16x128 : Shape := ⟨4, ![2, 8192, 16, 128]⟩
abbrev S2x8192x16x64 : Shape := ⟨4, ![2, 8192, 16, 64]⟩
abbrev S2x8192x64 : Shape := ⟨3, ![2, 8192, 64]⟩
abbrev S_ : Shape := ⟨0, ![]⟩

class Facts : Prop where
  bcast_S_S2x8192x16x128 : S_.BroadcastsInDim S2x8192x16x128 (![] : Fin 0 → Fin S2x8192x16x128.rank)
  reducesTo_S2x8192x16x128_S_d0_1_2_3 : S2x8192x16x128.ReducesTo [0, 1, 2, 3] S_
  h_S_ : 0 < S_.numel
  bcast_S_S2x8192x16x64 : S_.BroadcastsInDim S2x8192x16x64 (![] : Fin 0 → Fin S2x8192x16x64.rank)
  reducesTo_S2x8192x16x64_S_d0_1_2_3 : S2x8192x16x64.ReducesTo [0, 1, 2, 3] S_
  bcast_S_S2x8192x64 : S_.BroadcastsInDim S2x8192x64 (![] : Fin 0 → Fin S2x8192x64.rank)
  reducesTo_S2x8192x64_S_d0_1_2 : S2x8192x64.ReducesTo [0, 1, 2] S_

variable [Facts]

def fn_part1 {F : FTy → Type} [FloatOps F] (main_v13 : IVec S_ 1) (main_v16 : IVec S2x8192x64 1) : IVec S_ 1 :=
  let main_c_5 : IVec S_ 1 := constantI S_ 1 1#1
  let main_v17 : IVec S_ 1 := (fun x v => Host.reduce IntOp.andi x v reducesTo_S2x8192x64_S_d0_1_2 h_S_) main_v16 main_c_5
  let main_v18 : IVec S_ 1 := andi main_v13 main_v17
  main_v18

def fn {F : FTy → Type} [FloatOps F] (main_arg0 : FVec F S2x8192x16x128 .f32) (main_arg1 : FVec F S2x8192x16x64 .f32) (main_arg2 : FVec F S2x8192x16x128 .f32) (main_arg3 : FVec F S2x8192x64 .f32) (main_arg4 : FVec F S2x8192x16x128 .f32) : IVec S_ 1 :=
  let main_v0 : FVec F S2x8192x16x128 .f32 := Host.absf main_arg0
  let main_cst : FVec F S_ .f32 := constant S_ .f32 0x7F800000#32
  let main_v1 : FVec F S2x8192x16x128 .f32 := broadcastInDim S2x8192x16x128 ![] bcast_S_S2x8192x16x128 main_cst
  let main_v2 : IVec S2x8192x16x128 1 := cmpf .olt main_v0 main_v1
  let main_c : IVec S_ 1 := constantI S_ 1 1#1
  let main_v3 : IVec S_ 1 := (fun x v => Host.reduce IntOp.andi x v reducesTo_S2x8192x16x128_S_d0_1_2_3 h_S_) main_v2 main_c
  let main_v4 : FVec F S2x8192x16x64 .f32 := Host.absf main_arg1
  let main_cst_0 : FVec F S_ .f32 := constant S_ .f32 0x7F800000#32
  let main_v5 : FVec F S2x8192x16x64 .f32 := broadcastInDim S2x8192x16x64 ![] bcast_S_S2x8192x16x64 main_cst_0
  let main_v6 : IVec S2x8192x16x64 1 := cmpf .olt main_v4 main_v5
  let main_c_1 : IVec S_ 1 := constantI S_ 1 1#1
  let main_v7 : IVec S_ 1 := (fun x v => Host.reduce IntOp.andi x v reducesTo_S2x8192x16x64_S_d0_1_2_3 h_S_) main_v6 main_c_1
  let main_v8 : IVec S_ 1 := andi main_v3 main_v7
  let main_v9 : FVec F S2x8192x16x128 .f32 := Host.absf main_arg2
  let main_cst_2 : FVec F S_ .f32 := constant S_ .f32 0x7F800000#32
  let main_v10 : FVec F S2x8192x16x128 .f32 := broadcastInDim S2x8192x16x128 ![] bcast_S_S2x8192x16x128 main_cst_2
  let main_v11 : IVec S2x8192x16x128 1 := cmpf .olt main_v9 main_v10
  let main_c_3 : IVec S_ 1 := constantI S_ 1 1#1
  let main_v12 : IVec S_ 1 := (fun x v => Host.reduce IntOp.andi x v reducesTo_S2x8192x16x128_S_d0_1_2_3 h_S_) main_v11 main_c_3
  let main_v13 : IVec S_ 1 := andi main_v8 main_v12
  let main_v14 : FVec F S2x8192x64 .f32 := Host.absf main_arg3
  let main_cst_4 : FVec F S_ .f32 := constant S_ .f32 0x7F800000#32
  let main_v15 : FVec F S2x8192x64 .f32 := broadcastInDim S2x8192x64 ![] bcast_S_S2x8192x64 main_cst_4
  let main_v16 : IVec S2x8192x64 1 := cmpf .olt main_v14 main_v15
  fn_part1 (F := F) main_v13 main_v16
-- ==== Kernel.lean ====
abbrev S2x8192x16x128 : Shape := ⟨4, ![2, 8192, 16, 128]⟩
abbrev S2x8192x16x64 : Shape := ⟨4, ![2, 8192, 16, 64]⟩
abbrev S2x8192x64 : Shape := ⟨3, ![2, 8192, 64]⟩
abbrev S_ : Shape := ⟨0, ![]⟩
abbrev S2x8192x16x256 : Shape := ⟨4, ![2, 8192, 16, 256]⟩
abbrev S2x8192x4096 : Shape := ⟨3, ![2, 8192, 4096]⟩
abbrev S2x8192x1x64 : Shape := ⟨4, ![2, 8192, 1, 64]⟩
abbrev S2x8192x16x1 : Shape := ⟨4, ![2, 8192, 16, 1]⟩
abbrev S2x8192x16x127 : Shape := ⟨4, ![2, 8192, 16, 127]⟩
abbrev S2x8192x2048 : Shape := ⟨3, ![2, 8192, 2048]⟩
abbrev S1x512x512 : Shape := ⟨3, ![1, 512, 512]⟩
abbrev S1x512x256 : Shape := ⟨3, ![1, 512, 256]⟩
abbrev S2x512x1 : Shape := ⟨3, ![2, 512, 1]⟩
abbrev S512x512 : Shape := ⟨2, ![512, 512]⟩
abbrev S512x256 : Shape := ⟨2, ![512, 256]⟩
abbrev S1x512x1 : Shape := ⟨3, ![1, 512, 1]⟩
abbrev S512x1 : Shape := ⟨2, ![512, 1]⟩
abbrev S512 : Shape := ⟨1, ![512]⟩
abbrev S512x128 : Shape := ⟨2, ![512, 128]⟩
abbrev S1x512x128 : Shape := ⟨3, ![1, 512, 128]⟩

abbrev nBuf : Space → Nat
  | .hbm => 28
  | .vmem => 10
  | .smem => 0
  | _ => 0

abbrev bufTy : (tb : Table) → Fin (tcTables nBuf tb) → BufTy
  | .hbm, ⟨0, _⟩ => ⟨S2x8192x16x128, .f32⟩
  | .hbm, ⟨1, _⟩ => ⟨S2x8192x16x64, .f32⟩
  | .hbm, ⟨2, _⟩ => ⟨S2x8192x16x128, .f32⟩
  | .hbm, ⟨3, _⟩ => ⟨S2x8192x64, .f32⟩
  | .hbm, ⟨4, _⟩ => ⟨S2x8192x16x128, .f32⟩
  | .hbm, ⟨5, _⟩ => ⟨S_, .f32⟩
  | .hbm, ⟨6, _⟩ => ⟨S2x8192x16x64, .f32⟩
  | .hbm, ⟨7, _⟩ => ⟨S2x8192x16x256, .f32⟩
  | .hbm, ⟨8, _⟩ => ⟨S_, .f32⟩
  | .hbm, ⟨9, _⟩ => ⟨S2x8192x16x256, .f32⟩
  | .hbm, ⟨10, _⟩ => ⟨S2x8192x16x256, .f32⟩
  | .hbm, ⟨11, _⟩ => ⟨S2x8192x16x256, .bf16⟩
  | .hbm, ⟨12, _⟩ => ⟨S2x8192x4096, .bf16⟩
  | .hbm, ⟨13, _⟩ => ⟨S_, .f32⟩
  | .hbm, ⟨14, _⟩ => ⟨S2x8192x16x64, .f32⟩
  | .hbm, ⟨15, _⟩ => ⟨S2x8192x1x64, .f32⟩
  | .hbm, ⟨16, _⟩ => ⟨S2x8192x16x64, .f32⟩
  | .hbm, ⟨17, _⟩ => ⟨S2x8192x16x256, .f32⟩
  | .hbm, ⟨18, _⟩ => ⟨S2x8192x16x256, .bf16⟩
  | .hbm, ⟨19, _⟩ => ⟨S2x8192x4096, .bf16⟩
  | .hbm, ⟨20, _⟩ => ⟨S2x8192x16x128, .bf16⟩
  | .hbm, ⟨21, _⟩ => ⟨S_, .bf16⟩
  | .hbm, ⟨22, _⟩ => ⟨S2x8192x16x1, .bf16⟩
  | .hbm, ⟨23, _⟩ => ⟨S_, .bf16⟩
  | .hbm, ⟨24, _⟩ => ⟨S2x8192x16x127, .bf16⟩
  | .hbm, ⟨25, _⟩ => ⟨S2x8192x16x256, .bf16⟩
  | .hbm, ⟨26, _⟩ => ⟨S2x8192x4096, .bf16⟩
  | .hbm, ⟨27, _⟩ => ⟨S2x8192x2048, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x256, .bf16⟩
  | .local _ .vmem, ⟨7, _⟩ => ⟨S1x512x256, .bf16⟩
  | .local _ .vmem, ⟨8, _⟩ => ⟨S2x512x1, .f32⟩
  | .local _ .vmem, ⟨9, _⟩ => ⟨S512x512, .f32⟩
  | _, _ => ⟨S2x8192x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨4, ![2, 8, 16, 16], ![false, false, false, false]⟩

def k0_cond3 (i : grid0.Coords) : BitVec 1 :=
  let arg3 : BitVec 32 := BitVec.ofNat 32 (i 3).val
  let arg2 : BitVec 32 := BitVec.ofNat 32 (i 2).val
  let v6 : BitVec 1 := Scalar.cmpi .eq arg3 arg2
  let v7 : BitVec 32 := Scalar.extui v6
  let c0_i32_2 : BitVec 32 := 0#32
  let v8 : BitVec 1 := Scalar.cmpi .ne v7 c0_i32_2
  v8

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let v0 : BitVec 32 := Scalar.minsi arg3 arg2
  let c0_i32 : BitVec 32 := 0#32
  ![arg0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, true]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false]
-- ==== KernelIdeal.lean ====
variable {F : FTy → Type} [FloatOps F] [Named F]
def κ : String → Option EReal := fun
  | "mask" => some ⊥
  | _ => none
-- ==== ReferenceIdeal.lean ====
abbrev S2x8192x16x128 : Shape := ⟨4, ![2, 8192, 16, 128]⟩
abbrev S2x8192x16x64 : Shape := ⟨4, ![2, 8192, 16, 64]⟩
abbrev S2x8192x64 : Shape := ⟨3, ![2, 8192, 64]⟩
abbrev S8192 : Shape := ⟨1, ![8192]⟩
abbrev S2x16x8192x8192 : Shape := ⟨4, ![2, 16, 8192, 8192]⟩
abbrev S2x8192x8192x16 : Shape := ⟨4, ![2, 8192, 8192, 16]⟩
abbrev S_ : Shape := ⟨0, ![]⟩
abbrev S1x8192 : Shape := ⟨2, ![1, 8192]⟩
abbrev S8192x1 : Shape := ⟨2, ![8192, 1]⟩
abbrev S8192x8192 : Shape := ⟨2, ![8192, 8192]⟩
abbrev S2x16x8192 : Shape := ⟨3, ![2, 16, 8192]⟩
abbrev S2x16x8192x1 : Shape := ⟨4, ![2, 16, 8192, 1]⟩
abbrev S2x16x128x8192 : Shape := ⟨4, ![2, 16, 128, 8192]⟩
abbrev S2x8192x2048 : Shape := ⟨3, ![2, 8192, 2048]⟩

abbrev nBuf : Space → Nat
  | .hbm => 78
  | .vmem => 0
  | .smem => 0
  | _ => 0

abbrev bufTy : (tb : Table) → Fin (tcTables nBuf tb) → BufTy
  | .hbm, ⟨0, _⟩ => ⟨S2x8192x16x128, .f32⟩
  | .hbm, ⟨1, _⟩ => ⟨S2x8192x16x64, .f32⟩
  | .hbm, ⟨2, _⟩ => ⟨S2x8192x16x128, .f32⟩
  | .hbm, ⟨3, _⟩ => ⟨S2x8192x64, .f32⟩
  | .hbm, ⟨4, _⟩ => ⟨S2x8192x16x128, .f32⟩
  | .hbm, ⟨5, _⟩ => ⟨S8192, .i32⟩
  | .hbm, ⟨6, _⟩ => ⟨S2x16x8192x8192, .f32⟩
  | .hbm, ⟨7, _⟩ => ⟨S2x8192x8192x16, .f32⟩
  | .hbm, ⟨8, _⟩ => ⟨S2x16x8192x8192, .f32⟩
  | .hbm, ⟨9, _⟩ => ⟨S2x16x8192x8192, .f32⟩
  | .hbm, ⟨10, _⟩ => ⟨S_, .f32⟩
  | .hbm, ⟨11, _⟩ => ⟨S2x16x8192x8192, .f32⟩
  | .hbm, ⟨12, _⟩ => ⟨S2x16x8192x8192, .f32⟩
  | .hbm, ⟨13, _⟩ => ⟨S8192, .i32⟩
  | .hbm, ⟨14, _⟩ => ⟨S_, .i32⟩
  | .hbm, ⟨15, _⟩ => ⟨S_, .i32⟩
  | .hbm, ⟨16, _⟩ => ⟨S8192, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i1⟩
  | .hbm, ⟨22, _⟩ => ⟨S8192, .i32⟩
  | .hbm, ⟨23, _⟩ => ⟨S8192, .i32⟩
  | .hbm, ⟨24, _⟩ => ⟨S_, .i32⟩
  | .hbm, ⟨25, _⟩ => ⟨S8192, .i32⟩
  | .hbm, ⟨26, _⟩ => ⟨S8192, .i1⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S1x8192, .i32⟩
  | .hbm, ⟨33, _⟩ => ⟨S_, .i32⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S8192, .i32⟩
  | .hbm, ⟨42, _⟩ => ⟨S8192, .i32⟩
  | .hbm, ⟨43, _⟩ => ⟨S_, .i32⟩
  | .hbm, ⟨44, _⟩ => ⟨S8192, .i32⟩
  | .hbm, ⟨45, _⟩ => ⟨S8192, .i1⟩
  | .hbm, ⟨46, _⟩ => ⟨S8192, .i1⟩
  | .hbm, ⟨47, _⟩ => ⟨S_, .i32⟩
  | .hbm, ⟨48, _⟩ => ⟨S8192, .i32⟩
  | .hbm, ⟨49, _⟩ => ⟨S8192, .i32⟩
  | .hbm, ⟨50, _⟩ => ⟨S8192, .i32⟩
  | .hbm, ⟨51, _⟩ => ⟨S8192x1, .i32⟩
  | .hbm, ⟨52, _⟩ => ⟨S8192x8192, .i32⟩
  | .hbm, ⟨53, _⟩ => ⟨S8192x8192, .i32⟩
  | .hbm, ⟨54, _⟩ => ⟨S8192x8192, .i1⟩
  | .hbm, ⟨55, _⟩ => ⟨S_, .f32⟩
  | .hbm, ⟨56, _⟩ => ⟨S_, .f32⟩
  | .hbm, ⟨57, _⟩ => ⟨S2x16x8192x8192, .i1⟩
  | .hbm, ⟨58, _⟩ => ⟨S2x16x8192x8192, .f32⟩
  | .hbm, ⟨59, _⟩ => ⟨S2x16x8192x8192, .f32⟩
  | .hbm, ⟨60, _⟩ => ⟨S_, .f32⟩
  | .hbm, ⟨61, _⟩ => ⟨S2x16x8192, .f32⟩
  | .hbm, ⟨62, _⟩ => ⟨S_, .f32⟩
  | .hbm, ⟨63, _⟩ => ⟨S2x16x8192, .f32⟩
  | .hbm, ⟨64, _⟩ => ⟨S2x16x8192, .f32⟩
  | .hbm, ⟨65, _⟩ => ⟨S2x16x8192x1, .f32⟩
  | .hbm, ⟨66, _⟩ => ⟨S2x16x8192x8192, .f32⟩
  | .hbm, ⟨67, _⟩ => ⟨S2x16x8192x8192, .f32⟩
  | .hbm, ⟨68, _⟩ => ⟨S2x16x8192x8192, .f32⟩
  | .hbm, ⟨69, _⟩ => ⟨S_, .f32⟩
  | .hbm, ⟨70, _⟩ => ⟨S2x16x8192, .f32⟩
  | .hbm, ⟨71, _⟩ => ⟨S2x16x8192x1, .f32⟩
  | .hbm, ⟨72, _⟩ => ⟨S2x16x8192x8192, .f32⟩
  | .hbm, ⟨73, _⟩ => ⟨S2x16x8192x8192, .f32⟩
  | .hbm, ⟨74, _⟩ => ⟨S2x16x128x8192, .f32⟩
  | .hbm, ⟨75, _⟩ => ⟨S2x8192x16x128, .f32⟩
  | .hbm, ⟨76, _⟩ => ⟨S2x8192x2048, .f32⟩
  | .hbm, ⟨77, _⟩ => ⟨S2x8192x2048, .bf16⟩
  | _, _ => ⟨S2x8192x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v8 : Ref sig .tc := ⟨.hbm, 31, rfl⟩
abbrev main_v9 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_cst_3 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩

abbrev nD : Nat := 1
abbrev τ : Topo := Topo.v7x

variable {F : FTy → Type} [FloatOps F]
-- ==== EvenIn.lean ====
abbrev S16896x4096 : Shape := ⟨2, ![16896, 4096]⟩
abbrev S4096x5120 : Shape := ⟨2, ![4096, 5120]⟩
abbrev S16x128x8x64 : Shape := ⟨4, ![16, 128, 8, 64]⟩
abbrev S16x15x2048 : Shape := ⟨3, ![16, 15, 2048]⟩
abbrev S16896x5120 : Shape := ⟨2, ![16896, 5120]⟩
abbrev S512x4096 : Shape := ⟨2, ![512, 4096]⟩
abbrev S4096x512 : Shape := ⟨2, ![4096, 512]⟩
abbrev S512x512 : Shape := ⟨2, ![512, 512]⟩
abbrev S16384x2048 : Shape := ⟨2, ![16384, 2048]⟩
abbrev S2x8192x2048 : Shape := ⟨3, ![2, 8192, 2048]⟩
abbrev S16384x512 : Shape := ⟨2, ![16384, 512]⟩
abbrev S2x8192x512 : Shape := ⟨3, ![2, 8192, 512]⟩
abbrev S512x2048 : Shape := ⟨2, ![512, 2048]⟩
abbrev S16x32x2048 : Shape := ⟨3, ![16, 32, 2048]⟩
abbrev S16x32x512 : Shape := ⟨3, ![16, 32, 512]⟩
abbrev S16x32x8x64 : Shape := ⟨4, ![16, 32, 8, 64]⟩
abbrev S16x160x8x64 : Shape := ⟨4, ![16, 160, 8, 64]⟩
abbrev S16x47x2048 : Shape := ⟨3, ![16, 47, 2048]⟩
abbrev S2x128x512 : Shape := ⟨3, ![2, 128, 512]⟩
abbrev S2x128x8x64 : Shape := ⟨4, ![2, 128, 8, 64]⟩
abbrev S2x15x2048 : Shape := ⟨3, ![2, 15, 2048]⟩

abbrev nBuf : Space → Nat
  | .hbm => 36
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x5120, .f32⟩
  | .hbm, ⟨2, _⟩ => ⟨S16x128x8x64, .f32⟩
  | .hbm, ⟨3, _⟩ => ⟨S16x128x8x64, .f32⟩
  | .hbm, ⟨4, _⟩ => ⟨S16x15x2048, .f32⟩
  | .hbm, ⟨5, _⟩ => ⟨S4096x5120, .bf16⟩
  | .hbm, ⟨6, _⟩ => ⟨S16896x5120, .f32⟩
  | .hbm, ⟨7, _⟩ => ⟨S16384x2048, .f32⟩
  | .hbm, ⟨8, _⟩ => ⟨S2x8192x2048, .f32⟩
  | .hbm, ⟨9, _⟩ => ⟨S16384x512, .f32⟩
  | .hbm, ⟨10, _⟩ => ⟨S2x8192x512, .f32⟩
  | .hbm, ⟨11, _⟩ => ⟨S16384x512, .f32⟩
  | .hbm, ⟨12, _⟩ => ⟨S2x8192x512, .f32⟩
  | .hbm, ⟨13, _⟩ => ⟨S16384x2048, .f32⟩
  | .hbm, ⟨14, _⟩ => ⟨S2x8192x2048, .f32⟩
  | .hbm, ⟨15, _⟩ => ⟨S512x2048, .f32⟩
  | .hbm, ⟨16, _⟩ => ⟨S16x32x2048, .f32⟩
  | .hbm, ⟨17, _⟩ => ⟨S512x512, .f32⟩
  | .hbm, ⟨18, _⟩ => ⟨S16x32x512, .f32⟩
  | .hbm, ⟨19, _⟩ => ⟨S512x512, .f32⟩
  | .hbm, ⟨20, _⟩ => ⟨S16x32x512, .f32⟩
  | .hbm, ⟨21, _⟩ => ⟨S512x2048, .f32⟩
  | .hbm, ⟨22, _⟩ => ⟨S16x32x2048, .f32⟩
  | .hbm, ⟨23, _⟩ => ⟨S16x32x8x64, .f32⟩
  | .hbm, ⟨24, _⟩ => ⟨S16x32x8x64, .f32⟩
  | .hbm, ⟨25, _⟩ => ⟨S16x160x8x64, .f32⟩
  | .hbm, ⟨26, _⟩ => ⟨S16x160x8x64, .f32⟩
  | .hbm, ⟨27, _⟩ => ⟨S16x47x2048, .f32⟩
  | .hbm, ⟨28, _⟩ => ⟨S2x128x512, .f32⟩
  | .hbm, ⟨29, _⟩ => ⟨S2x128x8x64, .f32⟩
  | .hbm, ⟨30, _⟩ => ⟨S16x128x8x64, .f32⟩
  | .hbm, ⟨31, _⟩ => ⟨S2x128x512, .f32⟩
  | .hbm, ⟨32, _⟩ => ⟨S2x128x8x64, .f32⟩
  | .hbm, ⟨33, _⟩ => ⟨S16x128x8x64, .f32⟩
  | .hbm, ⟨34, _⟩ => ⟨S2x15x2048, .f32⟩
  | .hbm, ⟨35, _⟩ => ⟨S16x15x2048, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![33, 10], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvenInReferenceIdeal.lean ====
abbrev S16896x4096 : Shape := ⟨2, ![16896, 4096]⟩
abbrev S4096x5120 : Shape := ⟨2, ![4096, 5120]⟩
abbrev S16x128x8x64 : Shape := ⟨4, ![16, 128, 8, 64]⟩
abbrev S16x15x2048 : Shape := ⟨3, ![16, 15, 2048]⟩
abbrev S16896x5120 : Shape := ⟨2, ![16896, 5120]⟩
abbrev S16384x5120 : Shape := ⟨2, ![16384, 5120]⟩
abbrev S2x8192x5120 : Shape := ⟨3, ![2, 8192, 5120]⟩
abbrev S2x8192x2048 : Shape := ⟨3, ![2, 8192, 2048]⟩
abbrev S2x8192x512 : Shape := ⟨3, ![2, 8192, 512]⟩
abbrev S2x8192x8x64 : Shape := ⟨4, ![2, 8192, 8, 64]⟩
abbrev S512x5120 : Shape := ⟨2, ![512, 5120]⟩
abbrev S16x32x5120 : Shape := ⟨3, ![16, 32, 5120]⟩
abbrev S16x32x2048 : Shape := ⟨3, ![16, 32, 2048]⟩
abbrev S16x32x512 : Shape := ⟨3, ![16, 32, 512]⟩
abbrev S16x32x8x64 : Shape := ⟨4, ![16, 32, 8, 64]⟩
abbrev S16x160x8x64 : Shape := ⟨4, ![16, 160, 8, 64]⟩
abbrev S16x47x2048 : Shape := ⟨3, ![16, 47, 2048]⟩
abbrev S2x128x8x64 : Shape := ⟨4, ![2, 128, 8, 64]⟩
abbrev S2x15x2048 : Shape := ⟨3, ![2, 15, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x5120, .f32⟩
  | .hbm, ⟨2, _⟩ => ⟨S16x128x8x64, .f32⟩
  | .hbm, ⟨3, _⟩ => ⟨S16x128x8x64, .f32⟩
  | .hbm, ⟨4, _⟩ => ⟨S16x15x2048, .f32⟩
  | .hbm, ⟨5, _⟩ => ⟨S16896x4096, .f32⟩
  | .hbm, ⟨6, _⟩ => ⟨S16896x5120, .f32⟩
  | .hbm, ⟨7, _⟩ => ⟨S16384x5120, .f32⟩
  | .hbm, ⟨8, _⟩ => ⟨S2x8192x5120, .f32⟩
  | .hbm, ⟨9, _⟩ => ⟨S2x8192x2048, .f32⟩
  | .hbm, ⟨10, _⟩ => ⟨S2x8192x512, .f32⟩
  | .hbm, ⟨11, _⟩ => ⟨S2x8192x512, .f32⟩
  | .hbm, ⟨12, _⟩ => ⟨S2x8192x2048, .f32⟩
  | .hbm, ⟨13, _⟩ => ⟨S2x8192x8x64, .f32⟩
  | .hbm, ⟨14, _⟩ => ⟨S2x8192x8x64, .f32⟩
  | .hbm, ⟨15, _⟩ => ⟨S512x5120, .f32⟩
  | .hbm, ⟨16, _⟩ => ⟨S16x32x5120, .f32⟩
  | .hbm, ⟨17, _⟩ => ⟨S16x32x2048, .f32⟩
  | .hbm, ⟨18, _⟩ => ⟨S16x32x512, .f32⟩
  | .hbm, ⟨19, _⟩ => ⟨S16x32x512, .f32⟩
  | .hbm, ⟨20, _⟩ => ⟨S16x32x2048, .f32⟩
  | .hbm, ⟨21, _⟩ => ⟨S16x32x8x64, .f32⟩
  | .hbm, ⟨22, _⟩ => ⟨S16x32x8x64, .f32⟩
  | .hbm, ⟨23, _⟩ => ⟨S16x160x8x64, .f32⟩
  | .hbm, ⟨24, _⟩ => ⟨S16x160x8x64, .f32⟩
  | .hbm, ⟨25, _⟩ => ⟨S16x47x2048, .f32⟩
  | .hbm, ⟨26, _⟩ => ⟨S2x128x8x64, .f32⟩
  | .hbm, ⟨27, _⟩ => ⟨S16x128x8x64, .f32⟩
  | .hbm, ⟨28, _⟩ => ⟨S2x128x8x64, .f32⟩
  | .hbm, ⟨29, _⟩ => ⟨S16x128x8x64, .f32⟩
  | .hbm, ⟨30, _⟩ => ⟨S2x15x2048, .f32⟩
  | .hbm, ⟨31, _⟩ => ⟨S16x15x2048, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== OddIn.lean ====
abbrev S16896x4096 : Shape := ⟨2, ![16896, 4096]⟩
abbrev S4096x6816 : Shape := ⟨2, ![4096, 6816]⟩
abbrev S512 : Shape := ⟨1, ![512]⟩
abbrev S4096x1024 : Shape := ⟨2, ![4096, 1024]⟩
abbrev S4096x512 : Shape := ⟨2, ![4096, 512]⟩
abbrev S4096x64 : Shape := ⟨2, ![4096, 64]⟩
abbrev S4096x2048 : Shape := ⟨2, ![4096, 2048]⟩
abbrev S4096x32 : Shape := ⟨2, ![4096, 32]⟩
abbrev S_ : Shape := ⟨0, ![]⟩
abbrev S4096x6912 : Shape := ⟨2, ![4096, 6912]⟩
abbrev S16896x6912 : Shape := ⟨2, ![16896, 6912]⟩
abbrev S512x4096 : Shape := ⟨2, ![512, 4096]⟩
abbrev S4096x768 : Shape := ⟨2, ![4096, 768]⟩
abbrev S512x768 : Shape := ⟨2, ![512, 768]⟩
abbrev S16384x2048 : Shape := ⟨2, ![16384, 2048]⟩
abbrev S2x8192x2048 : Shape := ⟨3, ![2, 8192, 2048]⟩
abbrev S16384x1024 : Shape := ⟨2, ![16384, 1024]⟩
abbrev S2x8192x1024 : Shape := ⟨3, ![2, 8192, 1024]⟩
abbrev S16384x512 : Shape := ⟨2, ![16384, 512]⟩
abbrev S2x8192x512 : Shape := ⟨3, ![2, 8192, 512]⟩
abbrev S16384x64 : Shape := ⟨2, ![16384, 64]⟩
abbrev S2x8192x64 : Shape := ⟨3, ![2, 8192, 64]⟩
abbrev S16384x32 : Shape := ⟨2, ![16384, 32]⟩
abbrev S2x8192x32 : Shape := ⟨3, ![2, 8192, 32]⟩
abbrev S2x8192 : Shape := ⟨2, ![2, 8192]⟩
abbrev S2x8192x1 : Shape := ⟨3, ![2, 8192, 1]⟩
abbrev S1x1x512 : Shape := ⟨3, ![1, 1, 512]⟩
abbrev S2x8192x8x64 : Shape := ⟨4, ![2, 8192, 8, 64]⟩
abbrev S512x2048 : Shape := ⟨2, ![512, 2048]⟩
abbrev S16x32x2048 : Shape := ⟨3, ![16, 32, 2048]⟩
abbrev S512x1024 : Shape := ⟨2, ![512, 1024]⟩
abbrev S16x32x1024 : Shape := ⟨3, ![16, 32, 1024]⟩
abbrev S512x512 : Shape := ⟨2, ![512, 512]⟩
abbrev S16x32x512 : Shape := ⟨3, ![16, 32, 512]⟩
abbrev S512x64 : Shape := ⟨2, ![512, 64]⟩
abbrev S16x32x64 : Shape := ⟨3, ![16, 32, 64]⟩
abbrev S512x32 : Shape := ⟨2, ![512, 32]⟩
abbrev S16x32x32 : Shape := ⟨3, ![16, 32, 32]⟩
abbrev S16x32 : Shape := ⟨2, ![16, 32]⟩
abbrev S16x32x1 : Shape := ⟨3, ![16, 32, 1]⟩
abbrev S16x32x8x64 : Shape := ⟨4, ![16, 32, 8, 64]⟩

abbrev nBuf : Space → Nat
  | .hbm => 90
  | .vmem => 6
  | .smem => 0
  | _ => 0

abbrev bufTy : (tb : Table) → Fin (tcTables nBuf tb) → BufTy
  | .hbm, ⟨0, _⟩ => ⟨S16896x4096, .bf16⟩
  | .hbm, ⟨1, _⟩ => ⟨S4096x6816, .f32⟩
  | .hbm, ⟨2, _⟩ => ⟨S512, .f32⟩
  | .hbm, ⟨3, _⟩ => ⟨S4096x1024, .f32⟩
  | .hbm, ⟨4, _⟩ => ⟨S4096x512, .f32⟩
  | .hbm, ⟨5, _⟩ => ⟨S4096x64, .f32⟩
  | .hbm, ⟨6, _⟩ => ⟨S4096x2048, .f32⟩
  | .hbm, ⟨7, _⟩ => ⟨S4096x512, .f32⟩
  | .hbm, ⟨8, _⟩ => ⟨S4096x512, .f32⟩
  | .hbm, ⟨9, _⟩ => ⟨S4096x2048, .f32⟩
  | .hbm, ⟨10, _⟩ => ⟨S4096x64, .f32⟩
  | .hbm, ⟨11, _⟩ => ⟨S4096x32, .f32⟩
  | .hbm, ⟨12, _⟩ => ⟨S4096x6816, .f32⟩
  | .hbm, ⟨13, _⟩ => ⟨S4096x6816, .bf16⟩
  | .hbm, ⟨14, _⟩ => ⟨S_, .i32⟩
  | .hbm, ⟨15, _⟩ => ⟨S_, .bf16⟩
  | .hbm, ⟨16, _⟩ => ⟨S4096x6912, .bf16⟩
  | .hbm, ⟨17, _⟩ => ⟨S16896x6912, .f32⟩
  | .hbm, ⟨18, _⟩ => ⟨S16384x2048, .f32⟩
  | .hbm, ⟨19, _⟩ => ⟨S2x8192x2048, .f32⟩
  | .hbm, ⟨20, _⟩ => ⟨S16384x2048, .f32⟩
  | .hbm, ⟨21, _⟩ => ⟨S2x8192x2048, .f32⟩
  | .hbm, ⟨22, _⟩ => ⟨S16384x1024, .f32⟩
  | .hbm, ⟨23, _⟩ => ⟨S2x8192x1024, .f32⟩
  | .hbm, ⟨24, _⟩ => ⟨S16384x512, .f32⟩
  | .hbm, ⟨25, _⟩ => ⟨S2x8192x512, .f32⟩
  | .hbm, ⟨26, _⟩ => ⟨S16384x512, .f32⟩
  | .hbm, ⟨27, _⟩ => ⟨S2x8192x512, .f32⟩
  | .hbm, ⟨28, _⟩ => ⟨S16384x512, .f32⟩
  | .hbm, ⟨29, _⟩ => ⟨S2x8192x512, .f32⟩
  | .hbm, ⟨30, _⟩ => ⟨S16384x64, .f32⟩
  | .hbm, ⟨31, _⟩ => ⟨S2x8192x64, .f32⟩
  | .hbm, ⟨32, _⟩ => ⟨S16384x64, .f32⟩
  | .hbm, ⟨33, _⟩ => ⟨S2x8192x64, .f32⟩
  | .hbm, ⟨34, _⟩ => ⟨S16384x32, .f32⟩
  | .hbm, ⟨35, _⟩ => ⟨S2x8192x32, .f32⟩
  | .hbm, ⟨36, _⟩ => ⟨S2x8192x512, .f32⟩
  | .hbm, ⟨37, _⟩ => ⟨S_, .f32⟩
  | .hbm, ⟨38, _⟩ => ⟨S2x8192, .f32⟩
  | .hbm, ⟨39, _⟩ => ⟨S2x8192x1, .f32⟩
  | .hbm, ⟨40, _⟩ => ⟨S_, .f32⟩
  | .hbm, ⟨41, _⟩ => ⟨S2x8192x1, .f32⟩
  | .hbm, ⟨42, _⟩ => ⟨S2x8192x1, .f32⟩
  | .hbm, ⟨43, _⟩ => ⟨S_, .f32⟩
  | .hbm, ⟨44, _⟩ => ⟨S2x8192x1, .f32⟩
  | .hbm, ⟨45, _⟩ => ⟨S2x8192x1, .f32⟩
  | .hbm, ⟨46, _⟩ => ⟨S2x8192x1, .f32⟩
  | .hbm, ⟨47, _⟩ => ⟨S2x8192x512, .f32⟩
  | .hbm, ⟨48, _⟩ => ⟨S2x8192x512, .f32⟩
  | .hbm, ⟨49, _⟩ => ⟨S1x1x512, .f32⟩
  | .hbm, ⟨50, _⟩ => ⟨S2x8192x512, .f32⟩
  | .hbm, ⟨51, _⟩ => ⟨S2x8192x512, .f32⟩
  | .hbm, ⟨52, _⟩ => ⟨S2x8192x8x64, .f32⟩
  | .hbm, ⟨53, _⟩ => ⟨S2x8192x8x64, .f32⟩
  | .hbm, ⟨54, _⟩ => ⟨S512x2048, .f32⟩
  | .hbm, ⟨55, _⟩ => ⟨S16x32x2048, .f32⟩
  | .hbm, ⟨56, _⟩ => ⟨S512x2048, .f32⟩
  | .hbm, ⟨57, _⟩ => ⟨S16x32x2048, .f32⟩
  | .hbm, ⟨58, _⟩ => ⟨S512x1024, .f32⟩
  | .hbm, ⟨59, _⟩ => ⟨S16x32x1024, .f32⟩
  | .hbm, ⟨60, _⟩ => ⟨S512x512, .f32⟩
  | .hbm, ⟨61, _⟩ => ⟨S16x32x512, .f32⟩
  | .hbm, ⟨62, _⟩ => ⟨S512x512, .f32⟩
  | .hbm, ⟨63, _⟩ => ⟨S16x32x512, .f32⟩
  | .hbm, ⟨64, _⟩ => ⟨S512x512, .f32⟩
  | .hbm, ⟨65, _⟩ => ⟨S16x32x512, .f32⟩
  | .hbm, ⟨66, _⟩ => ⟨S512x64, .f32⟩
  | .hbm, ⟨67, _⟩ => ⟨S16x32x64, .f32⟩
  | .hbm, ⟨68, _⟩ => ⟨S512x64, .f32⟩
  | .hbm, ⟨69, _⟩ => ⟨S16x32x64, .f32⟩
  | .hbm, ⟨70, _⟩ => ⟨S512x32, .f32⟩
  | .hbm, ⟨71, _⟩ => ⟨S16x32x32, .f32⟩
  | .hbm, ⟨72, _⟩ => ⟨S16x32x512, .f32⟩
  | .hbm, ⟨73, _⟩ => ⟨S_, .f32⟩
  | .hbm, ⟨74, _⟩ => ⟨S16x32, .f32⟩
  | .hbm, ⟨75, _⟩ => ⟨S16x32x1, .f32⟩
  | .hbm, ⟨76, _⟩ => ⟨S_, .f32⟩
  | .hbm, ⟨77, _⟩ => ⟨S16x32x1, .f32⟩
  | .hbm, ⟨78, _⟩ => ⟨S16x32x1, .f32⟩
  | .hbm, ⟨79, _⟩ => ⟨S_, .f32⟩
  | .hbm, ⟨80, _⟩ => ⟨S16x32x1, .f32⟩
  | .hbm, ⟨81, _⟩ => ⟨S16x32x1, .f32⟩
  | .hbm, ⟨82, _⟩ => ⟨S16x32x1, .f32⟩
  | .hbm, ⟨83, _⟩ => ⟨S16x32x512, .f32⟩
  | .hbm, ⟨84, _⟩ => ⟨S16x32x512, .f32⟩
  | .hbm, ⟨85, _⟩ => ⟨S1x1x512, .f32⟩
  | .hbm, ⟨86, _⟩ => ⟨S16x32x512, .f32⟩
  | .hbm, ⟨87, _⟩ => ⟨S16x32x512, .f32⟩
  | .hbm, ⟨88, _⟩ => ⟨S16x32x8x64, .f32⟩
  | .hbm, ⟨89, _⟩ => ⟨S16x32x8x64, .f32⟩
  | .local _ .vmem, ⟨0, _⟩ => ⟨S512x4096, .bf16⟩
  | .local _ .vmem, ⟨1, _⟩ => ⟨S512x4096, .bf16⟩
  | .local _ .vmem, ⟨2, _⟩ => ⟨S4096x768, .bf16⟩
  | .local _ .vmem, ⟨3, _⟩ => ⟨S4096x768, .bf16⟩
  | .local _ .vmem, ⟨4, _⟩ => ⟨S512x768, .f32⟩
  | .local _ .vmem, ⟨5, _⟩ => ⟨S512x768, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst : Ref sig .tc := ⟨.hbm, 37, rfl⟩
abbrev main_v32 : Ref sig .tc := ⟨.hbm, 38, rfl⟩
abbrev main_v33 : Ref sig .tc := ⟨.hbm, 39, rfl⟩
abbrev main_cst_0 : Ref sig .tc := ⟨.hbm, 40, rfl⟩
abbrev main_v34 : Ref sig .tc := ⟨.hbm, 41, rfl⟩
abbrev main_v35 : Ref sig .tc := ⟨.hbm, 42, rfl⟩
abbrev main_cst_1 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_2 : Ref sig .tc := ⟨.hbm, 73, rfl⟩
abbrev main_v65 : Ref sig .tc := ⟨.hbm, 74, rfl⟩
abbrev main_v66 : Ref sig .tc := ⟨.hbm, 75, rfl⟩
abbrev main_cst_3 : Ref sig .tc := ⟨.hbm, 76, rfl⟩
abbrev main_v67 : Ref sig .tc := ⟨.hbm, 77, rfl⟩
abbrev main_v68 : Ref sig .tc := ⟨.hbm, 78, rfl⟩
abbrev main_cst_4 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![33, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddInReferenceIdeal.lean ====
abbrev S16896x4096 : Shape := ⟨2, ![16896, 4096]⟩
abbrev S4096x6816 : Shape := ⟨2, ![4096, 6816]⟩
abbrev S512 : Shape := ⟨1, ![512]⟩
abbrev S16896x6816 : Shape := ⟨2, ![16896, 6816]⟩
abbrev S16896x1024 : Shape := ⟨2, ![16896, 1024]⟩
abbrev S16896x512 : Shape := ⟨2, ![16896, 512]⟩
abbrev S16896x64 : Shape := ⟨2, ![16896, 64]⟩
abbrev S16896x2048 : Shape := ⟨2, ![16896, 2048]⟩
abbrev S16896x32 : Shape := ⟨2, ![16896, 32]⟩
abbrev S_ : Shape := ⟨0, ![]⟩
abbrev S16896x96 : Shape := ⟨2, ![16896, 96]⟩
abbrev S16896x6912 : Shape := ⟨2, ![16896, 6912]⟩
abbrev S16384x6816 : Shape := ⟨2, ![16384, 6816]⟩
abbrev S2x8192x6816 : Shape := ⟨3, ![2, 8192, 6816]⟩
abbrev S2x8192x1024 : Shape := ⟨3, ![2, 8192, 1024]⟩
abbrev S2x8192x512 : Shape := ⟨3, ![2, 8192, 512]⟩
abbrev S2x8192x64 : Shape := ⟨3, ![2, 8192, 64]⟩
abbrev S2x8192x2048 : Shape := ⟨3, ![2, 8192, 2048]⟩
abbrev S2x8192x32 : Shape := ⟨3, ![2, 8192, 32]⟩
abbrev S2x8192 : Shape := ⟨2, ![2, 8192]⟩
abbrev S2x8192x1 : Shape := ⟨3, ![2, 8192, 1]⟩
abbrev S1x1x512 : Shape := ⟨3, ![1, 1, 512]⟩
abbrev S2x8192x8x64 : Shape := ⟨4, ![2, 8192, 8, 64]⟩
abbrev S512x6816 : Shape := ⟨2, ![512, 6816]⟩
abbrev S16x32x6816 : Shape := ⟨3, ![16, 32, 6816]⟩
abbrev S16x32x1024 : Shape := ⟨3, ![16, 32, 1024]⟩
abbrev S16x32x512 : Shape := ⟨3, ![16, 32, 512]⟩
abbrev S16x32x64 : Shape := ⟨3, ![16, 32, 64]⟩
abbrev S16x32x2048 : Shape := ⟨3, ![16, 32, 2048]⟩
abbrev S16x32x32 : Shape := ⟨3, ![16, 32, 32]⟩
abbrev S16x32 : Shape := ⟨2, ![16, 32]⟩
abbrev S16x32x1 : Shape := ⟨3, ![16, 32, 1]⟩
abbrev S16x32x8x64 : Shape := ⟨4, ![16, 32, 8, 64]⟩

abbrev nBuf : Space → Nat
  | .hbm => 76
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x6816, .f32⟩
  | .hbm, ⟨2, _⟩ => ⟨S512, .f32⟩
  | .hbm, ⟨3, _⟩ => ⟨S16896x4096, .f32⟩
  | .hbm, ⟨4, _⟩ => ⟨S16896x6816, .f32⟩
  | .hbm, ⟨5, _⟩ => ⟨S16896x1024, .f32⟩
  | .hbm, ⟨6, _⟩ => ⟨S16896x512, .f32⟩
  | .hbm, ⟨7, _⟩ => ⟨S16896x64, .f32⟩
  | .hbm, ⟨8, _⟩ => ⟨S16896x2048, .f32⟩
  | .hbm, ⟨9, _⟩ => ⟨S16896x512, .f32⟩
  | .hbm, ⟨10, _⟩ => ⟨S16896x512, .f32⟩
  | .hbm, ⟨11, _⟩ => ⟨S16896x2048, .f32⟩
  | .hbm, ⟨12, _⟩ => ⟨S16896x64, .f32⟩
  | .hbm, ⟨13, _⟩ => ⟨S16896x32, .f32⟩
  | .hbm, ⟨14, _⟩ => ⟨S16896x6816, .f32⟩
  | .hbm, ⟨15, _⟩ => ⟨S_, .f32⟩
  | .hbm, ⟨16, _⟩ => ⟨S16896x96, .f32⟩
  | .hbm, ⟨17, _⟩ => ⟨S16896x6912, .f32⟩
  | .hbm, ⟨18, _⟩ => ⟨S16384x6816, .f32⟩
  | .hbm, ⟨19, _⟩ => ⟨S2x8192x6816, .f32⟩
  | .hbm, ⟨20, _⟩ => ⟨S2x8192x1024, .f32⟩
  | .hbm, ⟨21, _⟩ => ⟨S2x8192x512, .f32⟩
  | .hbm, ⟨22, _⟩ => ⟨S2x8192x64, .f32⟩
  | .hbm, ⟨23, _⟩ => ⟨S2x8192x2048, .f32⟩
  | .hbm, ⟨24, _⟩ => ⟨S2x8192x512, .f32⟩
  | .hbm, ⟨25, _⟩ => ⟨S2x8192x512, .f32⟩
  | .hbm, ⟨26, _⟩ => ⟨S2x8192x2048, .f32⟩
  | .hbm, ⟨27, _⟩ => ⟨S2x8192x64, .f32⟩
  | .hbm, ⟨28, _⟩ => ⟨S2x8192x32, .f32⟩
  | .hbm, ⟨29, _⟩ => ⟨S2x8192x512, .f32⟩
  | .hbm, ⟨30, _⟩ => ⟨S_, .f32⟩
  | .hbm, ⟨31, _⟩ => ⟨S2x8192, .f32⟩
  | .hbm, ⟨32, _⟩ => ⟨S2x8192x1, .f32⟩
  | .hbm, ⟨33, _⟩ => ⟨S_, .f32⟩
  | .hbm, ⟨34, _⟩ => ⟨S2x8192x1, .f32⟩
  | .hbm, ⟨35, _⟩ => ⟨S2x8192x1, .f32⟩
  | .hbm, ⟨36, _⟩ => ⟨S_, .f32⟩
  | .hbm, ⟨37, _⟩ => ⟨S2x8192x1, .f32⟩
  | .hbm, ⟨38, _⟩ => ⟨S2x8192x1, .f32⟩
  | .hbm, ⟨39, _⟩ => ⟨S2x8192x1, .f32⟩
  | .hbm, ⟨40, _⟩ => ⟨S2x8192x512, .f32⟩
  | .hbm, ⟨41, _⟩ => ⟨S2x8192x512, .f32⟩
  | .hbm, ⟨42, _⟩ => ⟨S1x1x512, .f32⟩
  | .hbm, ⟨43, _⟩ => ⟨S2x8192x512, .f32⟩
  | .hbm, ⟨44, _⟩ => ⟨S2x8192x512, .f32⟩
  | .hbm, ⟨45, _⟩ => ⟨S2x8192x8x64, .f32⟩
  | .hbm, ⟨46, _⟩ => ⟨S2x8192x8x64, .f32⟩
  | .hbm, ⟨47, _⟩ => ⟨S512x6816, .f32⟩
  | .hbm, ⟨48, _⟩ => ⟨S16x32x6816, .f32⟩
  | .hbm, ⟨49, _⟩ => ⟨S16x32x1024, .f32⟩
  | .hbm, ⟨50, _⟩ => ⟨S16x32x512, .f32⟩
  | .hbm, ⟨51, _⟩ => ⟨S16x32x64, .f32⟩
  | .hbm, ⟨52, _⟩ => ⟨S16x32x2048, .f32⟩
  | .hbm, ⟨53, _⟩ => ⟨S16x32x512, .f32⟩
  | .hbm, ⟨54, _⟩ => ⟨S16x32x512, .f32⟩
  | .hbm, ⟨55, _⟩ => ⟨S16x32x2048, .f32⟩
  | .hbm, ⟨56, _⟩ => ⟨S16x32x64, .f32⟩
  | .hbm, ⟨57, _⟩ => ⟨S16x32x32, .f32⟩
  | .hbm, ⟨58, _⟩ => ⟨S16x32x512, .f32⟩
  | .hbm, ⟨59, _⟩ => ⟨S_, .f32⟩
  | .hbm, ⟨60, _⟩ => ⟨S16x32, .f32⟩
  | .hbm, ⟨61, _⟩ => ⟨S16x32x1, .f32⟩
  | .hbm, ⟨62, _⟩ => ⟨S_, .f32⟩
  | .hbm, ⟨63, _⟩ => ⟨S16x32x1, .f32⟩
  | .hbm, ⟨64, _⟩ => ⟨S16x32x1, .f32⟩
  | .hbm, ⟨65, _⟩ => ⟨S_, .f32⟩
  | .hbm, ⟨66, _⟩ => ⟨S16x32x1, .f32⟩
  | .hbm, ⟨67, _⟩ => ⟨S16x32x1, .f32⟩
  | .hbm, ⟨68, _⟩ => ⟨S16x32x1, .f32⟩
  | .hbm, ⟨69, _⟩ => ⟨S16x32x512, .f32⟩
  | .hbm, ⟨70, _⟩ => ⟨S16x32x512, .f32⟩
  | .hbm, ⟨71, _⟩ => ⟨S1x1x512, .f32⟩
  | .hbm, ⟨72, _⟩ => ⟨S16x32x512, .f32⟩
  | .hbm, ⟨73, _⟩ => ⟨S16x32x512, .f32⟩
  | .hbm, ⟨74, _⟩ => ⟨S16x32x8x64, .f32⟩
  | .hbm, ⟨75, _⟩ => ⟨S16x32x8x64, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_cst_0 : Ref sig .tc := ⟨.hbm, 30, rfl⟩
abbrev main_v26 : Ref sig .tc := ⟨.hbm, 31, rfl⟩
abbrev main_v27 : Ref sig .tc := ⟨.hbm, 32, rfl⟩
abbrev main_cst_1 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_cst_3 : Ref sig .tc := ⟨.hbm, 59, rfl⟩
abbrev main_v52 : Ref sig .tc := ⟨.hbm, 60, rfl⟩
abbrev main_v53 : Ref sig .tc := ⟨.hbm, 61, rfl⟩
abbrev main_cst_4 : Ref sig .tc := ⟨.hbm, 62, rfl⟩
abbrev main_v54 : Ref sig .tc := ⟨.hbm, 63, rfl⟩
abbrev main_v55 : Ref sig .tc := ⟨.hbm, 64, rfl⟩
abbrev main_cst_5 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩

abbrev nD : Nat := 1
abbrev τ : Topo := Topo.v7x

variable {F : FTy → Type} [FloatOps F]
-- ==== MixOut.lean ====
abbrev S16896x4096 : Shape := ⟨2, ![16896, 4096]⟩
abbrev S4096x4096 : Shape := ⟨2, ![4096, 4096]⟩
abbrev S18x4096 : Shape := ⟨2, ![18, 4096]⟩
abbrev S2x4096 : Shape := ⟨2, ![2, 4096]⟩
abbrev S2x1x1x4096 : Shape := ⟨4, ![2, 1, 1, 4096]⟩
abbrev S2x16x16x4096 : Shape := ⟨4, ![2, 16, 16, 4096]⟩
abbrev S32x16x4096 : Shape := ⟨3, ![32, 16, 4096]⟩
abbrev S16x4096 : Shape := ⟨2, ![16, 4096]⟩
abbrev S1x16x4096 : Shape := ⟨3, ![1, 16, 4096]⟩
abbrev S33x16x4096 : Shape := ⟨3, ![33, 16, 4096]⟩
abbrev S512x4096 : Shape := ⟨2, ![512, 4096]⟩
abbrev S4096x512 : Shape := ⟨2, ![4096, 512]⟩
abbrev S512x512 : Shape := ⟨2, ![512, 512]⟩
abbrev S1x16x512 : Shape := ⟨3, ![1, 16, 512]⟩
abbrev S16x32x512 : Shape := ⟨3, ![16, 32, 512]⟩
abbrev S16x512 : Shape := ⟨2, ![16, 512]⟩
abbrev S16x1x512 : Shape := ⟨3, ![16, 1, 512]⟩

abbrev nBuf : Space → Nat
  | .hbm => 13
  | .vmem => 10
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S16896x4096, .f32⟩
  | .hbm, ⟨3, _⟩ => ⟨S18x4096, .f32⟩
  | .hbm, ⟨4, _⟩ => ⟨S4096x4096, .bf16⟩
  | .hbm, ⟨5, _⟩ => ⟨S2x4096, .f32⟩
  | .hbm, ⟨6, _⟩ => ⟨S2x1x1x4096, .f32⟩
  | .hbm, ⟨7, _⟩ => ⟨S2x16x16x4096, .f32⟩
  | .hbm, ⟨8, _⟩ => ⟨S32x16x4096, .f32⟩
  | .hbm, ⟨9, _⟩ => ⟨S16x4096, .f32⟩
  | .hbm, ⟨10, _⟩ => ⟨S1x16x4096, .f32⟩
  | .hbm, ⟨11, _⟩ => ⟨S33x16x4096, .f32⟩
  | .hbm, ⟨12, _⟩ => ⟨S16896x4096, .f32⟩
  | .local _ .vmem, ⟨0, _⟩ => ⟨S512x4096, .bf16⟩
  | .local _ .vmem, ⟨1, _⟩ => ⟨S512x4096, .bf16⟩
  | .local _ .vmem, ⟨2, _⟩ => ⟨S4096x512, .bf16⟩
  | .local _ .vmem, ⟨3, _⟩ => ⟨S4096x512, .bf16⟩
  | .local _ .vmem, ⟨4, _⟩ => ⟨S512x512, .f32⟩
  | .local _ .vmem, ⟨5, _⟩ => ⟨S512x512, .f32⟩
  | .local _ .vmem, ⟨6, _⟩ => ⟨S1x16x512, .f32⟩
  | .local _ .vmem, ⟨7, _⟩ => ⟨S1x16x512, .f32⟩
  | .local _ .vmem, ⟨8, _⟩ => ⟨S512x512, .f32⟩
  | .local _ .vmem, ⟨9, _⟩ => ⟨S512x512, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![33, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MixOutReferenceIdeal.lean ====
abbrev S16896x4096 : Shape := ⟨2, ![16896, 4096]⟩
abbrev S4096x4096 : Shape := ⟨2, ![4096, 4096]⟩
abbrev S18x4096 : Shape := ⟨2, ![18, 4096]⟩
abbrev S16384x4096 : Shape := ⟨2, ![16384, 4096]⟩
abbrev S2x8192x4096 : Shape := ⟨3, ![2, 8192, 4096]⟩
abbrev S2x4096 : Shape := ⟨2, ![2, 4096]⟩
abbrev S2x1x4096 : Shape := ⟨3, ![2, 1, 4096]⟩
abbrev S512x4096 : Shape := ⟨2, ![512, 4096]⟩
abbrev S16x32x4096 : Shape := ⟨3, ![16, 32, 4096]⟩
abbrev S16x4096 : Shape := ⟨2, ![16, 4096]⟩
abbrev S16x1x4096 : Shape := ⟨3, ![16, 1, 4096]⟩

abbrev nBuf : Space → Nat
  | .hbm => 27
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x4096, .f32⟩
  | .hbm, ⟨2, _⟩ => ⟨S16896x4096, .f32⟩
  | .hbm, ⟨3, _⟩ => ⟨S18x4096, .f32⟩
  | .hbm, ⟨4, _⟩ => ⟨S16896x4096, .f32⟩
  | .hbm, ⟨5, _⟩ => ⟨S16896x4096, .f32⟩
  | .hbm, ⟨6, _⟩ => ⟨S16384x4096, .f32⟩
  | .hbm, ⟨7, _⟩ => ⟨S2x8192x4096, .f32⟩
  | .hbm, ⟨8, _⟩ => ⟨S2x4096, .f32⟩
  | .hbm, ⟨9, _⟩ => ⟨S16384x4096, .f32⟩
  | .hbm, ⟨10, _⟩ => ⟨S2x8192x4096, .f32⟩
  | .hbm, ⟨11, _⟩ => ⟨S2x1x4096, .f32⟩
  | .hbm, ⟨12, _⟩ => ⟨S2x8192x4096, .f32⟩
  | .hbm, ⟨13, _⟩ => ⟨S2x8192x4096, .f32⟩
  | .hbm, ⟨14, _⟩ => ⟨S2x8192x4096, .f32⟩
  | .hbm, ⟨15, _⟩ => ⟨S512x4096, .f32⟩
  | .hbm, ⟨16, _⟩ => ⟨S16x32x4096, .f32⟩
  | .hbm, ⟨17, _⟩ => ⟨S16x4096, .f32⟩
  | .hbm, ⟨18, _⟩ => ⟨S512x4096, .f32⟩
  | .hbm, ⟨19, _⟩ => ⟨S16x32x4096, .f32⟩
  | .hbm, ⟨20, _⟩ => ⟨S16x1x4096, .f32⟩
  | .hbm, ⟨21, _⟩ => ⟨S16x32x4096, .f32⟩
  | .hbm, ⟨22, _⟩ => ⟨S16x32x4096, .f32⟩
  | .hbm, ⟨23, _⟩ => ⟨S16x32x4096, .f32⟩
  | .hbm, ⟨24, _⟩ => ⟨S16384x4096, .f32⟩
  | .hbm, ⟨25, _⟩ => ⟨S512x4096, .f32⟩
  | .hbm, ⟨26, _⟩ => ⟨S16896x4096, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩

abbrev nD : Nat := 1
abbrev τ : Topo := Topo.v7x

variable {F : FTy → Type} [FloatOps F]
-- ==== Qb.lean ====
abbrev S16384x1024 : Shape := ⟨2, ![16384, 1024]⟩
abbrev S1024x3072 : Shape := ⟨2, ![1024, 3072]⟩
abbrev S16384x3072 : Shape := ⟨2, ![16384, 3072]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S1024x3072, .bf16⟩
  | .hbm, ⟨3, _⟩ => ⟨S16384x3072, .f32⟩
  | .local _ .vmem, ⟨0, _⟩ => ⟨S512x1024, .f32⟩
  | .local _ .vmem, ⟨1, _⟩ => ⟨S512x1024, .f32⟩
  | .local _ .vmem, ⟨2, _⟩ => ⟨S1024x512, .bf16⟩
  | .local _ .vmem, ⟨3, _⟩ => ⟨S1024x512, .bf16⟩
  | .local _ .vmem, ⟨4, _⟩ => ⟨S512x512, .f32⟩
  | .local _ .vmem, ⟨5, _⟩ => ⟨S512x512, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== QbReferenceIdeal.lean ====
abbrev S16384x1024 : Shape := ⟨2, ![16384, 1024]⟩
abbrev S1024x3072 : Shape := ⟨2, ![1024, 3072]⟩
abbrev S16384x3072 : Shape := ⟨2, ![16384, 3072]⟩

abbrev nBuf : Space → Nat
  | .hbm => 3
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3072, .f32⟩
  | .hbm, ⟨2, _⟩ => ⟨S16384x3072, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kvb.lean ====
abbrev S16384x512 : Shape := ⟨2, ![16384, 512]⟩
abbrev S512x4096 : Shape := ⟨2, ![512, 4096]⟩
abbrev S16384x4096 : Shape := ⟨2, ![16384, 4096]⟩
abbrev S512x512 : Shape := ⟨2, ![512, 512]⟩

abbrev nBuf : Space → Nat
  | .hbm => 4
  | .vmem => 6
  | .smem => 0
  | _ => 0

abbrev bufTy : (tb : Table) → Fin (tcTables nBuf tb) → BufTy
  | .hbm, ⟨0, _⟩ => ⟨S16384x512, .f32⟩
  | .hbm, ⟨1, _⟩ => ⟨S512x4096, .f32⟩
  | .hbm, ⟨2, _⟩ => ⟨S512x4096, .bf16⟩
  | .hbm, ⟨3, _⟩ => ⟨S16384x4096, .f32⟩
  | .local _ .vmem, ⟨0, _⟩ => ⟨S512x512, .f32⟩
  | .local _ .vmem, ⟨1, _⟩ => ⟨S512x512, .f32⟩
  | .local _ .vmem, ⟨2, _⟩ => ⟨S512x512, .bf16⟩
  | .local _ .vmem, ⟨3, _⟩ => ⟨S512x512, .bf16⟩
  | .local _ .vmem, ⟨4, _⟩ => ⟨S512x512, .f32⟩
  | .local _ .vmem, ⟨5, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvbReferenceIdeal.lean ====
abbrev S16384x512 : Shape := ⟨2, ![16384, 512]⟩
abbrev S512x4096 : Shape := ⟨2, ![512, 4096]⟩
abbrev S16384x4096 : Shape := ⟨2, ![16384, 4096]⟩

abbrev nBuf : Space → Nat
  | .hbm => 3
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x4096, .f32⟩
  | .hbm, ⟨2, _⟩ => ⟨S16384x4096, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== FinalNorm.lean ====
abbrev S16896x4096 : Shape := ⟨2, ![16896, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S1x4096, .f32⟩
  | .hbm, ⟨3, _⟩ => ⟨S16896x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormReferenceIdeal.lean ====
abbrev S16896x4096 : Shape := ⟨2, ![16896, 4096]⟩
abbrev S4096 : Shape := ⟨1, ![4096]⟩
abbrev S_ : Shape := ⟨0, ![]⟩
abbrev S16896 : Shape := ⟨1, ![16896]⟩
abbrev S16896x1 : Shape := ⟨2, ![16896, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S16896x4096, .f32⟩
  | .hbm, ⟨3, _⟩ => ⟨S_, .f32⟩
  | .hbm, ⟨4, _⟩ => ⟨S16896, .f32⟩
  | .hbm, ⟨5, _⟩ => ⟨S16896x1, .f32⟩
  | .hbm, ⟨6, _⟩ => ⟨S_, .f32⟩
  | .hbm, ⟨7, _⟩ => ⟨S16896x1, .f32⟩
  | .hbm, ⟨8, _⟩ => ⟨S16896x1, .f32⟩
  | .hbm, ⟨9, _⟩ => ⟨S_, .f32⟩
  | .hbm, ⟨10, _⟩ => ⟨S16896x1, .f32⟩
  | .hbm, ⟨11, _⟩ => ⟨S16896x1, .f32⟩
  | .hbm, ⟨12, _⟩ => ⟨S16896x1, .f32⟩
  | .hbm, ⟨13, _⟩ => ⟨S16896x4096, .f32⟩
  | .hbm, ⟨14, _⟩ => ⟨S16896x4096, .f32⟩
  | .hbm, ⟨15, _⟩ => ⟨S1x4096, .f32⟩
  | .hbm, ⟨16, _⟩ => ⟨S16896x4096, .f32⟩
  | .hbm, ⟨17, _⟩ => ⟨S16896x4096, .f32⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== NormMod.lean ====
abbrev S16896x4096 : Shape := ⟨2, ![16896, 4096]⟩
abbrev S4096 : Shape := ⟨1, ![4096]⟩
abbrev S18x4096 : Shape := ⟨2, ![18, 4096]⟩
abbrev S1x4096 : Shape := ⟨2, ![1, 4096]⟩
abbrev S2x4096 : Shape := ⟨2, ![2, 4096]⟩
abbrev S2x1x1x4096 : Shape := ⟨4, ![2, 1, 1, 4096]⟩
abbrev S2x16x16x4096 : Shape := ⟨4, ![2, 16, 16, 4096]⟩
abbrev S32x16x4096 : Shape := ⟨3, ![32, 16, 4096]⟩
abbrev S16x4096 : Shape := ⟨2, ![16, 4096]⟩
abbrev S1x16x4096 : Shape := ⟨3, ![1, 16, 4096]⟩
abbrev S33x16x4096 : Shape := ⟨3, ![33, 16, 4096]⟩
abbrev S512x4096 : Shape := ⟨2, ![512, 4096]⟩
abbrev S512 : Shape := ⟨1, ![512]⟩
abbrev S512x1 : Shape := ⟨2, ![512, 1]⟩
abbrev S16x32x4096 : Shape := ⟨3, ![16, 32, 4096]⟩
abbrev S16x1x4096 : Shape := ⟨3, ![16, 1, 4096]⟩

abbrev nBuf : Space → Nat
  | .hbm => 20
  | .vmem => 9
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S18x4096, .f32⟩
  | .hbm, ⟨3, _⟩ => ⟨S18x4096, .f32⟩
  | .hbm, ⟨4, _⟩ => ⟨S1x4096, .f32⟩
  | .hbm, ⟨5, _⟩ => ⟨S2x4096, .f32⟩
  | .hbm, ⟨6, _⟩ => ⟨S2x1x1x4096, .f32⟩
  | .hbm, ⟨7, _⟩ => ⟨S2x16x16x4096, .f32⟩
  | .hbm, ⟨8, _⟩ => ⟨S32x16x4096, .f32⟩
  | .hbm, ⟨9, _⟩ => ⟨S16x4096, .f32⟩
  | .hbm, ⟨10, _⟩ => ⟨S1x16x4096, .f32⟩
  | .hbm, ⟨11, _⟩ => ⟨S33x16x4096, .f32⟩
  | .hbm, ⟨12, _⟩ => ⟨S2x4096, .f32⟩
  | .hbm, ⟨13, _⟩ => ⟨S2x1x1x4096, .f32⟩
  | .hbm, ⟨14, _⟩ => ⟨S2x16x16x4096, .f32⟩
  | .hbm, ⟨15, _⟩ => ⟨S32x16x4096, .f32⟩
  | .hbm, ⟨16, _⟩ => ⟨S16x4096, .f32⟩
  | .hbm, ⟨17, _⟩ => ⟨S1x16x4096, .f32⟩
  | .hbm, ⟨18, _⟩ => ⟨S33x16x4096, .f32⟩
  | .hbm, ⟨19, _⟩ => ⟨S16896x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x16x4096, .f32⟩
  | .local _ .vmem, ⟨4, _⟩ => ⟨S1x16x4096, .f32⟩
  | .local _ .vmem, ⟨5, _⟩ => ⟨S1x16x4096, .f32⟩
  | .local _ .vmem, ⟨6, _⟩ => ⟨S1x16x4096, .f32⟩
  | .local _ .vmem, ⟨7, _⟩ => ⟨S512x4096, .bf16⟩
  | .local _ .vmem, ⟨8, _⟩ => ⟨S512x4096, .bf16⟩
  | _, _ => ⟨S16896x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x16x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormModReferenceIdeal.lean ====
abbrev S16896x4096 : Shape := ⟨2, ![16896, 4096]⟩
abbrev S4096 : Shape := ⟨1, ![4096]⟩
abbrev S18x4096 : Shape := ⟨2, ![18, 4096]⟩
abbrev S16384x4096 : Shape := ⟨2, ![16384, 4096]⟩
abbrev S2x8192x4096 : Shape := ⟨3, ![2, 8192, 4096]⟩
abbrev S2x4096 : Shape := ⟨2, ![2, 4096]⟩
abbrev S_ : Shape := ⟨0, ![]⟩
abbrev S2x8192 : Shape := ⟨2, ![2, 8192]⟩
abbrev S2x8192x1 : Shape := ⟨3, ![2, 8192, 1]⟩
abbrev S1x1x4096 : Shape := ⟨3, ![1, 1, 4096]⟩
abbrev S2x1x4096 : Shape := ⟨3, ![2, 1, 4096]⟩
abbrev S512x4096 : Shape := ⟨2, ![512, 4096]⟩
abbrev S16x32x4096 : Shape := ⟨3, ![16, 32, 4096]⟩
abbrev S16x4096 : Shape := ⟨2, ![16, 4096]⟩
abbrev S16x32 : Shape := ⟨2, ![16, 32]⟩
abbrev S16x32x1 : Shape := ⟨3, ![16, 32, 1]⟩
abbrev S16x1x4096 : Shape := ⟨3, ![16, 1, 4096]⟩

abbrev nBuf : Space → Nat
  | .hbm => 66
  | .vmem => 0
  | .smem => 0
  | _ => 0

abbrev bufTy : (tb : Table) → Fin (tcTables nBuf tb) → BufTy
  | .hbm, ⟨0, _⟩ => ⟨S16896x4096, .f32⟩
  | .hbm, ⟨1, _⟩ => ⟨S4096, .f32⟩
  | .hbm, ⟨2, _⟩ => ⟨S18x4096, .f32⟩
  | .hbm, ⟨3, _⟩ => ⟨S18x4096, .f32⟩
  | .hbm, ⟨4, _⟩ => ⟨S16384x4096, .f32⟩
  | .hbm, ⟨5, _⟩ => ⟨S2x8192x4096, .f32⟩
  | .hbm, ⟨6, _⟩ => ⟨S2x4096, .f32⟩
  | .hbm, ⟨7, _⟩ => ⟨S2x4096, .f32⟩
  | .hbm, ⟨8, _⟩ => ⟨S2x8192x4096, .f32⟩
  | .hbm, ⟨9, _⟩ => ⟨S_, .f32⟩
  | .hbm, ⟨10, _⟩ => ⟨S2x8192, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S_, .f32⟩
  | .hbm, ⟨16, _⟩ => ⟨S2x8192x1, .f32⟩
  | .hbm, ⟨17, _⟩ => ⟨S2x8192x1, .f32⟩
  | .hbm, ⟨18, _⟩ => ⟨S2x8192x1, .f32⟩
  | .hbm, ⟨19, _⟩ => ⟨S2x8192x4096, .f32⟩
  | .hbm, ⟨20, _⟩ => ⟨S2x8192x4096, .f32⟩
  | .hbm, ⟨21, _⟩ => ⟨S1x1x4096, .f32⟩
  | .hbm, ⟨22, _⟩ => ⟨S2x8192x4096, .f32⟩
  | .hbm, ⟨23, _⟩ => ⟨S2x8192x4096, .f32⟩
  | .hbm, ⟨24, _⟩ => ⟨S2x1x4096, .f32⟩
  | .hbm, ⟨25, _⟩ => ⟨S_, .f32⟩
  | .hbm, ⟨26, _⟩ => ⟨S2x1x4096, .f32⟩
  | .hbm, ⟨27, _⟩ => ⟨S2x1x4096, .f32⟩
  | .hbm, ⟨28, _⟩ => ⟨S2x8192x4096, .f32⟩
  | .hbm, ⟨29, _⟩ => ⟨S2x8192x4096, .f32⟩
  | .hbm, ⟨30, _⟩ => ⟨S2x1x4096, .f32⟩
  | .hbm, ⟨31, _⟩ => ⟨S2x8192x4096, .f32⟩
  | .hbm, ⟨32, _⟩ => ⟨S2x8192x4096, .f32⟩
  | .hbm, ⟨33, _⟩ => ⟨S512x4096, .f32⟩
  | .hbm, ⟨34, _⟩ => ⟨S16x32x4096, .f32⟩
  | .hbm, ⟨35, _⟩ => ⟨S16x4096, .f32⟩
  | .hbm, ⟨36, _⟩ => ⟨S16x4096, .f32⟩
  | .hbm, ⟨37, _⟩ => ⟨S16x32x4096, .f32⟩
  | .hbm, ⟨38, _⟩ => ⟨S_, .f32⟩
  | .hbm, ⟨39, _⟩ => ⟨S16x32, .f32⟩
  | .hbm, ⟨40, _⟩ => ⟨S16x32x1, .f32⟩
  | .hbm, ⟨41, _⟩ => ⟨S_, .f32⟩
  | .hbm, ⟨42, _⟩ => ⟨S16x32x1, .f32⟩
  | .hbm, ⟨43, _⟩ => ⟨S16x32x1, .f32⟩
  | .hbm, ⟨44, _⟩ => ⟨S_, .f32⟩
  | .hbm, ⟨45, _⟩ => ⟨S16x32x1, .f32⟩
  | .hbm, ⟨46, _⟩ => ⟨S16x32x1, .f32⟩
  | .hbm, ⟨47, _⟩ => ⟨S16x32x1, .f32⟩
  | .hbm, ⟨48, _⟩ => ⟨S16x32x4096, .f32⟩
  | .hbm, ⟨49, _⟩ => ⟨S16x32x4096, .f32⟩
  | .hbm, ⟨50, _⟩ => ⟨S1x1x4096, .f32⟩
  | .hbm, ⟨51, _⟩ => ⟨S16x32x4096, .f32⟩
  | .hbm, ⟨52, _⟩ => ⟨S16x32x4096, .f32⟩
  | .hbm, ⟨53, _⟩ => ⟨S16x1x4096, .f32⟩
  | .hbm, ⟨54, _⟩ => ⟨S_, .f32⟩
  | .hbm, ⟨55, _⟩ => ⟨S16x1x4096, .f32⟩
  | .hbm, ⟨56, _⟩ => ⟨S16x1x4096, .f32⟩
  | .hbm, ⟨57, _⟩ => ⟨S16x32x4096, .f32⟩
  | .hbm, ⟨58, _⟩ => ⟨S16x32x4096, .f32⟩
  | .hbm, ⟨59, _⟩ => ⟨S16x1x4096, .f32⟩
  | .hbm, ⟨60, _⟩ => ⟨S16x32x4096, .f32⟩
  | .hbm, ⟨61, _⟩ => ⟨S16x32x4096, .f32⟩
  | .hbm, ⟨62, _⟩ => ⟨S16384x4096, .f32⟩
  | .hbm, ⟨63, _⟩ => ⟨S512x4096, .f32⟩
  | .hbm, ⟨64, _⟩ => ⟨S16896x4096, .f32⟩
  | .hbm, ⟨65, _⟩ => ⟨S16896x4096, .bf16⟩
  | _, _ => ⟨S16896x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_3 : Ref sig .tc := ⟨.hbm, 38, rfl⟩
abbrev main_v30 : Ref sig .tc := ⟨.hbm, 39, rfl⟩
abbrev main_v31 : Ref sig .tc := ⟨.hbm, 40, rfl⟩
abbrev main_cst_4 : Ref sig .tc := ⟨.hbm, 41, rfl⟩
abbrev main_v32 : Ref sig .tc := ⟨.hbm, 42, rfl⟩
abbrev main_v33 : Ref sig .tc := ⟨.hbm, 43, rfl⟩
abbrev main_cst_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩

abbrev nD : Nat := 1
abbrev τ : Topo := Topo.v7x

variable {F : FTy → Type} [FloatOps F]
-- ==== Modulation.lean ====
abbrev S18x4096 : Shape := ⟨2, ![18, 4096]⟩
abbrev S4x4096x12288 : Shape := ⟨3, ![4, 4096, 12288]⟩
abbrev S4x12288 : Shape := ⟨2, ![4, 12288]⟩
abbrev S4x1x12288 : Shape := ⟨3, ![4, 1, 12288]⟩
abbrev S4x18x12288 : Shape := ⟨3, ![4, 18, 12288]⟩
abbrev S1x4096x1024 : Shape := ⟨3, ![1, 4096, 1024]⟩
abbrev S1x1x1024 : Shape := ⟨3, ![1, 1, 1024]⟩
abbrev S1x18x1024 : Shape := ⟨3, ![1, 18, 1024]⟩
abbrev S4096x1024 : Shape := ⟨2, ![4096, 1024]⟩
abbrev S18x1024 : Shape := ⟨2, ![18, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S18x4096, .f32⟩
  | .hbm, ⟨1, _⟩ => ⟨S4x4096x12288, .f32⟩
  | .hbm, ⟨2, _⟩ => ⟨S4x12288, .f32⟩
  | .hbm, ⟨3, _⟩ => ⟨S4x1x12288, .f32⟩
  | .hbm, ⟨4, _⟩ => ⟨S4x18x12288, .f32⟩
  | .local _ .vmem, ⟨0, _⟩ => ⟨S18x4096, .f32⟩
  | .local _ .vmem, ⟨1, _⟩ => ⟨S1x4096x1024, .f32⟩
  | .local _ .vmem, ⟨2, _⟩ => ⟨S1x4096x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x18x1024, .f32⟩
  | .local _ .vmem, ⟨6, _⟩ => ⟨S1x18x1024, .f32⟩
  | _, _ => ⟨S18x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S18x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x18x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S18x4096 : Shape := ⟨2, ![18, 4096]⟩
abbrev S4x4096x12288 : Shape := ⟨3, ![4, 4096, 12288]⟩
abbrev S4x12288 : Shape := ⟨2, ![4, 12288]⟩
abbrev S_ : Shape := ⟨0, ![]⟩
abbrev S1x4096x12288 : Shape := ⟨3, ![1, 4096, 12288]⟩
abbrev S4096x12288 : Shape := ⟨2, ![4096, 12288]⟩
abbrev S18x12288 : Shape := ⟨2, ![18, 12288]⟩
abbrev S1x12288 : Shape := ⟨2, ![1, 12288]⟩
abbrev S12288 : Shape := ⟨1, ![12288]⟩
abbrev S1x18x12288 : Shape := ⟨3, ![1, 18, 12288]⟩
abbrev S4x18x12288 : Shape := ⟨3, ![4, 18, 12288]⟩

abbrev nBuf : Space → Nat
  | .hbm => 76
  | .vmem => 0
  | .smem => 0
  | _ => 0

abbrev bufTy : (tb : Table) → Fin (tcTables nBuf tb) → BufTy
  | .hbm, ⟨0, _⟩ => ⟨S18x4096, .f32⟩
  | .hbm, ⟨1, _⟩ => ⟨S4x4096x12288, .f32⟩
  | .hbm, ⟨2, _⟩ => ⟨S4x12288, .f32⟩
  | .hbm, ⟨3, _⟩ => ⟨S18x4096, .f32⟩
  | .hbm, ⟨4, _⟩ => ⟨S18x4096, .f32⟩
  | .hbm, ⟨5, _⟩ => ⟨S_, .f32⟩
  | .hbm, ⟨6, _⟩ => ⟨S18x4096, .f32⟩
  | .hbm, ⟨7, _⟩ => ⟨S18x4096, .f32⟩
  | .hbm, ⟨8, _⟩ => ⟨S_, .f32⟩
  | .hbm, ⟨9, _⟩ => ⟨S18x4096, .f32⟩
  | .hbm, ⟨10, _⟩ => ⟨S18x4096, .f32⟩
  | .hbm, ⟨11, _⟩ => ⟨S18x4096, .f32⟩
  | .hbm, ⟨12, _⟩ => ⟨S1x4096x12288, .f32⟩
  | .hbm, ⟨13, _⟩ => ⟨S4096x12288, .f32⟩
  | .hbm, ⟨14, _⟩ => ⟨S18x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S18x12288, .f32⟩
  | .hbm, ⟨19, _⟩ => ⟨S18x12288, .f32⟩
  | .hbm, ⟨20, _⟩ => ⟨S18x4096, .f32⟩
  | .hbm, ⟨21, _⟩ => ⟨S18x4096, .f32⟩
  | .hbm, ⟨22, _⟩ => ⟨S_, .f32⟩
  | .hbm, ⟨23, _⟩ => ⟨S18x4096, .f32⟩
  | .hbm, ⟨24, _⟩ => ⟨S18x4096, .f32⟩
  | .hbm, ⟨25, _⟩ => ⟨S_, .f32⟩
  | .hbm, ⟨26, _⟩ => ⟨S18x4096, .f32⟩
  | .hbm, ⟨27, _⟩ => ⟨S18x4096, .f32⟩
  | .hbm, ⟨28, _⟩ => ⟨S18x4096, .f32⟩
  | .hbm, ⟨29, _⟩ => ⟨S1x4096x12288, .f32⟩
  | .hbm, ⟨30, _⟩ => ⟨S4096x12288, .f32⟩
  | .hbm, ⟨31, _⟩ => ⟨S18x12288, .f32⟩
  | .hbm, ⟨32, _⟩ => ⟨S1x12288, .f32⟩
  | .hbm, ⟨33, _⟩ => ⟨S12288, .f32⟩
  | .hbm, ⟨34, _⟩ => ⟨S1x12288, .f32⟩
  | .hbm, ⟨35, _⟩ => ⟨S18x12288, .f32⟩
  | .hbm, ⟨36, _⟩ => ⟨S18x12288, .f32⟩
  | .hbm, ⟨37, _⟩ => ⟨S18x4096, .f32⟩
  | .hbm, ⟨38, _⟩ => ⟨S18x4096, .f32⟩
  | .hbm, ⟨39, _⟩ => ⟨S_, .f32⟩
  | .hbm, ⟨40, _⟩ => ⟨S18x4096, .f32⟩
  | .hbm, ⟨41, _⟩ => ⟨S18x4096, .f32⟩
  | .hbm, ⟨42, _⟩ => ⟨S_, .f32⟩
  | .hbm, ⟨43, _⟩ => ⟨S18x4096, .f32⟩
  | .hbm, ⟨44, _⟩ => ⟨S18x4096, .f32⟩
  | .hbm, ⟨45, _⟩ => ⟨S18x4096, .f32⟩
  | .hbm, ⟨46, _⟩ => ⟨S1x4096x12288, .f32⟩
  | .hbm, ⟨47, _⟩ => ⟨S4096x12288, .f32⟩
  | .hbm, ⟨48, _⟩ => ⟨S18x12288, .f32⟩
  | .hbm, ⟨49, _⟩ => ⟨S1x12288, .f32⟩
  | .hbm, ⟨50, _⟩ => ⟨S12288, .f32⟩
  | .hbm, ⟨51, _⟩ => ⟨S1x12288, .f32⟩
  | .hbm, ⟨52, _⟩ => ⟨S18x12288, .f32⟩
  | .hbm, ⟨53, _⟩ => ⟨S18x12288, .f32⟩
  | .hbm, ⟨54, _⟩ => ⟨S18x4096, .f32⟩
  | .hbm, ⟨55, _⟩ => ⟨S18x4096, .f32⟩
  | .hbm, ⟨56, _⟩ => ⟨S_, .f32⟩
  | .hbm, ⟨57, _⟩ => ⟨S18x4096, .f32⟩
  | .hbm, ⟨58, _⟩ => ⟨S18x4096, .f32⟩
  | .hbm, ⟨59, _⟩ => ⟨S_, .f32⟩
  | .hbm, ⟨60, _⟩ => ⟨S18x4096, .f32⟩
  | .hbm, ⟨61, _⟩ => ⟨S18x4096, .f32⟩
  | .hbm, ⟨62, _⟩ => ⟨S18x4096, .f32⟩
  | .hbm, ⟨63, _⟩ => ⟨S1x4096x12288, .f32⟩
  | .hbm, ⟨64, _⟩ => ⟨S4096x12288, .f32⟩
  | .hbm, ⟨65, _⟩ => ⟨S18x12288, .f32⟩
  | .hbm, ⟨66, _⟩ => ⟨S1x12288, .f32⟩
  | .hbm, ⟨67, _⟩ => ⟨S12288, .f32⟩
  | .hbm, ⟨68, _⟩ => ⟨S1x12288, .f32⟩
  | .hbm, ⟨69, _⟩ => ⟨S18x12288, .f32⟩
  | .hbm, ⟨70, _⟩ => ⟨S18x12288, .f32⟩
  | .hbm, ⟨71, _⟩ => ⟨S1x18x12288, .f32⟩
  | .hbm, ⟨72, _⟩ => ⟨S1x18x12288, .f32⟩
  | .hbm, ⟨73, _⟩ => ⟨S1x18x12288, .f32⟩
  | .hbm, ⟨74, _⟩ => ⟨S1x18x12288, .f32⟩
  | .hbm, ⟨75, _⟩ => ⟨S4x18x12288, .f32⟩
  | _, _ => ⟨S18x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== OddRotary.lean ====
abbrev S16896x4096 : Shape := ⟨2, ![16896, 4096]⟩
abbrev S4096x6816 : Shape := ⟨2, ![4096, 6816]⟩
abbrev S4096x1024 : Shape := ⟨2, ![4096, 1024]⟩
abbrev S4096x512 : Shape := ⟨2, ![4096, 512]⟩
abbrev S4096x64 : Shape := ⟨2, ![4096, 64]⟩
abbrev S4096x2048 : Shape := ⟨2, ![4096, 2048]⟩
abbrev S4096x32 : Shape := ⟨2, ![4096, 32]⟩
abbrev S_ : Shape := ⟨0, ![]⟩
abbrev S4096x6912 : Shape := ⟨2, ![4096, 6912]⟩
abbrev S16896x6912 : Shape := ⟨2, ![16896, 6912]⟩
abbrev S512x4096 : Shape := ⟨2, ![512, 4096]⟩
abbrev S4096x768 : Shape := ⟨2, ![4096, 768]⟩
abbrev S512x768 : Shape := ⟨2, ![512, 768]⟩
abbrev S8192 : Shape := ⟨1, ![8192]⟩
abbrev S32 : Shape := ⟨1, ![32]⟩
abbrev S16384x2048 : Shape := ⟨2, ![16384, 2048]⟩
abbrev S2x8192x2048 : Shape := ⟨3, ![2, 8192, 2048]⟩
abbrev S16384x1024 : Shape := ⟨2, ![16384, 1024]⟩
abbrev S2x8192x1024 : Shape := ⟨3, ![2, 8192, 1024]⟩
abbrev S16384x512 : Shape := ⟨2, ![16384, 512]⟩
abbrev S2x8192x512 : Shape := ⟨3, ![2, 8192, 512]⟩
abbrev S16384x64 : Shape := ⟨2, ![16384, 64]⟩
abbrev S2x8192x64 : Shape := ⟨3, ![2, 8192, 64]⟩
abbrev S16384x32 : Shape := ⟨2, ![16384, 32]⟩
abbrev S2x8192x32 : Shape := ⟨3, ![2, 8192, 32]⟩
abbrev S8192x1 : Shape := ⟨2, ![8192, 1]⟩
abbrev S1x32 : Shape := ⟨2, ![1, 32]⟩
abbrev S8192x32 : Shape := ⟨2, ![8192, 32]⟩
abbrev S1x8192x32 : Shape := ⟨3, ![1, 8192, 32]⟩
abbrev S512x2048 : Shape := ⟨2, ![512, 2048]⟩
abbrev S16x32x2048 : Shape := ⟨3, ![16, 32, 2048]⟩
abbrev S512x1024 : Shape := ⟨2, ![512, 1024]⟩
abbrev S16x32x1024 : Shape := ⟨3, ![16, 32, 1024]⟩
abbrev S512x512 : Shape := ⟨2, ![512, 512]⟩
abbrev S16x32x512 : Shape := ⟨3, ![16, 32, 512]⟩
abbrev S512x64 : Shape := ⟨2, ![512, 64]⟩
abbrev S16x32x64 : Shape := ⟨3, ![16, 32, 64]⟩
abbrev S512x32 : Shape := ⟨2, ![512, 32]⟩
abbrev S16x32x32 : Shape := ⟨3, ![16, 32, 32]⟩
abbrev S32x1 : Shape := ⟨2, ![32, 1]⟩
abbrev S32x32 : Shape := ⟨2, ![32, 32]⟩
abbrev S1x32x32 : Shape := ⟨3, ![1, 32, 32]⟩

abbrev nBuf : Space → Nat
  | .hbm => 136
  | .vmem => 6
  | .smem => 0
  | _ => 0

abbrev hbmTy0_0 (i : Nat) : BufTy := match i % 128 with
  | 0 => ⟨S16896x4096, .bf16⟩
  | 1 => ⟨S4096x6816, .f32⟩
  | 2 => ⟨S4096x1024, .f32⟩
  | 3 => ⟨S4096x512, .f32⟩
  | 4 => ⟨S4096x64, .f32⟩
  | 5 => ⟨S4096x2048, .f32⟩
  | 6 => ⟨S4096x512, .f32⟩
  | 7 => ⟨S4096x512, .f32⟩
  | 8 => ⟨S4096x2048, .f32⟩
  | 9 => ⟨S4096x64, .f32⟩
  | 10 => ⟨S4096x32, .f32⟩
  | 11 => ⟨S4096x6816, .f32⟩
  | 12 => ⟨S4096x6816, .bf16⟩
  | 13 => ⟨S_, .i32⟩
  | 14 => ⟨S_, .bf16⟩
  | 15 => ⟨S4096x6912, .bf16⟩
  | 16 => ⟨S16896x6912, .f32⟩
  | 17 => ⟨S8192, .i32⟩
  | 18 => ⟨S32, .i32⟩
  | 19 => ⟨S_, .i32⟩
  | 20 => ⟨S32, .i32⟩
  | 21 => ⟨S32, .i32⟩
  | 22 => ⟨S16384x2048, .f32⟩
  | 23 => ⟨S2x8192x2048, .f32⟩
  | 24 => ⟨S16384x2048, .f32⟩
  | 25 => ⟨S2x8192x2048, .f32⟩
  | 26 => ⟨S16384x1024, .f32⟩
  | 27 => ⟨S2x8192x1024, .f32⟩
  | 28 => ⟨S16384x512, .f32⟩
  | 29 => ⟨S2x8192x512, .f32⟩
  | 30 => ⟨S16384x512, .f32⟩
  | 31 => ⟨S2x8192x512, .f32⟩
  | 32 => ⟨S16384x512, .f32⟩
  | 33 => ⟨S2x8192x512, .f32⟩
  | 34 => ⟨S16384x64, .f32⟩
  | 35 => ⟨S2x8192x64, .f32⟩
  | 36 => ⟨S16384x64, .f32⟩
  | 37 => ⟨S2x8192x64, .f32⟩
  | 38 => ⟨S16384x32, .f32⟩
  | 39 => ⟨S2x8192x32, .f32⟩
  | 40 => ⟨S32, .f32⟩
  | 41 => ⟨S_, .f32⟩
  | 42 => ⟨S32, .f32⟩
  | 43 => ⟨S32, .f32⟩
  | 44 => ⟨S_, .f32⟩
  | 45 => ⟨S32, .f32⟩
  | 46 => ⟨S32, .f32⟩
  | 47 => ⟨S_, .f32⟩
  | 48 => ⟨S32, .f32⟩
  | 49 => ⟨S32, .f32⟩
  | 50 => ⟨S_, .f32⟩
  | 51 => ⟨S32, .f32⟩
  | 52 => ⟨S32, .f32⟩
  | 53 => ⟨S32, .f32⟩
  | 54 => ⟨S8192, .f32⟩
  | 55 => ⟨S8192x1, .f32⟩
  | 56 => ⟨S1x32, .f32⟩
  | 57 => ⟨S8192x32, .f32⟩
  | 58 => ⟨S8192x32, .f32⟩
  | 59 => ⟨S8192x32, .f32⟩
  | 60 => ⟨S8192x32, .f32⟩
  | 61 => ⟨S8192x32, .f32⟩
  | 62 => ⟨S2x8192x32, .f32⟩
  | 63 => ⟨S2x8192x32, .f32⟩
  | 64 => ⟨S1x8192x32, .f32⟩
  | 65 => ⟨S2x8192x32, .f32⟩
  | 66 => ⟨S2x8192x32, .f32⟩
  | 67 => ⟨S1x8192x32, .f32⟩
  | 68 => ⟨S2x8192x32, .f32⟩
  | 69 => ⟨S2x8192x32, .f32⟩
  | 70 => ⟨S2x8192x32, .f32⟩
  | 71 => ⟨S1x8192x32, .f32⟩
  | 72 => ⟨S2x8192x32, .f32⟩
  | 73 => ⟨S2x8192x32, .f32⟩
  | 74 => ⟨S1x8192x32, .f32⟩
  | 75 => ⟨S2x8192x32, .f32⟩
  | 76 => ⟨S2x8192x32, .f32⟩
  | 77 => ⟨S2x8192x32, .f32⟩
  | 78 => ⟨S2x8192x64, .f32⟩
  | 79 => ⟨S512x2048, .f32⟩
  | 80 => ⟨S16x32x2048, .f32⟩
  | 81 => ⟨S512x2048, .f32⟩
  | 82 => ⟨S16x32x2048, .f32⟩
  | 83 => ⟨S512x1024, .f32⟩
  | 84 => ⟨S16x32x1024, .f32⟩
  | 85 => ⟨S512x512, .f32⟩
  | 86 => ⟨S16x32x512, .f32⟩
  | 87 => ⟨S512x512, .f32⟩
  | 88 => ⟨S16x32x512, .f32⟩
  | 89 => ⟨S512x512, .f32⟩
  | 90 => ⟨S16x32x512, .f32⟩
  | 91 => ⟨S512x64, .f32⟩
  | 92 => ⟨S16x32x64, .f32⟩
  | 93 => ⟨S512x64, .f32⟩
  | 94 => ⟨S16x32x64, .f32⟩
  | 95 => ⟨S512x32, .f32⟩
  | 96 => ⟨S16x32x32, .f32⟩
  | 97 => ⟨S32, .f32⟩
  | 98 => ⟨S_, .f32⟩
  | 99 => ⟨S32, .f32⟩
  | 100 => ⟨S32, .f32⟩
  | 101 => ⟨S_, .f32⟩
  | 102 => ⟨S32, .f32⟩
  | 103 => ⟨S32, .f32⟩
  | 104 => ⟨S_, .f32⟩
  | 105 => ⟨S32, .f32⟩
  | 106 => ⟨S32, .f32⟩
  | 107 => ⟨S_, .f32⟩
  | 108 => ⟨S32, .f32⟩
  | 109 => ⟨S32, .f32⟩
  | 110 => ⟨S32, .f32⟩
  | 111 => ⟨S32, .f32⟩
  | 112 => ⟨S32x1, .f32⟩
  | 113 => ⟨S1x32, .f32⟩
  | 114 => ⟨S32x32, .f32⟩
  | 115 => ⟨S32x32, .f32⟩
  | 116 => ⟨S32x32, .f32⟩
  | 117 => ⟨S32x32, .f32⟩
  | 118 => ⟨S32x32, .f32⟩
  | 119 => ⟨S16x32x32, .f32⟩
  | 120 => ⟨S16x32x32, .f32⟩
  | 121 => ⟨S1x32x32, .f32⟩
  | 122 => ⟨S16x32x32, .f32⟩
  | 123 => ⟨S16x32x32, .f32⟩
  | 124 => ⟨S1x32x32, .f32⟩
  | 125 => ⟨S16x32x32, .f32⟩
  | 126 => ⟨S16x32x32, .f32⟩
  | 127 => ⟨S16x32x32, .f32⟩
  | _ => ⟨S16896x4096, .bf16⟩

abbrev hbmTy0_1 (i : Nat) : BufTy := match i % 128 with
  | 0 => ⟨S1x32x32, .f32⟩
  | 1 => ⟨S16x32x32, .f32⟩
  | 2 => ⟨S16x32x32, .f32⟩
  | 3 => ⟨S1x32x32, .f32⟩
  | 4 => ⟨S16x32x32, .f32⟩
  | 5 => ⟨S16x32x32, .f32⟩
  | 6 => ⟨S16x32x32, .f32⟩
  | 7 => ⟨S16x32x64, .f32⟩
  | _ => ⟨S16896x4096, .bf16⟩

abbrev hbmTy (i : Nat) : BufTy := match i / 128 with
  | 0 => hbmTy0_0 i
  | 1 => hbmTy0_1 i
  | _ => ⟨S16896x4096, .bf16⟩

abbrev bufTy : (tb : Table) → Fin (tcTables nBuf tb) → BufTy
  | .hbm, ⟨i, _⟩ => hbmTy i
  | .local _ .vmem, ⟨0, _⟩ => ⟨S512x4096, .bf16⟩
  | .local _ .vmem, ⟨1, _⟩ => ⟨S512x4096, .bf16⟩
  | .local _ .vmem, ⟨2, _⟩ => ⟨S4096x768, .bf16⟩
  | .local _ .vmem, ⟨3, _⟩ => ⟨S4096x768, .bf16⟩
  | .local _ .vmem, ⟨4, _⟩ => ⟨S512x768, .f32⟩
  | .local _ .vmem, ⟨5, _⟩ => ⟨S512x768, .f32⟩
  | _, _ => ⟨S16896x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_call0_v0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_cst : Ref sig .tc := ⟨.hbm, 41, rfl⟩
abbrev main_v36 : Ref sig .tc := ⟨.hbm, 42, rfl⟩
abbrev main_v37 : Ref sig .tc := ⟨.hbm, 43, rfl⟩
abbrev main_cst_1 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_cst_4 : Ref sig .tc := ⟨.hbm, 98, rfl⟩
abbrev main_v89 : Ref sig .tc := ⟨.hbm, 99, rfl⟩
abbrev main_v90 : Ref sig .tc := ⟨.hbm, 100, rfl⟩
abbrev main_cst_5 : Ref sig .tc := ⟨.hbm, 101, rfl⟩
abbrev main_v91 : Ref sig .tc := ⟨.hbm, 102, rfl⟩
abbrev main_v92 : Ref sig .tc := ⟨.hbm, 103, rfl⟩
abbrev main_cst_6 : Ref sig .tc := ⟨.hbm, 104, rfl⟩
abbrev main_v93 : Ref sig .tc := ⟨.hbm, 105, rfl⟩
abbrev main_v94 : Ref sig .tc := ⟨.hbm, 106, rfl⟩
abbrev main_cst_7 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![33, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddRotaryReferenceIdeal.lean ====
abbrev S16896x4096 : Shape := ⟨2, ![16896, 4096]⟩
abbrev S4096x6816 : Shape := ⟨2, ![4096, 6816]⟩
abbrev S16896x6816 : Shape := ⟨2, ![16896, 6816]⟩
abbrev S16384x6816 : Shape := ⟨2, ![16384, 6816]⟩
abbrev S2x8192x6816 : Shape := ⟨3, ![2, 8192, 6816]⟩
abbrev S2x8192x64 : Shape := ⟨3, ![2, 8192, 64]⟩
abbrev S512x6816 : Shape := ⟨2, ![512, 6816]⟩
abbrev S16x32x6816 : Shape := ⟨3, ![16, 32, 6816]⟩
abbrev S16x32x64 : Shape := ⟨3, ![16, 32, 64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S2x8192x32 : Shape := ⟨3, ![2, 8192, 32]⟩
abbrev S1x8192x32 : Shape := ⟨3, ![1, 8192, 32]⟩
abbrev S32x1 : Shape := ⟨2, ![32, 1]⟩
abbrev S32x32 : Shape := ⟨2, ![32, 32]⟩
abbrev S16x32x32 : Shape := ⟨3, ![16, 32, 32]⟩
abbrev S1x32x32 : Shape := ⟨3, ![1, 32, 32]⟩

abbrev nBuf : Space → Nat
  | .hbm => 93
  | .vmem => 0
  | .smem => 0
  | _ => 0

abbrev bufTy : (tb : Table) → Fin (tcTables nBuf tb) → BufTy
  | .hbm, ⟨0, _⟩ => ⟨S16896x4096, .bf16⟩
  | .hbm, ⟨1, _⟩ => ⟨S4096x6816, .f32⟩
  | .hbm, ⟨2, _⟩ => ⟨S16896x4096, .f32⟩
  | .hbm, ⟨3, _⟩ => ⟨S16896x6816, .f32⟩
  | .hbm, ⟨4, _⟩ => ⟨S16384x6816, .f32⟩
  | .hbm, ⟨5, _⟩ => ⟨S2x8192x6816, .f32⟩
  | .hbm, ⟨6, _⟩ => ⟨S2x8192x64, .f32⟩
  | .hbm, ⟨7, _⟩ => ⟨S512x6816, .f32⟩
  | .hbm, ⟨8, _⟩ => ⟨S16x32x6816, .f32⟩
  | .hbm, ⟨9, _⟩ => ⟨S16x32x64, .f32⟩
  | .hbm, ⟨10, _⟩ => ⟨S8192, .i32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S8192, .f32⟩
  | .hbm, ⟨26, _⟩ => ⟨S8192x1, .f32⟩
  | .hbm, ⟨27, _⟩ => ⟨S1x32, .f32⟩
  | .hbm, ⟨28, _⟩ => ⟨S8192x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x32, .f32⟩
  | .hbm, ⟨33, _⟩ => ⟨S2x8192x32, .f32⟩
  | .hbm, ⟨34, _⟩ => ⟨S2x8192x32, .f32⟩
  | .hbm, ⟨35, _⟩ => ⟨S1x8192x32, .f32⟩
  | .hbm, ⟨36, _⟩ => ⟨S2x8192x32, .f32⟩
  | .hbm, ⟨37, _⟩ => ⟨S2x8192x32, .f32⟩
  | .hbm, ⟨38, _⟩ => ⟨S1x8192x32, .f32⟩
  | .hbm, ⟨39, _⟩ => ⟨S2x8192x32, .f32⟩
  | .hbm, ⟨40, _⟩ => ⟨S2x8192x32, .f32⟩
  | .hbm, ⟨41, _⟩ => ⟨S2x8192x32, .f32⟩
  | .hbm, ⟨42, _⟩ => ⟨S1x8192x32, .f32⟩
  | .hbm, ⟨43, _⟩ => ⟨S2x8192x32, .f32⟩
  | .hbm, ⟨44, _⟩ => ⟨S2x8192x32, .f32⟩
  | .hbm, ⟨45, _⟩ => ⟨S1x8192x32, .f32⟩
  | .hbm, ⟨46, _⟩ => ⟨S2x8192x32, .f32⟩
  | .hbm, ⟨47, _⟩ => ⟨S2x8192x32, .f32⟩
  | .hbm, ⟨48, _⟩ => ⟨S2x8192x32, .f32⟩
  | .hbm, ⟨49, _⟩ => ⟨S2x8192x64, .f32⟩
  | .hbm, ⟨50, _⟩ => ⟨S32, .i32⟩
  | .hbm, ⟨51, _⟩ => ⟨S_, .i32⟩
  | .hbm, ⟨52, _⟩ => ⟨S32, .i32⟩
  | .hbm, ⟨53, _⟩ => ⟨S32, .i32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S_, .f32⟩
  | .hbm, ⟨65, _⟩ => ⟨S32, .f32⟩
  | .hbm, ⟨66, _⟩ => ⟨S32, .f32⟩
  | .hbm, ⟨67, _⟩ => ⟨S32, .f32⟩
  | .hbm, ⟨68, _⟩ => ⟨S32, .f32⟩
  | .hbm, ⟨69, _⟩ => ⟨S32x1, .f32⟩
  | .hbm, ⟨70, _⟩ => ⟨S1x32, .f32⟩
  | .hbm, ⟨71, _⟩ => ⟨S32x32, .f32⟩
  | .hbm, ⟨72, _⟩ => ⟨S32x32, .f32⟩
  | .hbm, ⟨73, _⟩ => ⟨S32x32, .f32⟩
  | .hbm, ⟨74, _⟩ => ⟨S32x32, .f32⟩
  | .hbm, ⟨75, _⟩ => ⟨S32x32, .f32⟩
  | .hbm, ⟨76, _⟩ => ⟨S16x32x32, .f32⟩
  | .hbm, ⟨77, _⟩ => ⟨S16x32x32, .f32⟩
  | .hbm, ⟨78, _⟩ => ⟨S1x32x32, .f32⟩
  | .hbm, ⟨79, _⟩ => ⟨S16x32x32, .f32⟩
  | .hbm, ⟨80, _⟩ => ⟨S16x32x32, .f32⟩
  | .hbm, ⟨81, _⟩ => ⟨S1x32x32, .f32⟩
  | .hbm, ⟨82, _⟩ => ⟨S16x32x32, .f32⟩
  | .hbm, ⟨83, _⟩ => ⟨S16x32x32, .f32⟩
  | .hbm, ⟨84, _⟩ => ⟨S16x32x32, .f32⟩
  | .hbm, ⟨85, _⟩ => ⟨S1x32x32, .f32⟩
  | .hbm, ⟨86, _⟩ => ⟨S16x32x32, .f32⟩
  | .hbm, ⟨87, _⟩ => ⟨S16x32x32, .f32⟩
  | .hbm, ⟨88, _⟩ => ⟨S1x32x32, .f32⟩
  | .hbm, ⟨89, _⟩ => ⟨S16x32x32, .f32⟩
  | .hbm, ⟨90, _⟩ => ⟨S16x32x32, .f32⟩
  | .hbm, ⟨91, _⟩ => ⟨S16x32x32, .f32⟩
  | .hbm, ⟨92, _⟩ => ⟨S16x32x64, .f32⟩
  | _, _ => ⟨S16896x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_cst_1 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_c : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_cst_3 : Ref sig .tc := ⟨.hbm, 55, rfl⟩
abbrev main_v48 : Ref sig .tc := ⟨.hbm, 56, rfl⟩
abbrev main_v49 : Ref sig .tc := ⟨.hbm, 57, rfl⟩
abbrev main_cst_4 : Ref sig .tc := ⟨.hbm, 58, rfl⟩
abbrev main_v50 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩

abbrev nD : Nat := 1
abbrev τ : Topo := Topo.v7x

variable {F : FTy → Type} [FloatOps F]
-- ==== Proof.KernelBody.lean ====
/- The body of the kernel as written, at any point and any contents: it runs, keeps its inputs, and owns its buffers afterwards. -/
module

public import proofs.«01_k».proof.Proof.Gen.Kernel.Frame
public import proofs.«01_k».proof.Proof.Gen.Kernel.Skeleton

@[expose] public section

set_option maxRecDepth 16384

noncomputable section

namespace Cert.Kernel.Mla

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

/-- The first branch's condition: the key tile is the first of its row. -/
abbrev isFirst (i : grid0.Coords) : Prop := (Scalar.cmpi .ne (Scalar.extui (Scalar.cmpi .eq (BitVec.ofNat 32 (i 3).val) 0#32)) 0#32) = 1#1
/-- The second branch's condition: the key tile lies before the query tile. -/
abbrev isBelow (i : grid0.Coords) : Prop := (Scalar.cmpi .ne (Scalar.extui (Scalar.cmpi .slt (BitVec.ofNat 32 (i 3).val) (BitVec.ofNat 32 (i 2).val))) 0#32) = 1#1
/-- The third branch's condition: the key tile is the query tile. -/
abbrev isDiag (i : grid0.Coords) : Prop := k0_cond3 i = 1#1

/-- What the body needs and what it gives back: the three input blocks at their contents, the other buffers at some contents. -/
def held (c : Dev nD) (arg4 : Memref sig .tc .vmem S1x512x512 .bf16) (arg5 : Memref sig .tc .vmem S1x512x512 .bf16) (arg6 : Memref sig .tc .vmem S1x512x512 .bf16) (arg7 : Memref sig .tc .vmem S1x512x256 .bf16) (arg8 : Memref sig .tc .vmem S2x512x1 .f32) (arg9 : Memref sig .tc .vmem S512x512 .f32)
    (x0 x1 x2 : Vec F S1x512x512 .bf16) : sProp 𝕄 :=
  iprop(owns (c : Thread nD τ) arg4 fullShare x0 ∗ owns (c : Thread nD τ) arg5 fullShare x1 ∗ owns (c : Thread nD τ) arg6 fullShare x2
    ∗ (∃ d, owns (c : Thread nD τ) arg7 fullShare d) ∗ (∃ d, owns (c : Thread nD τ) arg8 fullShare d) ∗ (∃ d, owns (c : Thread nD τ) arg9 fullShare d))

variable (c : Dev nD) (i : grid0.Coords) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x256 .bf16) (harg7 : arg7.IsWhole) (arg8 : Memref sig .tc .vmem S2x512x1 .f32) (harg8 : arg8.IsWhole) (arg9 : Memref sig .tc .vmem S512x512 .f32) (harg9 : arg9.IsWhole)
    (x0 x1 x2 : Vec F S1x512x512 .bf16)

set_option maxHeartbeats 4000000 in
/-- The body at the only key tile of its row. -/
theorem firstDiag (hc0 : isFirst i) (hc1 : ¬isBelow i) (hc2 : isDiag i) (E : Set ℕ) (K : PUnit → sProp 𝕄) :
    iprop(held c arg4 arg5 arg6 arg7 arg8 arg9 x0 x1 x2 ∗ (held c arg4 arg5 arg6 arg7 arg8 arg9 x0 x1 x2 -∗ K ⟨⟩))
      ⊢ wp frame (wpE (defs₀ (F := F)) Variants.none c none) E (cc0_mla_prompt i arg4 harg4 arg5 harg5 arg6 harg6 arg7 harg7 arg8 harg8 arg9 harg9) K := by
    simp only [cc0_mla_prompt_eq_skeleton]; unfold cc0_mla_prompt_skel
    simp only [k0_part1_eq_skeleton, k0_part2_eq_skeleton, k0_part3_eq_skeleton, k0_part4_eq_skeleton, k0_part5_eq_skeleton]
    unfold held owns
    iintro ⟨⟨⟨%f0, %hf0, H0⟩, ⟨%f1, %hf1, H1⟩, ⟨%f2, %hf2, H2⟩, ⟨%d3, %f3, %hf3, H3⟩, ⟨%ds0, %fs0, %hfs0, HS0⟩, ⟨%ds1, %fs1, %hfs1, HS1⟩⟩, Hk⟩
    obtain rfl := harg4.eq_unread hf0; obtain rfl := harg5.eq_unread hf1; obtain rfl := harg6.eq_unread hf2
    obtain rfl := harg7.eq_unread hf3; obtain rfl := harg8.eq_unread hfs0; obtain rfl := harg9.eq_unread hfs1
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

set_option maxHeartbeats 4000000 in
/-- The body at the first key tile of a longer row. -/
theorem firstBelow (hc0 : isFirst i) (hc1 : isBelow i) (hc2 : ¬isDiag i) (E : Set ℕ) (K : PUnit → sProp 𝕄) :
    iprop(held c arg4 arg5 arg6 arg7 arg8 arg9 x0 x1 x2 ∗ (held c arg4 arg5 arg6 arg7 arg8 arg9 x0 x1 x2 -∗ K ⟨⟩))
      ⊢ wp frame (wpE (defs₀ (F := F)) Variants.none c none) E (cc0_mla_prompt i arg4 harg4 arg5 harg5 arg6 harg6 arg7 harg7 arg8 harg8 arg9 harg9) K := by
    simp only [cc0_mla_prompt_eq_skeleton]; unfold cc0_mla_prompt_skel
    simp only [k0_part1_eq_skeleton, k0_part2_eq_skeleton, k0_part3_eq_skeleton, k0_part4_eq_skeleton, k0_part5_eq_skeleton]
    unfold held owns
    iintro ⟨⟨⟨%f0, %hf0, H0⟩, ⟨%f1, %hf1, H1⟩, ⟨%f2, %hf2, H2⟩, ⟨%d3, %f3, %hf3, H3⟩, ⟨%ds0, %fs0, %hfs0, HS0⟩, ⟨%ds1, %fs1, %hfs1, HS1⟩⟩, Hk⟩
    obtain rfl := harg4.eq_unread hf0; obtain rfl := harg5.eq_unread hf1; obtain rfl := harg6.eq_unread hf2
    obtain rfl := harg7.eq_unread hf3; obtain rfl := harg8.eq_unread hfs0; obtain rfl := harg9.eq_unread hfs1
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

set_option maxHeartbeats 4000000 in
/-- The body at the last key tile of a longer row. -/
theorem diag (hc0 : ¬isFirst i) (hc1 : ¬isBelow i) (hc2 : isDiag i) (E : Set ℕ) (K : PUnit → sProp 𝕄) :
    iprop(held c arg4 arg5 arg6 arg7 arg8 arg9 x0 x1 x2 ∗ (held c arg4 arg5 arg6 arg7 arg8 arg9 x0 x1 x2 -∗ K ⟨⟩))
      ⊢ wp frame (wpE (defs₀ (F := F)) Variants.none c none) E (cc0_mla_prompt i arg4 harg4 arg5 harg5 arg6 harg6 arg7 harg7 arg8 harg8 arg9 harg9) K := by
    simp only [cc0_mla_prompt_eq_skeleton]; unfold cc0_mla_prompt_skel
    simp only [k0_part1_eq_skeleton, k0_part2_eq_skeleton, k0_part3_eq_skeleton, k0_part4_eq_skeleton, k0_part5_eq_skeleton]
    unfold held owns
    iintro ⟨⟨⟨%f0, %hf0, H0⟩, ⟨%f1, %hf1, H1⟩, ⟨%f2, %hf2, H2⟩, ⟨%d3, %f3, %hf3, H3⟩, ⟨%ds0, %fs0, %hfs0, HS0⟩, ⟨%ds1, %fs1, %hfs1, HS1⟩⟩, Hk⟩
    obtain rfl := harg4.eq_unread hf0; obtain rfl := harg5.eq_unread hf1; obtain rfl := harg6.eq_unread hf2
    obtain rfl := harg7.eq_unread hf3; obtain rfl := harg8.eq_unread hfs0; obtain rfl := harg9.eq_unread hfs1
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

set_option maxHeartbeats 4000000 in
/-- The body at a key tile within its row. -/
theorem below (hc0 : ¬isFirst i) (hc1 : isBelow i) (hc2 : ¬isDiag i) (E : Set ℕ) (K : PUnit → sProp 𝕄) :
    iprop(held c arg4 arg5 arg6 arg7 arg8 arg9 x0 x1 x2 ∗ (held c arg4 arg5 arg6 arg7 arg8 arg9 x0 x1 x2 -∗ K ⟨⟩))
      ⊢ wp frame (wpE (defs₀ (F := F)) Variants.none c none) E (cc0_mla_prompt i arg4 harg4 arg5 harg5 arg6 harg6 arg7 harg7 arg8 harg8 arg9 harg9) K := by
    simp only [cc0_mla_prompt_eq_skeleton]; unfold cc0_mla_prompt_skel
    simp only [k0_part1_eq_skeleton, k0_part2_eq_skeleton, k0_part3_eq_skeleton, k0_part4_eq_skeleton, k0_part5_eq_skeleton]
    unfold held owns
    iintro ⟨⟨⟨%f0, %hf0, H0⟩, ⟨%f1, %hf1, H1⟩, ⟨%f2, %hf2, H2⟩, ⟨%d3, %f3, %hf3, H3⟩, ⟨%ds0, %fs0, %hfs0, HS0⟩, ⟨%ds1, %fs1, %hfs1, HS1⟩⟩, Hk⟩
    obtain rfl := harg4.eq_unread hf0; obtain rfl := harg5.eq_unread hf1; obtain rfl := harg6.eq_unread hf2
    obtain rfl := harg7.eq_unread hf3; obtain rfl := harg8.eq_unread hfs0; obtain rfl := harg9.eq_unread hfs1
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

set_option maxHeartbeats 4000000 in
/-- The body at a key tile after its row's last. -/
theorem beyond (hc0 : ¬isFirst i) (hc1 : ¬isBelow i) (hc2 : ¬isDiag i) (E : Set ℕ) (K : PUnit → sProp 𝕄) :
    iprop(held c arg4 arg5 arg6 arg7 arg8 arg9 x0 x1 x2 ∗ (held c arg4 arg5 arg6 arg7 arg8 arg9 x0 x1 x2 -∗ K ⟨⟩))
      ⊢ wp frame (wpE (defs₀ (F := F)) Variants.none c none) E (cc0_mla_prompt i arg4 harg4 arg5 harg5 arg6 harg6 arg7 harg7 arg8 harg8 arg9 harg9) K := by
    simp only [cc0_mla_prompt_eq_skeleton]; unfold cc0_mla_prompt_skel
    unfold held owns
    iintro ⟨⟨⟨%f0, %hf0, H0⟩, ⟨%f1, %hf1, H1⟩, ⟨%f2, %hf2, H2⟩, ⟨%d3, %f3, %hf3, H3⟩, ⟨%ds0, %fs0, %hfs0, HS0⟩, ⟨%ds1, %fs1, %hfs1, HS1⟩⟩, Hk⟩
    obtain rfl := harg4.eq_unread hf0; obtain rfl := harg5.eq_unread hf1; obtain rfl := harg6.eq_unread hf2
    obtain rfl := harg7.eq_unread hf3; obtain rfl := harg8.eq_unread hfs0; obtain rfl := harg9.eq_unread hfs1
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _, _; isplitr; swap; · iexact H3
      ipureintro; rfl
    isplitl [HS0]
    · iexists _, _; isplitr; swap; · iexact HS0
      ipureintro; rfl
    iexists _, _; isplitr; swap; · iexact HS1
    ipureintro; rfl

end Cert.Kernel.Mla

end
-- ==== Proof.KernelFrame.lean ====
/- The frame of the kernel as written: it terminates without a fault, its arguments end unchanged and every semaphore at zero.
   Nothing is said here of what it computes, so the invariant holds the scratch buffers at some contents. -/
module

public import proofs.«01_k».proof.Proof.KernelBody

@[expose] public section

set_option maxRecDepth 16384

noncomputable section

namespace Cert.Kernel.Mla

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem isFirst_iff : ∀ t : Fin cfg0.N, isFirst (grid0.coords t) ↔ t.val % 16 = 0 :=
  (by decide +kernel : ∀ t : Fin grid0.N, isFirst (grid0.coords t) ↔ t.val % 16 = 0)
theorem isBelow_iff : ∀ t : Fin cfg0.N, isBelow (grid0.coords t) ↔ t.val % 16 < t.val / 16 % 16 :=
  (by decide +kernel : ∀ t : Fin grid0.N, isBelow (grid0.coords t) ↔ t.val % 16 < t.val / 16 % 16)
theorem isDiag_iff : ∀ t : Fin cfg0.N, isDiag (grid0.coords t) ↔ t.val % 16 = t.val / 16 % 16 :=
  (by decide +kernel : ∀ t : Fin grid0.N, isDiag (grid0.coords t) ↔ t.val % 16 = t.val / 16 % 16)

abbrev smM : Memref sig .tc .vmem S2x512x1 .f32 := Memref.whole cc0_scratch0
abbrev smA : Memref sig .tc .vmem S512x512 .f32 := Memref.whole cc0_scratch1

/-- The launch's invariant, read as the two scratch buffers at some contents and the generator register at some state. -/
theorem start_inv (c : Dev nD) :
    (Pipeline.ΦA spec0 c : sProp 𝕄)
      = iprop(iprop((∃ d, owns (c : Thread nD τ) smM fullShare d) ∗ (∃ d, owns (c : Thread nD τ) smA fullShare d)) ∗ (∃ r, prngReg c r)) := by
  unfold Pipeline.ΦA; rw [scopedRest0_eq]; simp only [smM, smA, owns_whole]; try rfl

/-- The window whose contents are not named: the result's. -/
def forgot : Fin 4 → Bool := fun w => w.val == 3

/-- The proof data: the inputs' staging buffers hold their blocks, the result's is not named, the scratch is at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem leaves0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after2]

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))
/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t
    ∗ (∃ d, owns (c : Thread nD τ) (st0_3 t) fullShare d))

/-- The body at any point, from the buffers it uses to the same buffers. -/
theorem body_any (c : Dev nD) (t : Fin cfg0.N) (x0 x1 x2 : Vec F S1x512x512 .bf16) (K : PUnit → sProp 𝕄) :
    iprop(held c (st0_0 t) (st0_1 t) (st0_2 t) (st0_3 t) smM smA x0 x1 x2 ∗ (held c (st0_0 t) (st0_1 t) (st0_2 t) (st0_3 t) smM smA x0 x1 x2 -∗ K ⟨⟩))
      ⊢ wp frame (wpE (defs₀ (F := F)) Variants.none c none) Set.univ (bodyAt0 t) K := by
  unfold bodyAt0
  by_cases h0 : isFirst (grid0.coords t) <;> by_cases h1 : isBelow (grid0.coords t) <;> by_cases h2 : isDiag (grid0.coords t)
  · exact absurd ((isDiag_iff t).mp h2) (ne_of_lt ((isBelow_iff t).mp h1))
  · exact firstBelow c (grid0.coords t) _ _ _ _ _ _ _ _ _ _ _ _ x0 x1 x2 h0 h1 h2 Set.univ K
  · exact firstDiag c (grid0.coords t) _ _ _ _ _ _ _ _ _ _ _ _ x0 x1 x2 h0 h1 h2 Set.univ K
  · have a := (isFirst_iff t).mp h0
    have b := mt (isBelow_iff t).mpr h1
    have d := mt (isDiag_iff t).mpr h2
    omega
  · exact absurd ((isDiag_iff t).mp h2) (ne_of_lt ((isBelow_iff t).mp h1))
  · exact below c (grid0.coords t) _ _ _ _ _ _ _ _ _ _ _ _ x0 x1 x2 h0 h1 h2 Set.univ K
  · exact diag c (grid0.coords t) _ _ _ _ _ _ _ _ _ _ _ _ x0 x1 x2 h0 h1 h2 Set.univ K
  · exact beyond c (grid0.coords t) _ _ _ _ _ _ _ _ _ _ _ _ x0 x1 x2 h0 h1 h2 Set.univ K

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0, before1, before2, leaves0, leaves1, leaves2]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, start_inv]
  iintro ⟨⟨⟨HS0, HS1⟩, Hg⟩, Ho, ⟨%d0, H0⟩, ⟨%d1, H1⟩, ⟨%d2, H2⟩, H3⟩
  iapply (body_any c t (iblk m c 0 t) (iblk m c 1 t) (iblk m c 2 t) _)
  unfold held
  isplitl [H0 H1 H2 H3 HS0 HS1]
  · isplitl [H0]; · iexact H0
    isplitl [H1]; · iexact H1
    isplitl [H2]; · iexact H2
    isplitl [H3]; · iexact H3
    isplitl [HS0]; · iexact HS0
    iexact HS1
  iintro ⟨H0, H1, H2, H3, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ forgot := fun t => by
  rw [bigSep_W0, bigSep_W0, defs₀_row]
  exact triple_restated (sound_body m c t) rfl .rfl fun _ => .rfl

set_option backward.isDefEq.respectTransparency.types false in
/-- The run: every input array unchanged, every buffer no window stages as the region found it, every semaphore at zero. -/
theorem run_main : θ_run defs (onTc (τ := τ) (main (F := F))) (s₀ m ρ) (fun r => (Pipeline.RDat.FramePost (cfgs 0) (fun c => (dats m 0 c).toRForget forgot) (V m)) r ∧ r.2.sem = fun _ => 0) :=
  Pipeline.θ_run_frame_track_forget (Q' := _) cfgs (dats m) (0 : Fin 1) launch0 defs₀ Variants.none forgot m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- The frame. -/
theorem frame_kernel : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c),
      ((h.1 c).2 main_arg4 (Pipeline.mem_restRefs_of main_arg4 (by decide) (by decide))).trans (V_main_arg4 m c)⟩, h.2⟩) (run_main m ρ)

end Cert.Kernel.Mla

end
-- ==== Proof.KRuns.lean ====
/- What the five runs of the kernel's body at the extended reals share: the branch conditions in closed form over the grid
   points, the staging and scratch memrefs, and the launch's invariant read as the two scratch buffers. -/
module

public import proofs.«01_k».proof.Proof.Gen.KernelIdeal.Frame
public import proofs.«01_k».proof.Proof.Gen.KernelIdeal.Skeleton

@[expose] public section

set_option maxRecDepth 16384

noncomputable section

namespace Cert.KernelIdeal.Mla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-- The first branch's condition: the key tile is the first of its row. -/
abbrev isFirst (i : grid0.Coords) : Prop := (Scalar.cmpi .ne (Scalar.extui (Scalar.cmpi .eq (BitVec.ofNat 32 (i 3).val) 0#32)) 0#32) = 1#1
/-- The second branch's condition: the key tile lies before the query tile. -/
abbrev isBelow (i : grid0.Coords) : Prop := (Scalar.cmpi .ne (Scalar.extui (Scalar.cmpi .slt (BitVec.ofNat 32 (i 3).val) (BitVec.ofNat 32 (i 2).val))) 0#32) = 1#1
/-- The third branch's condition: the key tile is the query tile. -/
abbrev isDiag (i : grid0.Coords) : Prop := k0_cond3 i = 1#1

theorem isFirst_iff : ∀ t : Fin cfg0.N, isFirst (grid0.coords t) ↔ t.val % 16 = 0 :=
  (by decide +kernel : ∀ t : Fin grid0.N, isFirst (grid0.coords t) ↔ t.val % 16 = 0)
theorem isBelow_iff : ∀ t : Fin cfg0.N, isBelow (grid0.coords t) ↔ t.val % 16 < t.val / 16 % 16 :=
  (by decide +kernel : ∀ t : Fin grid0.N, isBelow (grid0.coords t) ↔ t.val % 16 < t.val / 16 % 16)
theorem isDiag_iff : ∀ t : Fin cfg0.N, isDiag (grid0.coords t) ↔ t.val % 16 = t.val / 16 % 16 :=
  (by decide +kernel : ∀ t : Fin grid0.N, isDiag (grid0.coords t) ↔ t.val % 16 = t.val / 16 % 16)

/-- The windows' staging memrefs at a point, as the body is called with them. -/
abbrev sm0 (t : Fin cfg0.N) : Memref sig .tc .vmem S1x512x512 .bf16 := win0_0.stage (cfg0.slots t 0)
abbrev sm1 (t : Fin cfg0.N) : Memref sig .tc .vmem S1x512x512 .bf16 := win0_1.stage (cfg0.slots t 1)
abbrev sm2 (t : Fin cfg0.N) : Memref sig .tc .vmem S1x512x512 .bf16 := win0_2.stage (cfg0.slots t 2)
abbrev sm3 (t : Fin cfg0.N) : Memref sig .tc .vmem S1x512x256 .bf16 := win0_3.stage (cfg0.slots t 3)
theorem sm0_whole (t : Fin cfg0.N) : (sm0 t).IsWhole := hstage0_0 ((cfg0.slots t 0).cast nbuf0_0)
theorem sm1_whole (t : Fin cfg0.N) : (sm1 t).IsWhole := hstage0_1 ((cfg0.slots t 1).cast nbuf0_1)
theorem sm2_whole (t : Fin cfg0.N) : (sm2 t).IsWhole := hstage0_2 ((cfg0.slots t 2).cast nbuf0_2)
theorem sm3_whole (t : Fin cfg0.N) : (sm3 t).IsWhole := hstage0_3 ((cfg0.slots t 3).cast nbuf0_3)
/-- The scratch holding the two heads' running maxima, and the one holding their running sums. -/
abbrev smM : Memref sig .tc .vmem S2x512x1 .f32 := Memref.whole cc0_scratch0
abbrev smA : Memref sig .tc .vmem S512x512 .f32 := Memref.whole cc0_scratch1

/-- The launch's invariant, read as the two scratch buffers at some contents and the generator register at some state. -/
theorem start_inv (c : Dev nD) :
    (Pipeline.ΦA spec0 c : sProp 𝕄)
      = iprop(iprop((∃ d, owns (c : Thread nD τ) smM fullShare d) ∗ (∃ d, owns (c : Thread nD τ) smA fullShare d)) ∗ (∃ r, prngReg c r)) := by
  unfold Pipeline.ΦA; rw [scopedRest0_eq]; simp only [smM, smA, owns_whole]; try rfl

end Cert.KernelIdeal.Mla

end
-- ==== Proof.RunBelow.lean ====
/- The body at a later key tile that lies before the query tile: the tile is taken in. The run finds what is stored, as lists of pieces, last first. -/
module

public import proofs.«01_k».proof.Proof.KRuns

@[expose] public section

set_option maxRecDepth 16384

noncomputable section

namespace Cert.KernelIdeal.Mla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a later key tile that lies before the query tile: the tile is taken in. The run finds what is stored, as lists of pieces, last first. -/
noncomputable def runBelow (c : Dev nD) (i : grid0.Coords) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x256 .bf16) (harg7 : arg7.IsWhole) (arg8 : Memref sig .tc .vmem S2x512x1 .f32) (harg8 : arg8.IsWhole) (arg9 : Memref sig .tc .vmem S512x512 .f32) (harg9 : arg9.IsWhole)
    (hc0 : ¬isFirst i) (hc1 : isBelow i) (hc2 : ¬isDiag i)
    (x0 : Vec F S1x512x512 .bf16) (x1 : Vec F S1x512x512 .bf16) (x2 : Vec F S1x512x512 .bf16) (xs0 : Vec F S2x512x1 .f32) (xs1 : Vec F S512x512 .f32) (x3 : Vec F S1x512x256 .bf16) :
    Σ' (LM : List (View.Piece (Elt F) S2x512x1 .f32)), { LA : List (View.Piece (Elt F) S512x512 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ owns (c : Thread nD τ) arg8 fullShare xs0 ∗ owns (c : Thread nD τ) arg9 fullShare xs1
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LA)) -∗ K ⟨⟩))
          ⊢ wp frame (wpE (defs₀ (F := F)) Variants.none c none) E (cc0_mla_prompt i arg4 harg4 arg5 harg5 arg6 harg6 arg7 harg7 arg8 harg8 arg9 harg9) K } := by
  refine ⟨?_, ?_, fun E K => ?run⟩
  case run =>
    simp only [cc0_mla_prompt_eq_skeleton]; unfold cc0_mla_prompt_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg4.eq_unread hf0; obtain rfl := harg5.eq_unread hf1; obtain rfl := harg6.eq_unread hf2; obtain rfl := harg8.eq_unread hfs0; obtain rfl := harg9.eq_unread hfs1; obtain rfl := harg7.eq_unread hf3
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    iexists _; iexact HS1

end Cert.KernelIdeal.Mla

end
-- ==== Proof.RunDiag.lean ====
/- The body at the query tile of a row that began earlier: the diagonal tile is taken in and the row's result stored. The run finds what is stored, as lists of pieces, last first. -/
module

public import proofs.«01_k».proof.Proof.KRuns

@[expose] public section

set_option maxRecDepth 16384

noncomputable section

namespace Cert.KernelIdeal.Mla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at the query tile of a row that began earlier: the diagonal tile is taken in and the row's result stored. The run finds what is stored, as lists of pieces, last first. -/
noncomputable def runDiag (c : Dev nD) (i : grid0.Coords) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x256 .bf16) (harg7 : arg7.IsWhole) (arg8 : Memref sig .tc .vmem S2x512x1 .f32) (harg8 : arg8.IsWhole) (arg9 : Memref sig .tc .vmem S512x512 .f32) (harg9 : arg9.IsWhole)
    (hc0 : ¬isFirst i) (hc1 : ¬isBelow i) (hc2 : isDiag i)
    (x0 : Vec F S1x512x512 .bf16) (x1 : Vec F S1x512x512 .bf16) (x2 : Vec F S1x512x512 .bf16) (xs0 : Vec F S2x512x1 .f32) (xs1 : Vec F S512x512 .f32) :
    Σ' (LO : List (View.Piece (Elt F) S1x512x256 .bf16)) (LM : List (View.Piece (Elt F) S2x512x1 .f32)), { LA : List (View.Piece (Elt F) S512x512 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ owns (c : Thread nD τ) arg8 fullShare xs0 ∗ owns (c : Thread nD τ) arg9 fullShare xs1
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LA)) -∗ K ⟨⟩))
          ⊢ wp frame (wpE (defs₀ (F := F)) Variants.none c none) E (cc0_mla_prompt i arg4 harg4 arg5 harg5 arg6 harg6 arg7 harg7 arg8 harg8 arg9 harg9) K } := by
  refine ⟨?_, ?_, ?_, fun E K => ?run⟩
  case run =>
    simp only [cc0_mla_prompt_eq_skeleton]; unfold cc0_mla_prompt_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, Hk⟩
    obtain rfl := harg4.eq_unread hf0; obtain rfl := harg5.eq_unread hf1; obtain rfl := harg6.eq_unread hf2; obtain rfl := harg8.eq_unread hfs0; obtain rfl := harg9.eq_unread hfs1
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    iexists _; iexact HS1

end Cert.KernelIdeal.Mla

end
-- ==== Proof.RunFirstBelow.lean ====
/- The body at a row's first key tile when the query tile lies further on: the scratch is reset and the tile taken in. The run finds what is stored, as lists of pieces, last first. -/
module

public import proofs.«01_k».proof.Proof.KRuns

@[expose] public section

set_option maxRecDepth 16384

noncomputable section

namespace Cert.KernelIdeal.Mla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a row's first key tile when the query tile lies further on: the scratch is reset and the tile taken in. The run finds what is stored, as lists of pieces, last first. -/
noncomputable def runFirstBelow (c : Dev nD) (i : grid0.Coords) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x256 .bf16) (harg7 : arg7.IsWhole) (arg8 : Memref sig .tc .vmem S2x512x1 .f32) (harg8 : arg8.IsWhole) (arg9 : Memref sig .tc .vmem S512x512 .f32) (harg9 : arg9.IsWhole)
    (hc0 : isFirst i) (hc1 : isBelow i) (hc2 : ¬isDiag i)
    (x0 : Vec F S1x512x512 .bf16) (x1 : Vec F S1x512x512 .bf16) (x2 : Vec F S1x512x512 .bf16) (x3 : Vec F S1x512x256 .bf16) :
    Σ' (LM : List (View.Piece (Elt F) S2x512x1 .f32)), { LA : List (View.Piece (Elt F) S512x512 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ owns (c : Thread nD τ) arg7 fullShare x3 ∗ (∃ d, owns (c : Thread nD τ) arg8 fullShare d) ∗ (∃ d, owns (c : Thread nD τ) arg9 fullShare d)
            ∗ (iprop(owns (c : Thread nD τ) arg4 fullShare x0 ∗ owns (c : Thread nD τ) arg5 fullShare x1 ∗ owns (c : Thread nD τ) arg6 fullShare x2 ∗ owns (c : Thread nD τ) arg7 fullShare x3 ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LA)) -∗ K ⟨⟩))
          ⊢ wp frame (wpE (defs₀ (F := F)) Variants.none c none) E (cc0_mla_prompt i arg4 harg4 arg5 harg5 arg6 harg6 arg7 harg7 arg8 harg8 arg9 harg9) K } := by
  refine ⟨?_, ?_, fun E K => ?run⟩
  case run =>
    simp only [cc0_mla_prompt_eq_skeleton]; unfold cc0_mla_prompt_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg4.eq_unread hf0; obtain rfl := harg5.eq_unread hf1; obtain rfl := harg6.eq_unread hf2; obtain rfl := harg7.eq_unread hf3
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]
    · iexists _; isplitr; · ipureintro; exact harg7.read_unread _
      iexact H3
    isplitl [HS0]; · iexists _; iexact HS0
    iexists _; iexact HS1

end Cert.KernelIdeal.Mla

end
-- ==== Proof.RunFirstDiag.lean ====
/- The body at a row's first key tile when it is also the query tile: the scratch is reset, the diagonal tile taken in, and the row's result stored. The run finds what is stored, as lists of pieces, last first. -/
module

public import proofs.«01_k».proof.Proof.KRuns

@[expose] public section

set_option maxRecDepth 16384

noncomputable section

namespace Cert.KernelIdeal.Mla

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
/-- The body at a row's first key tile when it is also the query tile: the scratch is reset, the diagonal tile taken in, and the row's result stored. The run finds what is stored, as lists of pieces, last first. -/
noncomputable def runFirstDiag (c : Dev nD) (i : grid0.Coords) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x256 .bf16) (harg7 : arg7.IsWhole) (arg8 : Memref sig .tc .vmem S2x512x1 .f32) (harg8 : arg8.IsWhole) (arg9 : Memref sig .tc .vmem S512x512 .f32) (harg9 : arg9.IsWhole)
    (hc0 : isFirst i) (hc1 : ¬isBelow i) (hc2 : isDiag i)
    (x0 : Vec F S1x512x512 .bf16) (x1 : Vec F S1x512x512 .bf16) (x2 : Vec F S1x512x512 .bf16) :
    Σ' (LO : List (View.Piece (Elt F) S1x512x256 .bf16)) (LM : List (View.Piece (Elt F) S2x512x1 .f32)), { LA : List (View.Piece (Elt F) S512x512 .f32) //
      ∀ (E : Set ℕ) (K : PUnit → sProp 𝕄),
        iprop(owns (c : Thread nD τ) arg4 fullShare x0 ∗ owns (c : Thread nD τ) arg5 fullShare x1 ∗ owns (c : Thread nD τ) arg6 fullShare x2 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg4 fullShare x0 ∗ owns (c : Thread nD τ) arg5 fullShare x1 ∗ owns (c : Thread nD τ) arg6 fullShare x2 ∗ (∃ f, arg7.view.loc (c : Thread nD τ) ↦[arg7.view.set]{fullShare} arg7.view.writes (Elt F) f LO) ∗ (∃ f, arg8.view.loc (c : Thread nD τ) ↦[arg8.view.set]{fullShare} arg8.view.writes (Elt F) f LM) ∗ (∃ f, arg9.view.loc (c : Thread nD τ) ↦[arg9.view.set]{fullShare} arg9.view.writes (Elt F) f LA)) -∗ K ⟨⟩))
          ⊢ wp frame (wpE (defs₀ (F := F)) Variants.none c none) E (cc0_mla_prompt i arg4 harg4 arg5 harg5 arg6 harg6 arg7 harg7 arg8 harg8 arg9 harg9) K } := by
  refine ⟨?_, ?_, ?_, fun E K => ?run⟩
  case run =>
    simp only [cc0_mla_prompt_eq_skeleton]; unfold cc0_mla_prompt_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, Hk⟩
    obtain rfl := harg4.eq_unread hf0; obtain rfl := harg5.eq_unread hf1; obtain rfl := harg6.eq_unread hf2
    sl_exec (disch := first | sl_exact hc0 | sl_exact hc1 | sl_exact hc2)
    sl_step
    iapply Hk
    isplitl [H0]
    · iexists _; isplitr; · ipureintro; exact harg4.read_unread _
      iexact H0
    isplitl [H1]
    · iexists _; isplitr; · ipureintro; exact harg5.read_unread _
      iexact H1
    isplitl [H2]
    · iexists _; isplitr; · ipureintro; exact harg6.read_unread _
      iexact H2
    isplitl [H3]; · iexists _; iexact H3
    isplitl [HS0]; · iexists _; iexact HS0
    iexists _; iexact HS1

end Cert.KernelIdeal.Mla

end
-- ==== Proof.Tile.lean ====
/- One tile of the attention at the extended reals, as scalars: what the body's vector terms are at an index. -/
module

public import proofs.«01_k».proof.Proof.Gen.KernelIdeal.Skeleton
public import Idealize.ShloMosaic.Lib.Pointwise

@[expose] public section

set_option maxRecDepth 16384

noncomputable section

namespace Cert.KernelIdeal.Mla

open Cert.KernelIdeal Cert.KernelIdeal.Gen
open Idealize.ShloMosaic Idealize.ShloMosaic.TcCoe

/-- One head's scores of a query tile against a key tile, as the body computes them. -/
def scoreVec (q k : Vec Ideal S1x512x256 .bf16) : FVec Ideal S512x512 .f32 := k0_pay11 q k
/-- The new running maximum, from the scores and the old one. -/
def topVec (s : FVec Ideal S512x512 .f32) (μ : Vec Ideal S1x512x1 .f32) : FVec Ideal S512x1 .f32 :=
  maximumf (shapeCast S512x1 μ shapeCasts_S1x512x1_S512x1)
    (shapeCast S512x1 (multiReduction .maximumf [1] S512 s 0xFF800000#32 reduces_S512x512_S512 (.inl rfl) rfl) shapeCasts_S512_S512x1)
/-- The new running sums, from the scores, the old maximum, the old sums and the value tile. -/
def sumVec (s : FVec Ideal S512x512 .f32) (μ : Vec Ideal S1x512x1 .f32) (a : Vec Ideal S512x256 .f32) (v : Vec Ideal S1x512x256 .bf16) :
    FVec Ideal S512x256 .f32 :=
  shapeCast S512x256 (addf
    (mulf (broadcastTo S512x256 (exp (subf (shapeCast S512x1 μ shapeCasts_S1x512x1_S512x1) (topVec s μ))) broadcasts_S512x1_S512x256) a)
    (matmul (φ₂ := .bf16) dot_S512x512_S512x256_S512x256_1_0_0_1_n_n none
      (truncf .bf16 (exp (subf s (broadcastTo S512x512 (topVec s μ) broadcasts_S512x1_S512x512))) bitsLt_bf16_f32)
      (shapeCast S512x256 v shapeCasts_S1x512x256_S512x256 : FVec Ideal S512x256 .bf16) (constant S512x256 .f32 0x00000000#32))) shapeCasts_S512x256_S512x256
/-- The diagonal tile's scores: those of later chunks are masked. -/
def maskVec (s : FVec Ideal S512x512 .f32) : FVec Ideal S512x512 .f32 :=
  k0_pay21 s k0_pay18 (iota .tc S512x512 32 [1] iota_S512x512_d1_w32) 64#32 k0_pay19 k0_pay20 (Scalar.extui (Scalar.cmpi .sgt 64#32 0#32))

section
variable (q k v : Vec Ideal S1x512x256 .bf16) (μ : Vec Ideal S1x512x1 .f32) (a : Vec Ideal S512x256 .f32)
theorem pay13_eq : k0_pay13 q k μ = topVec (scoreVec q k) μ := rfl
theorem pay14_eq : k0_pay14 q k μ a v = sumVec (scoreVec q k) μ a v := rfl
theorem pay5_eq : k0_pay5 (k0_pay16 q) k μ = topVec (scoreVec q k) μ := rfl
theorem pay6_eq : k0_pay6 (k0_pay16 q) k μ a v = sumVec (scoreVec q k) μ a v := rfl
end

/-- The reductions' starting value is minus infinity. -/
theorem negInf : Ideal.ofBits .f32 0xFF800000#32 = ⊥ := by simp [Ideal.ofBits, Ideal.ieee]
/-- The named mask is minus infinity. -/
theorem mask_eq : Named.named (F := Ideal) κ "mask" (φ := .f32) 0xF149F2CA#32 = (⊥ : EReal) :=
  IdealRules.named_const.ideal_named_scalar κ "mask" (φ := .f32) _ _ rfl

/-- A score: the product of the query's and the key's components, summed. -/
theorem scoreVec_apply (q k : Vec Ideal S1x512x256 .bf16) (r c : Fin 512) :
    scoreVec q k (ix2 r c) = ∑ d : Fin 256, (q (ix3 0 r d) : EReal) * k (ix3 0 c d) := by
  pointwise [scoreVec, k0_pay11]

/-- The new maximum of a row: the old one and the row's scores. -/
theorem topVec_apply (s : FVec Ideal S512x512 .f32) (μ : Vec Ideal S1x512x1 .f32) (r : Fin 512) :
    topVec s μ (ix2 r 0) = max (μ (ix3 0 r 0) : EReal) (Finset.univ.fold max ⊥ fun c : Fin 512 => (s (ix2 r c) : EReal)) := by
  pointwise [topVec]
  rw [show Ideal.ofBits .f32 4286578688#32 = ⊥ from negInf]

/-- The new sums of a row: the old ones rescaled, and the tile's values weighted by the exponentials. -/
theorem sumVec_apply (s : FVec Ideal S512x512 .f32) (μ : Vec Ideal S1x512x1 .f32) (a : Vec Ideal S512x256 .f32) (v : Vec Ideal S1x512x256 .bf16) (r : Fin 512) (e : Fin 256) :
    sumVec s μ a v (ix2 r e) = Ideal.exp ((μ (ix3 0 r 0) : EReal) - topVec s μ (ix2 r 0)) * a (ix2 r e)
      + ∑ c : Fin 512, Ideal.exp ((s (ix2 r c) : EReal) - topVec s μ (ix2 r 0)) * v (ix3 0 c e) := by
  pointwise [sumVec]

/-- The quotient by 64, rounded down, as the body computes it on an index word. -/
def chunkWord (x : BitVec 32) : BitVec 32 :=
  Scalar.select
    (IntOp.andi
      (IntOp.cmpi .ne
        (IntOp.subi (BitVec.setWidth 32 (IntOp.cmpi .sgt x 0#32)) (BitVec.setWidth 32 (IntOp.cmpi .slt x 0#32)))
        (Scalar.subi (Scalar.extui (Scalar.cmpi .sgt 64#32 0#32)) (Scalar.extui (Scalar.cmpi .slt 64#32 0#32))))
      (IntOp.cmpi .ne (IntOp.remsi .vector x 64#32) 0#32))
    (IntOp.subi (IntOp.divsi .vector x 64#32) 1#32)
    (IntOp.divsi .vector x 64#32)
theorem chunkWord_eq : ∀ n : Fin 512, chunkWord (BitVec.ofNat 32 n.val) = BitVec.ofNat 32 (n.val / 64) := by decide +kernel
theorem sle_small : ∀ a b : Fin 8, IntOp.cmpi .sle (BitVec.ofNat 32 a.val) (BitVec.ofNat 32 b.val) = if a.val ≤ b.val then 1#1 else 0#1 := by
  decide +kernel

/-- The diagonal tile's scores: those of a later chunk of 64 columns are minus infinity. -/
theorem maskVec_apply (s : FVec Ideal S512x512 .f32) (r c : Fin 512) :
    maskVec s (ix2 r c) = if c.val / 64 ≤ r.val / 64 then (s (ix2 r c) : EReal) else ⊥ := by
  pointwise [maskVec, k0_pay21, k0_pay18, k0_pay19, k0_pay20]
  change Scalar.select (IntOp.cmpi .sle (chunkWord (BitVec.ofNat 32 c.val)) (chunkWord (BitVec.ofNat 32 r.val))) (s (ix2 r c)) _ = _
  rw [chunkWord_eq, chunkWord_eq, mask_eq]
  have h := sle_small ⟨c.val / 64, by omega⟩ ⟨r.val / 64, by omega⟩
  rw [h]
  by_cases hh : c.val / 64 ≤ r.val / 64
  · rw [if_pos hh, if_pos hh]; rfl
  · rw [if_neg hh, if_neg hh]; rfl

end Cert.KernelIdeal.Mla

end
-- ==== Proof.Step.lean ====
/- What one live grid point does to the two scratch buffers, and the result block, as functions of the staged blocks. -/
module

public import proofs.«01_k».proof.Proof.Tile
public import Idealize.ShloMosaic.Lib.Pipeline.ValueKit
public import Idealize.ShloMosaic.Lib.Pipeline.ReadBack

@[expose] public section

set_option maxRecDepth 16384

noncomputable section

namespace Cert.KernelIdeal.Mla

open Cert.KernelIdeal Cert.KernelIdeal.Gen
open Idealize.ShloMosaic Idealize.ShloMosaic.TcCoe

/-- Head `h`'s half of a staged block of queries, keys or values. -/
def headQ (x : Vec Ideal S1x512x512 .bf16) (h : Fin 2) : Vec Ideal S1x512x256 .bf16 :=
  fun j => x (ix3 0 (j 1) ⟨256 * h.val + (j 2).val, by have := h.isLt; have : (j 2).val < 256 := (j 2).isLt; omega⟩)
/-- Head `h`'s running maxima. -/
def headM (M : Vec Ideal S2x512x1 .f32) (h : Fin 2) : Vec Ideal S1x512x1 .f32 := fun j => M (ix3 h (j 1) 0)
/-- Head `h`'s running sums. -/
def headA (A : Vec Ideal S512x512 .f32) (h : Fin 2) : Vec Ideal S512x256 .f32 :=
  fun j => A (ix2 (j 0) ⟨256 * h.val + (j 1).val, by have := h.isLt; have : (j 1).val < 256 := (j 1).isLt; omega⟩)

/-- Head `h`'s scores of the tile, masked on the diagonal. -/
def tileScore (diag : Prop) [Decidable diag] (x0 x1 : Vec Ideal S1x512x512 .bf16) (h : Fin 2) : FVec Ideal S512x512 .f32 :=
  if diag then maskVec (scoreVec (headQ x0 h) (headQ x1 h)) else scoreVec (headQ x0 h) (headQ x1 h)

/-- The running maxima after the tile. -/
def stepM (diag : Prop) [Decidable diag] (x0 x1 : Vec Ideal S1x512x512 .bf16) (M : Vec Ideal S2x512x1 .f32) : Vec Ideal S2x512x1 .f32 :=
  fun j => topVec (tileScore diag x0 x1 (j 0)) (headM M (j 0)) (ix2 (j 1) 0)

/-- The running sums after the tile. -/
def stepA (diag : Prop) [Decidable diag] (x0 x1 x2 : Vec Ideal S1x512x512 .bf16) (M : Vec Ideal S2x512x1 .f32) (A : Vec Ideal S512x512 .f32) :
    Vec Ideal S512x512 .f32 :=
  fun j =>
    let h : Fin 2 := ⟨(j 1).val / 256, by have : (j 1).val < 512 := (j 1).isLt; omega⟩
    sumVec (tileScore diag x0 x1 h) (headM M h) (headA A h) (headQ x2 h) (ix2 (j 0) ⟨(j 1).val % 256, Nat.mod_lt _ (by omega)⟩)

/-- The result block: each head's sums over its denominator, the sum of the ones. -/
def outOf (A : Vec Ideal S512x512 .f32) : Vec Ideal S1x512x256 .bf16 :=
  fun j => Ideal.div
    (A (ix2 (j 1) ⟨256 * ((j 2).val / 128) + (j 2).val % 128, by have : (j 2).val < 256 := (j 2).isLt; omega⟩))
    (A (ix2 (j 1) ⟨256 * ((j 2).val / 128) + 128, by have : (j 2).val < 256 := (j 2).isLt; omega⟩))

/-- A list of stores whose last two cover the buffer and are the blocks of one function is that function. -/
theorem canon_two {S : Shape} {e : EltTy} (r1 r0 : Rect S) (w1 : r1.shape.Idx → Elt Ideal e) (w0 : r0.shape.Idx → Elt Ideal e)
    (L : List (View.Piece (Elt Ideal) S e)) (G : S.Idx → Elt Ideal e) (hcov : ∀ y : S.Idx, y ∈ r1.set ∨ y ∈ r0.set)
    (h1 : ∀ x, w1 x = G (r1.emb x)) (h0 : ∀ x, w0 x = G (r0.emb x)) :
    View.canon (⟨r1, w1⟩ :: ⟨r0, w0⟩ :: L : List (View.Piece (Elt Ideal) S e)) = G := by
  funext y
  by_cases hy : y ∈ r1.set
  · obtain ⟨x, rfl⟩ := r1.exists_idx_of_mem hy
    exact (View.canon_cons_emb (Val := Elt Ideal) r1 w1 _ x).trans (h1 x)
  · rw [View.canon_cons_of_not_mem _ _ hy]
    obtain ⟨x, rfl⟩ := r0.exists_idx_of_mem ((hcov y).resolve_left hy)
    exact (View.canon_cons_emb (Val := Elt Ideal) r0 w0 _ x).trans (h0 x)

section covers
/-- The two heads' stores cover the maxima's buffer, -/
theorem coverM (y : S2x512x1.Idx) : y ∈ (Rect.unit (s := S2x512x1) ![1, 0, 0] ![1, 512, 1] inb_S2x512x1_S1x512x1_1_0_0).set
    ∨ y ∈ (Rect.unit (s := S2x512x1) ![0, 0, 0] ![1, 512, 1] inb_S2x512x1_S1x512x1_0_0_0).set := by
  idx_vars y
  rcases Nat.lt_or_ge y0.val 1 with h | h
  · right; refine Rect.mem_set_unit.mpr fun i => ?_
    fin_cases i <;> simp <;> omega
  · left; refine Rect.mem_set_unit.mpr fun i => ?_
    fin_cases i <;> simp <;> omega
/-- the sums' buffer, -/
theorem coverA (y : S512x512.Idx) : y ∈ (Rect.unit (s := S512x512) ![0, 256] ![512, 256] inb_S512x512_S512x256_0_256).set
    ∨ y ∈ (Rect.unit (s := S512x512) ![0, 0] ![512, 256] inb_S512x512_S512x256_0_0).set := by
  idx_vars y
  rcases Nat.lt_or_ge y1.val 256 with h | h
  · right; refine Rect.mem_set_unit.mpr fun i => ?_
    fin_cases i <;> simp <;> omega
  · left; refine Rect.mem_set_unit.mpr fun i => ?_
    fin_cases i <;> simp <;> omega
/-- and the result block. -/
theorem coverO (y : S1x512x256.Idx) : y ∈ (Rect.unit (s := S1x512x256) ![0, 0, 128] ![1, 512, 128] inb_S1x512x256_S1x512x128_0_0_128).set
    ∨ y ∈ (Rect.unit (s := S1x512x256) ![0, 0, 0] ![1, 512, 128] inb_S1x512x256_S1x512x128_0_0_0).set := by
  idx_vars y
  rcases Nat.lt_or_ge y2.val 128 with h | h
  · right; refine Rect.mem_set_unit.mpr fun i => ?_
    fin_cases i <;> simp <;> omega
  · left; refine Rect.mem_set_unit.mpr fun i => ?_
    fin_cases i <;> simp <;> omega
end covers

section loads
variable (x : Vec Ideal S1x512x512 .bf16) (M : Vec Ideal S2x512x1 .f32) (A : Vec Ideal S512x512 .f32)
theorem ld_q0 : View.ld (Val := Elt Ideal) (e' := .bf16) x (Rect.unit (s := S1x512x512) ![0, 0, 0] ![1, 512, 256] inb_S1x512x512_S1x512x256_0_0_0) = headQ x 0 := by
  funext j
  pointwise [headQ]
theorem ld_q1 : View.ld (Val := Elt Ideal) (e' := .bf16) x (Rect.unit (s := S1x512x512) ![0, 0, 256] ![1, 512, 256] inb_S1x512x512_S1x512x256_0_0_256) = headQ x 1 := by
  funext j
  pointwise [headQ]
theorem ld_m0 : View.ld (Val := Elt Ideal) (e' := .f32) M (Rect.unit (s := S2x512x1) ![0, 0, 0] ![1, 512, 1] inb_S2x512x1_S1x512x1_0_0_0) = headM M 0 := by
  funext j
  pointwise [headM]
theorem ld_m1 : View.ld (Val := Elt Ideal) (e' := .f32) M (Rect.unit (s := S2x512x1) ![1, 0, 0] ![1, 512, 1] inb_S2x512x1_S1x512x1_1_0_0) = headM M 1 := by
  funext j
  pointwise [headM]
theorem ld_a0 : View.ld (Val := Elt Ideal) (e' := .f32) A (Rect.unit (s := S512x512) ![0, 0] ![512, 256] inb_S512x512_S512x256_0_0) = headA A 0 := by
  funext j
  pointwise [headA]
theorem ld_a1 : View.ld (Val := Elt Ideal) (e' := .f32) A (Rect.unit (s := S512x512) ![0, 256] ![512, 256] inb_S512x512_S512x256_0_256) = headA A 1 := by
  funext j
  pointwise [headA]
end loads

/-- The step's maxima at head `h` and row `r`. -/
theorem stepM_apply (diag : Prop) [Decidable diag] (x0 x1 : Vec Ideal S1x512x512 .bf16) (M : Vec Ideal S2x512x1 .f32) (h : Fin 2) (r : Fin 512) :
    stepM diag x0 x1 M (ix3 h r 0) = topVec (tileScore diag x0 x1 h) (headM M h) (ix2 r 0) := rfl
/-- The step's sums at head `h`, row `r` and column `e` of the head. -/
theorem stepA_apply (diag : Prop) [Decidable diag] (x0 x1 x2 : Vec Ideal S1x512x512 .bf16) (M : Vec Ideal S2x512x1 .f32) (A : Vec Ideal S512x512 .f32)
    (h : Fin 2) (r : Fin 512) (e : Fin 256) (j : Fin 512) (hj : j.val = 256 * h.val + e.val) :
    stepA diag x0 x1 x2 M A (ix2 r j) = sumVec (tileScore diag x0 x1 h) (headM M h) (headA A h) (headQ x2 h) (ix2 r e) := by
  have key : ∀ (h' : Fin 2) (e' : Fin 256), h' = h → e' = e →
      sumVec (tileScore diag x0 x1 h') (headM M h') (headA A h') (headQ x2 h') (ix2 r e') = sumVec (tileScore diag x0 x1 h) (headM M h) (headA A h) (headQ x2 h) (ix2 r e) := by
    rintro _ _ rfl rfl; rfl
  exact key _ _ (Fin.ext (by show j.val / 256 = h.val; omega)) (Fin.ext (by show j.val % 256 = e.val; omega))
/-- The result block at head `h`, row `r` and column `e` of the head. -/
theorem outOf_apply (A : Vec Ideal S512x512 .f32) (h : Fin 2) (r : Fin 512) (e : Fin 128) (j : Fin 256) (hj : j.val = 128 * h.val + e.val) :
    outOf A (ix3 0 r j) = Ideal.div (headA A h (ix2 r ⟨e.val, by omega⟩)) (headA A h (ix2 r 128)) := by
  have key : ∀ a a' b b' : Fin 512, a = a' → b = b' → Ideal.div (A (ix2 r a)) (A (ix2 r b)) = Ideal.div (A (ix2 r a')) (A (ix2 r b')) := by
    rintro _ _ _ _ rfl rfl; rfl
  refine key _ _ _ _ (Fin.ext ?_) (Fin.ext ?_)
  · show 256 * (j.val / 128) + j.val % 128 = 256 * h.val + e.val; omega
  · show 256 * (j.val / 128) + 128 = 256 * h.val + 128; omega

section stores
variable (diag : Prop) [Decidable diag] (x0 x1 x2 : Vec Ideal S1x512x512 .bf16) (M : Vec Ideal S2x512x1 .f32) (A : Vec Ideal S512x512 .f32)
/-- The maxima stored for the two heads are the step's maxima. -/
theorem canonM (L) : View.canon (⟨Rect.unit (s := S2x512x1) ![1, 0, 0] ![1, 512, 1] inb_S2x512x1_S1x512x1_1_0_0,
      (shapeCast S1x512x1 (topVec (tileScore diag x0 x1 1) (headM M 1)) shapeCasts_S512x1_S1x512x1 : FVec Ideal S1x512x1 .f32)⟩
    :: ⟨Rect.unit (s := S2x512x1) ![0, 0, 0] ![1, 512, 1] inb_S2x512x1_S1x512x1_0_0_0,
      (shapeCast S1x512x1 (topVec (tileScore diag x0 x1 0) (headM M 0)) shapeCasts_S512x1_S1x512x1 : FVec Ideal S1x512x1 .f32)⟩
    :: L : List (View.Piece (Elt Ideal) S2x512x1 .f32)) = stepM diag x0 x1 M := by
  refine canon_two _ _ _ _ L _ coverM (fun (x : S1x512x1.Idx) => ?_) fun (x : S1x512x1.Idx) => ?_
  · show (shapeCast S1x512x1 _ _ : FVec Ideal S1x512x1 .f32) x = _
    idx_vars x
    have he : (Rect.unit (s := S2x512x1) ![1, 0, 0] ![1, 512, 1] inb_S2x512x1_S1x512x1_1_0_0).emb (ix3 x0 x1 x2) = ix3 1 x1 0 := by
      funext a; fin_cases a <;> apply Fin.ext <;> simp [Rect.emb_apply]
    rw [he, stepM_apply]
    pointwise
  · show (shapeCast S1x512x1 _ _ : FVec Ideal S1x512x1 .f32) x = _
    idx_vars x
    have he : (Rect.unit (s := S2x512x1) ![0, 0, 0] ![1, 512, 1] inb_S2x512x1_S1x512x1_0_0_0).emb (ix3 x0 x1 x2) = ix3 0 x1 0 := by
      funext a; fin_cases a <;> apply Fin.ext <;> simp [Rect.emb_apply]
    rw [he, stepM_apply]
    pointwise
/-- The sums stored for the two heads are the step's sums. -/
theorem canonA (L) : View.canon (⟨Rect.unit (s := S512x512) ![0, 256] ![512, 256] inb_S512x512_S512x256_0_256,
      sumVec (tileScore diag x0 x1 1) (headM M 1) (headA A 1) (headQ x2 1)⟩
    :: ⟨Rect.unit (s := S512x512) ![0, 0] ![512, 256] inb_S512x512_S512x256_0_0,
      sumVec (tileScore diag x0 x1 0) (headM M 0) (headA A 0) (headQ x2 0)⟩
    :: L : List (View.Piece (Elt Ideal) S512x512 .f32)) = stepA diag x0 x1 x2 M A := by
  refine canon_two _ _ _ _ L _ coverA (fun (x : S512x256.Idx) => ?_) fun (x : S512x256.Idx) => ?_
  · idx_vars x
    have he : (Rect.unit (s := S512x512) ![0, 256] ![512, 256] inb_S512x512_S512x256_0_256).emb (ix2 x0 x1) = ix2 x0 ⟨256 + x1.val, by omega⟩ := by
      funext a; fin_cases a <;> apply Fin.ext <;> simp [Rect.emb_apply]
    rw [he]; exact (stepA_apply _ _ _ _ _ _ 1 _ _ _ rfl).symm
  · idx_vars x
    have he : (Rect.unit (s := S512x512) ![0, 0] ![512, 256] inb_S512x512_S512x256_0_0).emb (ix2 x0 x1) = ix2 x0 ⟨0 + x1.val, by omega⟩ := by
      funext a; fin_cases a <;> apply Fin.ext <;> simp [Rect.emb_apply]
    rw [he]; exact (stepA_apply _ _ _ _ _ _ 0 _ _ _ rfl).symm
/-- The result stored for the two heads is the step's result. -/
theorem canonO (L) : View.canon (⟨Rect.unit (s := S1x512x256) ![0, 0, 128] ![1, 512, 128] inb_S1x512x256_S1x512x128_0_0_128,
      k0_pay10 (View.ld (Val := Elt Ideal) (e' := .f32) A (Rect.unit (s := S512x512) ![0, 256] ![512, 128] inb_S512x512_S512x128_0_256))
        (View.ld (Val := Elt Ideal) (e' := .f32) A (Rect.unit (s := S512x512) ![0, 384] ![512, 1] inb_S512x512_S512x1_0_384))⟩
    :: ⟨Rect.unit (s := S1x512x256) ![0, 0, 0] ![1, 512, 128] inb_S1x512x256_S1x512x128_0_0_0,
      k0_pay9 (View.ld (Val := Elt Ideal) (e' := .f32) A (Rect.unit (s := S512x512) ![0, 0] ![512, 128] inb_S512x512_S512x128_0_0))
        (View.ld (Val := Elt Ideal) (e' := .f32) A (Rect.unit (s := S512x512) ![0, 128] ![512, 1] inb_S512x512_S512x1_0_128))⟩
    :: L : List (View.Piece (Elt Ideal) S1x512x256 .bf16)) = outOf A := by
  refine canon_two _ _ _ _ L _ coverO (fun (x : S1x512x128.Idx) => ?_) fun (x : S1x512x128.Idx) => ?_
  · idx_vars x
    have he : (Rect.unit (s := S1x512x256) ![0, 0, 128] ![1, 512, 128] inb_S1x512x256_S1x512x128_0_0_128).emb (ix3 x0 x1 x2) = ix3 0 x1 ⟨128 + x2.val, by omega⟩ := by
      funext a; fin_cases a <;> apply Fin.ext <;> simp [Rect.emb_apply]
    rw [he, outOf_apply A 1 _ x2 _ rfl]
    pointwise [k0_pay10, headA]
  · idx_vars x
    have he : (Rect.unit (s := S1x512x256) ![0, 0, 0] ![1, 512, 128] inb_S1x512x256_S1x512x128_0_0_0).emb (ix3 x0 x1 x2) = ix3 0 x1 ⟨0 + x2.val, by omega⟩ := by
      funext a; fin_cases a <;> apply Fin.ext <;> simp [Rect.emb_apply]
    rw [he, outOf_apply A 0 _ x2 _ rfl]
    pointwise [k0_pay9, headA]
end stores

end Cert.KernelIdeal.Mla

end
-- ==== Proof.Contents.lean ====
/- What the body's four runs leave in the scratch buffers and in the result block: the step's functions of the staged blocks. -/
module

public import proofs.«01_k».proof.Proof.RunBelow
public import proofs.«01_k».proof.Proof.RunDiag
public import proofs.«01_k».proof.Proof.RunFirstBelow
public import proofs.«01_k».proof.Proof.RunFirstDiag
public import proofs.«01_k».proof.Proof.Step
import all proofs.«01_k».proof.Proof.RunBelow
import all proofs.«01_k».proof.Proof.RunDiag
import all proofs.«01_k».proof.Proof.RunFirstBelow
import all proofs.«01_k».proof.Proof.RunFirstDiag

@[expose] public section

set_option maxRecDepth 16384

noncomputable section

namespace Cert.KernelIdeal.Mla

open Cert.KernelIdeal Cert.KernelIdeal.Gen
open Idealize.ShloMosaic Idealize.ShloMosaic.TcCoe

section
variable (c : Dev nD) (i : grid0.Coords) (a4 : Memref sig .tc .vmem S1x512x512 .bf16) (h4 : a4.IsWhole) (a5 : Memref sig .tc .vmem S1x512x512 .bf16) (h5 : a5.IsWhole) (a6 : Memref sig .tc .vmem S1x512x512 .bf16) (h6 : a6.IsWhole) (a7 : Memref sig .tc .vmem S1x512x256 .bf16) (h7 : a7.IsWhole) (a8 : Memref sig .tc .vmem S2x512x1 .f32) (h8 : a8.IsWhole) (a9 : Memref sig .tc .vmem S512x512 .f32) (h9 : a9.IsWhole)
  (x0 x1 x2 : Vec Ideal S1x512x512 .bf16) (M : Vec Ideal S2x512x1 .f32) (A : Vec Ideal S512x512 .f32) (x3 : Vec Ideal S1x512x256 .bf16)

/-- A list of stores whose last two cover the buffer covers it. -/
theorem cover_two {S : Shape} {e : EltTy} {r1 r0 : Rect S} {w1 : r1.shape.Idx → Elt Ideal e} {w0 : r0.shape.Idx → Elt Ideal e}
    {L : List (View.Piece (Elt Ideal) S e)} (hcov : ∀ y : S.Idx, y ∈ r1.set ∨ y ∈ r0.set) (y : S.Idx) :
    ∃ p ∈ (⟨r1, w1⟩ :: ⟨r0, w0⟩ :: L : List (View.Piece (Elt Ideal) S e)), y ∈ p.1.set := by
  rcases hcov y with h | h
  · exact ⟨_, List.mem_cons_self, h⟩
  · exact ⟨_, List.mem_cons_of_mem _ List.mem_cons_self, h⟩

theorem below_M (hc0 : ¬isFirst i) (hc1 : isBelow i) (hc2 : ¬isDiag i) : View.canon (runBelow c i a4 h4 a5 h5 a6 h6 a7 h7 a8 h8 a9 h9 hc0 hc1 hc2 x0 x1 x2 M A x3).1 = stepM False x0 x1 M := by
  frame_open
  simp (disch := first | decide | assumption) only [↓View.readCov_skip, View.readCov_fill, View.readCov_cons_toLoadRect, View.readAt_eq_ld, Memref.IsWhole.read_unread, ld_q0, ld_q1, ld_m0, ld_m1, ld_a0, ld_a1]
  exact canonM False x0 x1 M _
theorem below_A (hc0 : ¬isFirst i) (hc1 : isBelow i) (hc2 : ¬isDiag i) : View.canon (runBelow c i a4 h4 a5 h5 a6 h6 a7 h7 a8 h8 a9 h9 hc0 hc1 hc2 x0 x1 x2 M A x3).2.1 = stepA False x0 x1 x2 M A := by
  frame_open
  simp (disch := first | decide | assumption) only [↓View.readCov_skip, View.readCov_fill, View.readCov_cons_toLoadRect, View.readAt_eq_ld, Memref.IsWhole.read_unread, ld_q0, ld_q1, ld_m0, ld_m1, ld_a0, ld_a1]
  exact canonA False x0 x1 x2 M A _
theorem below_coverM (hc0 : ¬isFirst i) (hc1 : isBelow i) (hc2 : ¬isDiag i) : ∀ y, ∃ p ∈ (runBelow c i a4 h4 a5 h5 a6 h6 a7 h7 a8 h8 a9 h9 hc0 hc1 hc2 x0 x1 x2 M A x3).1, y ∈ p.1.set := by
  frame_open
  exact cover_two coverM
theorem below_coverA (hc0 : ¬isFirst i) (hc1 : isBelow i) (hc2 : ¬isDiag i) : ∀ y, ∃ p ∈ (runBelow c i a4 h4 a5 h5 a6 h6 a7 h7 a8 h8 a9 h9 hc0 hc1 hc2 x0 x1 x2 M A x3).2.1, y ∈ p.1.set := by
  frame_open
  exact cover_two coverA

theorem diag_M (hc0 : ¬isFirst i) (hc1 : ¬isBelow i) (hc2 : isDiag i) : View.canon (runDiag c i a4 h4 a5 h5 a6 h6 a7 h7 a8 h8 a9 h9 hc0 hc1 hc2 x0 x1 x2 M A).2.1 = stepM True x0 x1 M := by
  frame_open
  simp (disch := first | decide | assumption) only [↓View.readCov_skip, View.readCov_fill, View.readCov_cons_toLoadRect, View.readAt_eq_ld, Memref.IsWhole.read_unread, ld_q0, ld_q1, ld_m0, ld_m1, ld_a0, ld_a1]
  exact canonM True x0 x1 M _
theorem diag_A (hc0 : ¬isFirst i) (hc1 : ¬isBelow i) (hc2 : isDiag i) : View.canon (runDiag c i a4 h4 a5 h5 a6 h6 a7 h7 a8 h8 a9 h9 hc0 hc1 hc2 x0 x1 x2 M A).2.2.1 = stepA True x0 x1 x2 M A := by
  frame_open
  simp (disch := first | decide | assumption) only [↓View.readCov_skip, View.readCov_fill, View.readCov_cons_toLoadRect, View.readAt_eq_ld, Memref.IsWhole.read_unread, ld_q0, ld_q1, ld_m0, ld_m1, ld_a0, ld_a1]
  exact canonA True x0 x1 x2 M A _
theorem diag_coverM (hc0 : ¬isFirst i) (hc1 : ¬isBelow i) (hc2 : isDiag i) : ∀ y, ∃ p ∈ (runDiag c i a4 h4 a5 h5 a6 h6 a7 h7 a8 h8 a9 h9 hc0 hc1 hc2 x0 x1 x2 M A).2.1, y ∈ p.1.set := by
  frame_open
  exact cover_two coverM
theorem diag_coverA (hc0 : ¬isFirst i) (hc1 : ¬isBelow i) (hc2 : isDiag i) : ∀ y, ∃ p ∈ (runDiag c i a4 h4 a5 h5 a6 h6 a7 h7 a8 h8 a9 h9 hc0 hc1 hc2 x0 x1 x2 M A).2.2.1, y ∈ p.1.set := by
  frame_open
  exact cover_two coverA
theorem diag_O (hc0 : ¬isFirst i) (hc1 : ¬isBelow i) (hc2 : isDiag i) : View.canon (runDiag c i a4 h4 a5 h5 a6 h6 a7 h7 a8 h8 a9 h9 hc0 hc1 hc2 x0 x1 x2 M A).1 = outOf (stepA True x0 x1 x2 M A) := by
  rw [← diag_A c i a4 h4 a5 h5 a6 h6 a7 h7 a8 h8 a9 h9 x0 x1 x2 M A hc0 hc1 hc2]
  frame_open
  simp only [View.readCov_eq_canon']
  exact canonO _ _
theorem diag_coverO (hc0 : ¬isFirst i) (hc1 : ¬isBelow i) (hc2 : isDiag i) : ∀ y, ∃ p ∈ (runDiag c i a4 h4 a5 h5 a6 h6 a7 h7 a8 h8 a9 h9 hc0 hc1 hc2 x0 x1 x2 M A).1, y ∈ p.1.set := by
  frame_open
  exact cover_two coverO

theorem firstBelow_M (hc0 : isFirst i) (hc1 : isBelow i) (hc2 : ¬isDiag i) : View.canon (runFirstBelow c i a4 h4 a5 h5 a6 h6 a7 h7 a8 h8 a9 h9 hc0 hc1 hc2 x0 x1 x2 x3).1 = stepM False x0 x1 (k0_pay1 (F := Ideal)) := by
  frame_open
  simp (disch := first | decide | assumption) only [↓View.readCov_skip, View.readCov_fill, View.readCov_cons_toLoadRect, View.readAt_eq_ld, Memref.IsWhole.read_unread, ld_q0, ld_q1, ld_m0, ld_m1, ld_a0, ld_a1]
  exact canonM False x0 x1 (k0_pay1 (F := Ideal)) _
theorem firstBelow_A (hc0 : isFirst i) (hc1 : isBelow i) (hc2 : ¬isDiag i) : View.canon (runFirstBelow c i a4 h4 a5 h5 a6 h6 a7 h7 a8 h8 a9 h9 hc0 hc1 hc2 x0 x1 x2 x3).2.1 = stepA False x0 x1 x2 (k0_pay1 (F := Ideal)) (k0_pay2 (F := Ideal)) := by
  frame_open
  simp (disch := first | decide | assumption) only [↓View.readCov_skip, View.readCov_fill, View.readCov_cons_toLoadRect, View.readAt_eq_ld, Memref.IsWhole.read_unread, ld_q0, ld_q1, ld_m0, ld_m1, ld_a0, ld_a1]
  exact canonA False x0 x1 x2 (k0_pay1 (F := Ideal)) (k0_pay2 (F := Ideal)) _
theorem firstBelow_coverM (hc0 : isFirst i) (hc1 : isBelow i) (hc2 : ¬isDiag i) : ∀ y, ∃ p ∈ (runFirstBelow c i a4 h4 a5 h5 a6 h6 a7 h7 a8 h8 a9 h9 hc0 hc1 hc2 x0 x1 x2 x3).1, y ∈ p.1.set := by
  frame_open
  exact cover_two coverM
theorem firstBelow_coverA (hc0 : isFirst i) (hc1 : isBelow i) (hc2 : ¬isDiag i) : ∀ y, ∃ p ∈ (runFirstBelow c i a4 h4 a5 h5 a6 h6 a7 h7 a8 h8 a9 h9 hc0 hc1 hc2 x0 x1 x2 x3).2.1, y ∈ p.1.set := by
  frame_open
  exact cover_two coverA

theorem firstDiag_M (hc0 : isFirst i) (hc1 : ¬isBelow i) (hc2 : isDiag i) : View.canon (runFirstDiag c i a4 h4 a5 h5 a6 h6 a7 h7 a8 h8 a9 h9 hc0 hc1 hc2 x0 x1 x2).2.1 = stepM True x0 x1 (k0_pay1 (F := Ideal)) := by
  frame_open
  simp (disch := first | decide | assumption) only [↓View.readCov_skip, View.readCov_fill, View.readCov_cons_toLoadRect, View.readAt_eq_ld, Memref.IsWhole.read_unread, ld_q0, ld_q1, ld_m0, ld_m1, ld_a0, ld_a1]
  exact canonM True x0 x1 (k0_pay1 (F := Ideal)) _
theorem firstDiag_A (hc0 : isFirst i) (hc1 : ¬isBelow i) (hc2 : isDiag i) : View.canon (runFirstDiag c i a4 h4 a5 h5 a6 h6 a7 h7 a8 h8 a9 h9 hc0 hc1 hc2 x0 x1 x2).2.2.1 = stepA True x0 x1 x2 (k0_pay1 (F := Ideal)) (k0_pay2 (F := Ideal)) := by
  frame_open
  simp (disch := first | decide | assumption) only [↓View.readCov_skip, View.readCov_fill, View.readCov_cons_toLoadRect, View.readAt_eq_ld, Memref.IsWhole.read_unread, ld_q0, ld_q1, ld_m0, ld_m1, ld_a0, ld_a1]
  exact canonA True x0 x1 x2 (k0_pay1 (F := Ideal)) (k0_pay2 (F := Ideal)) _
theorem firstDiag_coverM (hc0 : isFirst i) (hc1 : ¬isBelow i) (hc2 : isDiag i) : ∀ y, ∃ p ∈ (runFirstDiag c i a4 h4 a5 h5 a6 h6 a7 h7 a8 h8 a9 h9 hc0 hc1 hc2 x0 x1 x2).2.1, y ∈ p.1.set := by
  frame_open
  exact cover_two coverM
theorem firstDiag_coverA (hc0 : isFirst i) (hc1 : ¬isBelow i) (hc2 : isDiag i) : ∀ y, ∃ p ∈ (runFirstDiag c i a4 h4 a5 h5 a6 h6 a7 h7 a8 h8 a9 h9 hc0 hc1 hc2 x0 x1 x2).2.2.1, y ∈ p.1.set := by
  frame_open
  exact cover_two coverA
theorem firstDiag_O (hc0 : isFirst i) (hc1 : ¬isBelow i) (hc2 : isDiag i) : View.canon (runFirstDiag c i a4 h4 a5 h5 a6 h6 a7 h7 a8 h8 a9 h9 hc0 hc1 hc2 x0 x1 x2).1 = outOf (stepA True x0 x1 x2 (k0_pay1 (F := Ideal)) (k0_pay2 (F := Ideal))) := by
  rw [← firstDiag_A c i a4 h4 a5 h5 a6 h6 a7 h7 a8 h8 a9 h9 x0 x1 x2 hc0 hc1 hc2]
  frame_open
  simp only [View.readCov_eq_canon']
  exact canonO _ _
theorem firstDiag_coverO (hc0 : isFirst i) (hc1 : ¬isBelow i) (hc2 : isDiag i) : ∀ y, ∃ p ∈ (runFirstDiag c i a4 h4 a5 h5 a6 h6 a7 h7 a8 h8 a9 h9 hc0 hc1 hc2 x0 x1 x2).1, y ∈ p.1.set := by
  frame_open
  exact cover_two coverO
end

end Cert.KernelIdeal.Mla

end
-- ==== Proof.Body.lean ====
/- The body at any point, from exact contents to exact contents: the scratch goes to the next state, the result's buffer is written
   at the row's last key tile and kept elsewhere. -/
module

public import proofs.«01_k».proof.Proof.Contents

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

/-- The two scratch buffers' contents: the running maxima and the running sums. -/
abbrev Scratch := Vec Ideal S2x512x1 .f32 × Vec Ideal S512x512 .f32

/-- The scratch as a row starts: maxima at `-∞`, sums at zero. -/
def start : Scratch := (k0_pay1 (F := Ideal), k0_pay2 (F := Ideal))

/-- The scratch after a point: reset at a row's first key tile, then the tile taken in if the row reaches it. -/
def advance (t : ℕ) (x0 x1 x2 : Vec Ideal S1x512x512 .bf16) (s : Scratch) : Scratch :=
  let s := if t % 16 = 0 then start else s
  if t % 16 < t / 16 % 16 then (stepM False x0 x1 s.1, stepA False x0 x1 x2 s.1 s.2)
  else if t % 16 = t / 16 % 16 then (stepM True x0 x1 s.1, stepA True x0 x1 x2 s.1 s.2)
  else s

/-- The result's buffer after a point: the quotients at a row's last key tile, else what it held. -/
def written (t : ℕ) (s : Scratch) (y : Vec Ideal S1x512x256 .bf16) : Vec Ideal S1x512x256 .bf16 :=
  if t % 16 = t / 16 % 16 then outOf s.2 else y

/-- The six buffers of the body at given contents. -/
def held (c : Dev nD) (arg4 arg5 arg6 : Memref sig .tc .vmem S1x512x512 .bf16) (arg7 : Memref sig .tc .vmem S1x512x256 .bf16) (arg8 : Memref sig .tc .vmem S2x512x1 .f32) (arg9 : Memref sig .tc .vmem S512x512 .f32)
    (x0 x1 x2 : Vec Ideal S1x512x512 .bf16) (y : Vec Ideal S1x512x256 .bf16) (s : Scratch) : sProp 𝕄 :=
  iprop(owns (c : Thread nD τ) arg4 fullShare x0 ∗ owns (c : Thread nD τ) arg5 fullShare x1 ∗ owns (c : Thread nD τ) arg6 fullShare x2
    ∗ owns (c : Thread nD τ) arg7 fullShare y ∗ owns (c : Thread nD τ) arg8 fullShare s.1 ∗ owns (c : Thread nD τ) arg9 fullShare s.2)

/-- A whole buffer with a covering list of stores written holds the list's contents. -/
theorem owns_written {S : Shape} {e : EltTy} (c : Dev nD) (a : Memref sig .tc .vmem S e) (L : List (View.Piece (Elt Ideal) S e))
    (cov : ∀ y, ∃ p ∈ L, y ∈ p.1.set) (d : Vec Ideal S e) (hd : View.canon L = d) :
    iprop(∃ f, a.view.loc (c : Thread nD τ) ↦[a.view.set]{fullShare} a.view.writes (Elt Ideal) f L) ⊢ (owns (c : Thread nD τ) a fullShare d : sProp 𝕄) := by
  subst hd
  unfold owns
  iintro ⟨%f, H⟩
  iexists _; isplitr; swap; · iexact H
  ipureintro; exact View.read_writes_eq_canon a.view f L cov

variable (c : Dev nD) (i : grid0.Coords) (arg4 : Memref sig .tc .vmem S1x512x512 .bf16) (harg4 : arg4.IsWhole) (arg5 : Memref sig .tc .vmem S1x512x512 .bf16) (harg5 : arg5.IsWhole) (arg6 : Memref sig .tc .vmem S1x512x512 .bf16) (harg6 : arg6.IsWhole) (arg7 : Memref sig .tc .vmem S1x512x256 .bf16) (harg7 : arg7.IsWhole) (arg8 : Memref sig .tc .vmem S2x512x1 .f32) (harg8 : arg8.IsWhole) (arg9 : Memref sig .tc .vmem S512x512 .f32) (harg9 : arg9.IsWhole)
    (x0 x1 x2 : Vec Ideal S1x512x512 .bf16) (y : Vec Ideal S1x512x256 .bf16) (s : Scratch)

/-- The body at the only key tile of its row. -/
theorem firstDiag_step (hc0 : isFirst i) (hc1 : ¬isBelow i) (hc2 : isDiag i) (K : PUnit → sProp 𝕄) :
    iprop(held c arg4 arg5 arg6 arg7 arg8 arg9 x0 x1 x2 y s ∗ (held c arg4 arg5 arg6 arg7 arg8 arg9 x0 x1 x2 (outOf (stepA True x0 x1 x2 start.1 start.2)) (stepM True x0 x1 start.1, stepA True x0 x1 x2 start.1 start.2) -∗ K ⟨⟩))
      ⊢ wp frame (wpE (defs₀ (F := Ideal)) Variants.none c none) Set.univ (cc0_mla_prompt i arg4 harg4 arg5 harg5 arg6 harg6 arg7 harg7 arg8 harg8 arg9 harg9) K := by
  unfold held
  iintro ⟨⟨H0, H1, H2, H3, HS0, HS1⟩, Hk⟩
  iapply ((runFirstDiag c i arg4 harg4 arg5 harg5 arg6 harg6 arg7 harg7 arg8 harg8 arg9 harg9 hc0 hc1 hc2 x0 x1 x2).2.2.2 Set.univ K)
  isplitl [H0]; · iexact H0
  isplitl [H1]; · iexact H1
  isplitl [H2]; · iexact H2
  isplitl [H3]; · iexists _; iexact H3
  isplitl [HS0]; · iexists _; iexact HS0
  isplitl [HS1]; · iexists _; iexact HS1
  iintro ⟨H0, H1, H2, H3, HS0, HS1⟩
  iapply Hk
  isplitl [H0]; · iexact H0
  isplitl [H1]; · iexact H1
  isplitl [H2]; · iexact H2
  isplitl [H3]
  · iapply (owns_written c arg7 _ (firstDiag_coverO c i arg4 harg4 arg5 harg5 arg6 harg6 arg7 harg7 arg8 harg8 arg9 harg9 x0 x1 x2 hc0 hc1 hc2) _ (firstDiag_O c i arg4 harg4 arg5 harg5 arg6 harg6 arg7 harg7 arg8 harg8 arg9 harg9 x0 x1 x2 hc0 hc1 hc2)); iexact H3
  isplitl [HS0]
  · iapply (owns_written c arg8 _ (firstDiag_coverM c i arg4 harg4 arg5 harg5 arg6 harg6 arg7 harg7 arg8 harg8 arg9 harg9 x0 x1 x2 hc0 hc1 hc2) _ (firstDiag_M c i arg4 harg4 arg5 harg5 arg6 harg6 arg7 harg7 arg8 harg8 arg9 harg9 x0 x1 x2 hc0 hc1 hc2)); iexact HS0
  iapply (owns_written c arg9 _ (firstDiag_coverA c i arg4 harg4 arg5 harg5 arg6 harg6 arg7 harg7 arg8 harg8 arg9 harg9 x0 x1 x2 hc0 hc1 hc2) _ (firstDiag_A c i arg4 harg4 arg5 harg5 arg6 harg6 arg7 harg7 arg8 harg8 arg9 harg9 x0 x1 x2 hc0 hc1 hc2)); iexact HS1

/-- The body at the first key tile of a longer row. -/
theorem firstBelow_step (hc0 : isFirst i) (hc1 : isBelow i) (hc2 : ¬isDiag i) (K : PUnit → sProp 𝕄) :
    iprop(held c arg4 arg5 arg6 arg7 arg8 arg9 x0 x1 x2 y s ∗ (held c arg4 arg5 arg6 arg7 arg8 arg9 x0 x1 x2 y (stepM False x0 x1 start.1, stepA False x0 x1 x2 start.1 start.2) -∗ K ⟨⟩))
      ⊢ wp frame (wpE (defs₀ (F := Ideal)) Variants.none c none) Set.univ (cc0_mla_prompt i arg4 harg4 arg5 harg5 arg6 harg6 arg7 harg7 arg8 harg8 arg9 harg9) K := by
  unfold held
  iintro ⟨⟨H0, H1, H2, H3, HS0, HS1⟩, Hk⟩
  iapply ((runFirstBelow c i arg4 harg4 arg5 harg5 arg6 harg6 arg7 harg7 arg8 harg8 arg9 harg9 hc0 hc1 hc2 x0 x1 x2 y).2.2 Set.univ K)
  isplitl [H0]; · iexact H0
  isplitl [H1]; · iexact H1
  isplitl [H2]; · iexact H2
  isplitl [H3]; · iexact H3
  isplitl [HS0]; · iexists _; iexact HS0
  isplitl [HS1]; · iexists _; iexact HS1
  iintro ⟨H0, H1, H2, H3, HS0, HS1⟩
  iapply Hk
  isplitl [H0]; · iexact H0
  isplitl [H1]; · iexact H1
  isplitl [H2]; · iexact H2
  isplitl [H3]
  · iexact H3
  isplitl [HS0]
  · iapply (owns_written c arg8 _ (firstBelow_coverM c i arg4 harg4 arg5 harg5 arg6 harg6 arg7 harg7 arg8 harg8 arg9 harg9 x0 x1 x2 y hc0 hc1 hc2) _ (firstBelow_M c i arg4 harg4 arg5 harg5 arg6 harg6 arg7 harg7 arg8 harg8 arg9 harg9 x0 x1 x2 y hc0 hc1 hc2)); iexact HS0
  iapply (owns_written c arg9 _ (firstBelow_coverA c i arg4 harg4 arg5 harg5 arg6 harg6 arg7 harg7 arg8 harg8 arg9 harg9 x0 x1 x2 y hc0 hc1 hc2) _ (firstBelow_A c i arg4 harg4 arg5 harg5 arg6 harg6 arg7 harg7 arg8 harg8 arg9 harg9 x0 x1 x2 y hc0 hc1 hc2)); iexact HS1

/-- The body at the last key tile of a longer row. -/
theorem diag_step (hc0 : ¬isFirst i) (hc1 : ¬isBelow i) (hc2 : isDiag i) (K : PUnit → sProp 𝕄) :
    iprop(held c arg4 arg5 arg6 arg7 arg8 arg9 x0 x1 x2 y s ∗ (held c arg4 arg5 arg6 arg7 arg8 arg9 x0 x1 x2 (outOf (stepA True x0 x1 x2 s.1 s.2)) (stepM True x0 x1 s.1, stepA True x0 x1 x2 s.1 s.2) -∗ K ⟨⟩))
      ⊢ wp frame (wpE (defs₀ (F := Ideal)) Variants.none c none) Set.univ (cc0_mla_prompt i arg4 harg4 arg5 harg5 arg6 harg6 arg7 harg7 arg8 harg8 arg9 harg9) K := by
  unfold held
  iintro ⟨⟨H0, H1, H2, H3, HS0, HS1⟩, Hk⟩
  iapply ((runDiag c i arg4 harg4 arg5 harg5 arg6 harg6 arg7 harg7 arg8 harg8 arg9 harg9 hc0 hc1 hc2 x0 x1 x2 s.1 s.2).2.2.2 Set.univ K)
  isplitl [H0]; · iexact H0
  isplitl [H1]; · iexact H1
  isplitl [H2]; · iexact H2
  isplitl [H3]; · iexists _; iexact H3
  isplitl [HS0]; · iexact HS0
  isplitl [HS1]; · iexact HS1
  iintro ⟨H0, H1, H2, H3, HS0, HS1⟩
  iapply Hk
  isplitl [H0]; · iexact H0
  isplitl [H1]; · iexact H1
  isplitl [H2]; · iexact H2
  isplitl [H3]
  · iapply (owns_written c arg7 _ (diag_coverO c i arg4 harg4 arg5 harg5 arg6 harg6 arg7 harg7 arg8 harg8 arg9 harg9 x0 x1 x2 s.1 s.2 hc0 hc1 hc2) _ (diag_O c i arg4 harg4 arg5 harg5 arg6 harg6 arg7 harg7 arg8 harg8 arg9 harg9 x0 x1 x2 s.1 s.2 hc0 hc1 hc2)); iexact H3
  isplitl [HS0]
  · iapply (owns_written c arg8 _ (diag_coverM c i arg4 harg4 arg5 harg5 arg6 harg6 arg7 harg7 arg8 harg8 arg9 harg9 x0 x1 x2 s.1 s.2 hc0 hc1 hc2) _ (diag_M c i arg4 harg4 arg5 harg5 arg6 harg6 arg7 harg7 arg8 harg8 arg9 harg9 x0 x1 x2 s.1 s.2 hc0 hc1 hc2)); iexact HS0
  iapply (owns_written c arg9 _ (diag_coverA c i arg4 harg4 arg5 harg5 arg6 harg6 arg7 harg7 arg8 harg8 arg9 harg9 x0 x1 x2 s.1 s.2 hc0 hc1 hc2) _ (diag_A c i arg4 harg4 arg5 harg5 arg6 harg6 arg7 harg7 arg8 harg8 arg9 harg9 x0 x1 x2 s.1 s.2 hc0 hc1 hc2)); iexact HS1

/-- The body at a later key tile before the row's last. -/
theorem below_step (hc0 : ¬isFirst i) (hc1 : isBelow i) (hc2 : ¬isDiag i) (K : PUnit → sProp 𝕄) :
    iprop(held c arg4 arg5 arg6 arg7 arg8 arg9 x0 x1 x2 y s ∗ (held c arg4 arg5 arg6 arg7 arg8 arg9 x0 x1 x2 y (stepM False x0 x1 s.1, stepA False x0 x1 x2 s.1 s.2) -∗ K ⟨⟩))
      ⊢ wp frame (wpE (defs₀ (F := Ideal)) Variants.none c none) Set.univ (cc0_mla_prompt i arg4 harg4 arg5 harg5 arg6 harg6 arg7 harg7 arg8 harg8 arg9 harg9) K := by
  unfold held
  iintro ⟨⟨H0, H1, H2, H3, HS0, HS1⟩, Hk⟩
  iapply ((runBelow c i arg4 harg4 arg5 harg5 arg6 harg6 arg7 harg7 arg8 harg8 arg9 harg9 hc0 hc1 hc2 x0 x1 x2 s.1 s.2 y).2.2 Set.univ K)
  isplitl [H0]; · iexact H0
  isplitl [H1]; · iexact H1
  isplitl [H2]; · iexact H2
  isplitl [H3]; · iexact H3
  isplitl [HS0]; · iexact HS0
  isplitl [HS1]; · iexact HS1
  iintro ⟨H0, H1, H2, H3, HS0, HS1⟩
  iapply Hk
  isplitl [H0]; · iexact H0
  isplitl [H1]; · iexact H1
  isplitl [H2]; · iexact H2
  isplitl [H3]
  · iexact H3
  isplitl [HS0]
  · iapply (owns_written c arg8 _ (below_coverM c i arg4 harg4 arg5 harg5 arg6 harg6 arg7 harg7 arg8 harg8 arg9 harg9 x0 x1 x2 s.1 s.2 y hc0 hc1 hc2) _ (below_M c i arg4 harg4 arg5 harg5 arg6 harg6 arg7 harg7 arg8 harg8 arg9 harg9 x0 x1 x2 s.1 s.2 y hc0 hc1 hc2)); iexact HS0
  iapply (owns_written c arg9 _ (below_coverA c i arg4 harg4 arg5 harg5 arg6 harg6 arg7 harg7 arg8 harg8 arg9 harg9 x0 x1 x2 s.1 s.2 y hc0 hc1 hc2) _ (below_A c i arg4 harg4 arg5 harg5 arg6 harg6 arg7 harg7 arg8 harg8 arg9 harg9 x0 x1 x2 s.1 s.2 y hc0 hc1 hc2)); iexact HS1

set_option maxHeartbeats 1000000 in
/-- The body at a key tile after its row's last: nothing happens. -/
theorem beyond_step (hc0 : ¬isFirst i) (hc1 : ¬isBelow i) (hc2 : ¬isDiag i) (K : PUnit → sProp 𝕄) :
    iprop(held c arg4 arg5 arg6 arg7 arg8 arg9 x0 x1 x2 y s ∗ (held c arg4 arg5 arg6 arg7 arg8 arg9 x0 x1 x2 y s -∗ K ⟨⟩))
      ⊢ wp frame (wpE (defs₀ (F := Ideal)) Variants.none c none) Set.univ (cc0_mla_prompt i arg4 harg4 arg5 harg5 arg6 harg6 arg7 harg7 arg8 harg8 arg9 harg9) K := by
  simp only [cc0_mla_prompt_eq_skeleton]; unfold cc0_mla_prompt_skel
  iintro ⟨H, Hk⟩
  sl_exec (disch := first | sl_exact hc0 | sl_exact hc1 | sl_exact hc2)
  sl_step
  iapply Hk
  iexact H

/-- The body at a point of the grid. -/
theorem body_step (t : Fin cfg0.N) (K : PUnit → sProp 𝕄) :
    iprop(held c (st0_0 t) (st0_1 t) (st0_2 t) (st0_3 t) smM smA x0 x1 x2 y s
        ∗ (held c (st0_0 t) (st0_1 t) (st0_2 t) (st0_3 t) smM smA x0 x1 x2 (written t.val (advance t.val x0 x1 x2 s) y) (advance t.val x0 x1 x2 s) -∗ K ⟨⟩))
      ⊢ wp frame (wpE (defs₀ (F := Ideal)) Variants.none c none) Set.univ (bodyAt0 t) K := by
  unfold bodyAt0
  by_cases h0 : t.val % 16 = 0 <;> by_cases h1 : t.val % 16 < t.val / 16 % 16 <;> by_cases h2 : t.val % 16 = t.val / 16 % 16
  · omega
  · simp only [written, advance, if_pos h0, if_pos h1, if_neg h2]
    exact firstBelow_step c (grid0.coords t) _ _ _ _ _ _ _ _ _ _ _ _ x0 x1 x2 y s ((isFirst_iff t).mpr h0) ((isBelow_iff t).mpr h1) (mt (isDiag_iff t).mp h2) K
  · simp only [written, advance, if_pos h0, if_neg h1, if_pos h2]
    exact firstDiag_step c (grid0.coords t) _ _ _ _ _ _ _ _ _ _ _ _ x0 x1 x2 y s ((isFirst_iff t).mpr h0) (mt (isBelow_iff t).mp h1) ((isDiag_iff t).mpr h2) K
  · omega
  · omega
  · simp only [written, advance, if_neg h0, if_pos h1, if_neg h2]
    exact below_step c (grid0.coords t) _ _ _ _ _ _ _ _ _ _ _ _ x0 x1 x2 y s (mt (isFirst_iff t).mp h0) ((isBelow_iff t).mpr h1) (mt (isDiag_iff t).mp h2) K
  · simp only [written, advance, if_neg h0, if_neg h1, if_pos h2]
    exact diag_step c (grid0.coords t) _ _ _ _ _ _ _ _ _ _ _ _ x0 x1 x2 y s (mt (isFirst_iff t).mp h0) (mt (isBelow_iff t).mp h1) ((isDiag_iff t).mpr h2) K
  · simp only [written, advance, if_neg h0, if_neg h1, if_neg h2]
    exact beyond_step c (grid0.coords t) _ _ _ _ _ _ _ _ _ _ _ _ x0 x1 x2 y s (mt (isFirst_iff t).mp h0) (mt (isBelow_iff t).mp h1) (mt (isDiag_iff t).mp h2) K

end Cert.KernelIdeal.Mla

end
-- ==== Proof.Data.lean ====
/- The proof data of the idealized kernel's pipeline, its run, and its frame: the scratch holds the row's state, the result's buffer
   the quotients of the row once its last key tile is taken. -/
module

public import proofs.«01_k».proof.Proof.Body
public import Idealize.ShloMosaic.Lib.Pipeline.TableIdle

@[expose] public section

set_option maxRecDepth 16384

noncomputable section

namespace Cert.KernelIdeal.Mla

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

theorem points : cfg0.N = 4096 := N_0

/-- The scratch before point `n`. -/
def stateAt (c : Dev nD) : (n : ℕ) → n ≤ cfg0.N → Scratch
  | 0, _ => start
  | n + 1, h => advance n (iblk m c 0 ⟨n, h⟩) (iblk m c 1 ⟨n, h⟩) (iblk m c 2 ⟨n, h⟩) (stateAt c n (Nat.le_of_succ_le h))

/-- The point of a row's last key tile, from any point of the row. -/
def lastOf (n : ℕ) : ℕ := n / 16 * 16 + n / 16 % 16

theorem lastOf_lt (t : Fin cfg0.N) : lastOf t.val < cfg0.N := by
  have h := t.isLt; have e := points; unfold lastOf; omega

/-- The row's result. -/
def outAt (c : Dev nD) (t : Fin cfg0.N) : Vec Ideal S1x512x256 .bf16 := outOf (stateAt m c (lastOf t.val + 1) (lastOf_lt t)).2

theorem outAt_congr (c : Dev nD) (t u : Fin cfg0.N) (h : t.val / 16 = u.val / 16) : outAt m c t = outAt m c u := by
  have e : lastOf t.val = lastOf u.val := by unfold lastOf; rw [h]
  unfold outAt; congr 2; simp only [e]

/-- At the row's last key tile the result is the quotients of the state it leaves. -/
theorem outAt_last (c : Dev nD) (t : Fin cfg0.N) (h : t.val % 16 = t.val / 16 % 16) : outAt m c t = outOf (stateAt m c (t.val + 1) t.isLt).2 := by
  have e : lastOf t.val = t.val := by unfold lastOf; omega
  unfold outAt; congr 2; simp only [e]

/-- The invariant before point `n`: the scratch at the row's state (at anything, before the first point). -/
def inv (c : Dev nD) : (n : ℕ) → n ≤ cfg0.N → sProp 𝕄
  | 0, _ => Pipeline.ΦA spec0 c
  | n + 1, h => iprop(iprop(owns (c : Thread nD τ) smM fullShare (stateAt m c (n + 1) h).1 ∗ owns (c : Thread nD τ) smA fullShare (stateAt m c (n + 1) h).2) ∗ (∃ r, prngReg c r))

theorem inv_zero (c : Dev nD) (n : ℕ) (h : n ≤ cfg0.N) (hn : n = 0) : inv m c n h = Pipeline.ΦA spec0 c := by subst hn; rfl
theorem inv_pos (c : Dev nD) (n : ℕ) (h : n ≤ cfg0.N) (hn : n ≠ 0) :
    inv m c n h = iprop(iprop(owns (c : Thread nD τ) smM fullShare (stateAt m c n h).1 ∗ owns (c : Thread nD τ) smA fullShare (stateAt m c n h).2) ∗ (∃ r, prngReg c r)) := by
  obtain ⟨k, rfl⟩ := Nat.exists_eq_succ_of_ne_zero hn; rfl
theorem inv_out (c : Dev nD) (n : ℕ) (h : n ≤ cfg0.N) : inv m c n h ⊢ Pipeline.ΦA spec0 c := by
  by_cases hn : n = 0
  · rw [inv_zero m c n h hn]
  rw [inv_pos m c n h hn, start_inv]
  iintro ⟨⟨HS0, HS1⟩, Hg⟩
  isplitl [HS0 HS1]
  · isplitl [HS0]
    · iexists _; iexact HS0
    iexists _; iexact HS1
  iexact Hg

/-- The proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := inv m c t.val (Nat.le_of_lt_succ t.isLt)
  q _ := fullShare
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outAt m c t := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem leaves0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after2]

/-! ## The result's window -/

/-- The body leaves the result's buffer alone except at the row's last key tile. -/
theorem idle3 (t : Fin cfg0.N) : cfg0.idle 3 (grid0.coords t) = decide (t.val % 16 ≠ t.val / 16 % 16) := by
  have h := isDiag_iff t
  rw [show cfg0.idle 3 (grid0.coords t) = !(k0_cond3 (grid0.coords t) == 1#1) from rfl]
  by_cases hd : t.val % 16 = t.val / 16 % 16
  · rw [show k0_cond3 (grid0.coords t) = 1#1 from h.mpr hd]; simp [hd]
  · have hc : ¬ k0_cond3 (grid0.coords t) = 1#1 := mt h.mp hd
    simp [hd, hc]

theorem flush3 (t : Fin cfg0.N) : (cfg0.win 3).flush t = decide (t.val % 16 = 15) :=
  Bool.eq_iff_iff.mpr ((flush0_3 t).trans decide_eq_true_iff.symm)

/-- The result's buffer holds nothing of the row up to its last key tile. -/
theorem fresh3 (n : ℕ) (h : n ≤ cfg0.N) : cfg0.fresh 3 n = decide (n % 16 ≤ n / 16 % 16) := by
  refine Cfg.fresh_tab cfg0 3 (fun n => decide (n % 16 ≤ n / 16 % 16)) (by decide) (fun t => ?_) n h
  rw [idle3, flush3]
  by_cases a : t.val % 16 = 15
  · rw [decide_eq_true a, Bool.true_or]; exact decide_eq_true (by omega)
  · rw [decide_eq_false a, Bool.false_or, ← Bool.decide_and]
    have e1 : (t.val + 1) / 16 = t.val / 16 := by omega
    have e2 : (t.val + 1) % 16 = t.val % 16 + 1 := by omega
    simp only [e1, e2]
    exact decide_eq_decide.mpr (by omega)

/-- What the body finds in the result's buffer past the row's last key tile: the row's result. -/
theorem before3 (c : Dev nD) (t : Fin cfg0.N) (h : t.val / 16 % 16 < t.val % 16) (d) : (dats m 0 c).before 3 t d = outAt m c t := by
  rw [(dats m 0 c).before_out_traj 3 rfl (fun _ _ => rfl) (fun u hu hi hf => ?_) t.val t rfl d, fresh3 _ t.isLt.le,
    decide_eq_false (by omega), if_neg Bool.false_ne_true, after3]
  · exact outAt_congr m c _ _ (by show (t.val - 1) / 16 = t.val / 16; omega)
  · rw [fresh3 _ u.isLt.le] at hf
    have hf := of_decide_eq_false hf
    rw [after3, after3]
    exact outAt_congr m c _ _ (by show u.val / 16 = (u.val - 1) / 16; omega)

/-- Handing the result's buffer back: the row's result at its last key tile and after it, what was found before. -/
theorem leaves3 (c : Dev nD) (t : Fin cfg0.N) (d) (s : Scratch) (hs : t.val % 16 = t.val / 16 % 16 → s = stateAt m c (t.val + 1) t.isLt) :
    (owns (c : Thread nD τ) (st0_3 t) fullShare (written t.val s ((dats m 0 c).before 3 t d)) : sProp 𝕄) ⊢ (dats m 0 c).leavesExact 3 t := by
  by_cases hd : t.val % 16 = t.val / 16 % 16
  · unfold Dat.leavesExact written
    rw [idle3, decide_eq_false (not_not.mpr hd), if_pos hd, hs hd, after3, outAt_last m c t hd]
  · unfold written; rw [if_neg hd]
    by_cases hf : t.val % 16 = 15
    · rw [before3 m c t (by omega)]
      unfold Dat.leavesExact
      rw [idle3, decide_eq_true hd, flush3, decide_eq_true hf, after3]
    · rw [(dats m 0 c).leavesExact_idle 3 t (by rw [idle3, decide_eq_true hd]) (by rw [flush3, decide_eq_false hf])]
      iintro H; iexists d; iexact H

/-! ## The body's obligation -/

/-- What the body is called with at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- What it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t)

theorem inv_castSucc (c : Dev nD) (t : Fin cfg0.N) : (dats m 0 c).Φ t.castSucc = inv m c t.val (Nat.le_of_lt t.isLt) := by
  dsimp only [dats]; exact Pipeline.Dat.Φ_castSucc (inv m c) t

/-- The scratch before a point, as far as the point depends on it. -/
theorem inv_open (c : Dev nD) (t : Fin cfg0.N) :
    inv m c t.val (Nat.le_of_lt t.isLt) ⊢ iprop(∃ s : Scratch,
      ⌜advance t.val (iblk m c 0 t) (iblk m c 1 t) (iblk m c 2 t) s = stateAt m c (t.val + 1) t.isLt⌝
      ∗ owns (c : Thread nD τ) smM fullShare s.1 ∗ owns (c : Thread nD τ) smA fullShare s.2 ∗ (∃ r, prngReg c r)) := by
  by_cases hn : t.val = 0
  · rw [inv_zero m c _ _ hn, start_inv]
    iintro ⟨⟨⟨%d0, HS0⟩, ⟨%d1, HS1⟩⟩, Hg⟩
    iexists (d0, d1)
    isplitr
    · ipureintro
      show advance t.val _ _ _ _ = advance t.val (iblk m c 0 t) (iblk m c 1 t) (iblk m c 2 t) (stateAt m c t.val (Nat.le_of_lt t.isLt))
      unfold advance; simp only [if_pos (show t.val % 16 = 0 by rw [hn])]
    isplitl [HS0]; · iexact HS0
    isplitl [HS1]; · iexact HS1
    iexact Hg
  · rw [inv_pos m c _ _ hn]
    iintro ⟨⟨HS0, HS1⟩, Hg⟩
    iexists (stateAt m c t.val (Nat.le_of_lt t.isLt))
    isplitr
    · ipureintro; rfl
    isplitl [HS0]; · iexact HS0
    isplitl [HS1]; · iexact HS1
    iexact Hg

theorem sound_body (c : Dev nD) (t : Fin cfg0.N) :
    bodyPre m c t ⊢ wp frame (wpE (defs₀ (F := Ideal)) Variants.none c none) Set.univ (bodyAt0 t) (fun _ => bodyPost m c t) := by
  unfold bodyPre bodyPost
  simp only [before0, before1, before2, leaves0, leaves1, leaves2]
  rw [show (dats m 0 c).owesAt () t.succ = (dats m 0 c).owesAt () t.castSucc from rfl]
  rw [show (dats m 0 c).Φ t.succ = inv m c (t.val + 1) t.isLt from rfl, inv_pos m c _ _ (Nat.succ_ne_zero _), inv_castSucc]
  refine (sep_mono_left (inv_open m c t)).trans ?_
  iintro ⟨⟨%s, %hs, HS0, HS1, Hg⟩, Ho, ⟨%d0, H0⟩, ⟨%d1, H1⟩, ⟨%d2, H2⟩, ⟨%d3, H3⟩⟩
  iapply (body_step c (iblk m c 0 t) (iblk m c 1 t) (iblk m c 2 t) ((dats m 0 c).before 3 t d3) s t _)
  unfold held
  isplitl [H0 H1 H2 H3 HS0 HS1]
  · isplitl [H0]; · iexact H0
    isplitl [H1]; · iexact H1
    isplitl [H2]; · iexact H2
    isplitl [H3]; · iexact H3
    isplitl [HS0]; · iexact HS0
    iexact HS1
  iintro ⟨H0, H1, H2, H3, HS0, HS1⟩
  rw [← hs]
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  iapply (leaves3 m c t d3 _ (fun _ => hs)); iexact H3

theorem defs₀_row (t : Fin cfg0.N) :
    defs₀ (F := Ideal) .tc cfg0.body (cfg0.bodyArgs t (cfg0.slots t)) = bodyAt0 t := by
  unfold defs₀; rw [Defs.onTc_tc]
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem inv_start (c : Dev nD) : Pipeline.ΦA spec0 c ⊢ (dats m 0 c).Φ 0 := by
  rw [show (dats m 0 c).Φ 0 = inv m c 0 (Nat.zero_le _) from rfl, inv_zero m c 0 _ rfl]
theorem inv_end (c : Dev nD) : (dats m 0 c).Φ (Fin.last cfg0.N) ⊢ Pipeline.ΦA spec0 c :=
  (inv_out m c cfg0.N le_rfl : inv m c cfg0.N le_rfl ⊢ _)

/-! ## The run and the frame -/

set_option backward.isDefEq.respectTransparency.types false in
/-- The run: the arrays as the proof data says, every buffer no window stages as the region found it, every semaphore at zero. -/
theorem run_main : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_start m) (hout := inv_end m)

/-- The frame. -/
theorem frame_ideal : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Mla

end
-- ==== Proof.ReferenceFrame.lean ====
/- The reference's run and its frame: it ends with its result the operations' term of its arguments, the arguments unchanged and
   every semaphore at zero. -/
module

public import proofs.«01_k».proof.Proof.Gen.ReferenceIdeal.Run
public import Idealize.ShloMosaic.Lib.Quiescent
public import Idealize.ShloMosaic.PureOps.Ideal

@[expose] public section

noncomputable section

namespace Cert.ReferenceIdeal.Mla

open Cert.ReferenceIdeal Cert.ReferenceIdeal.Gen
open Idealize.ShloMosaic Idealize.ShloMosaic.TcCoe Idealize.SL.Sem

variable (m : (ℓ : Loc nD τ sig) → Buf (Elt Ideal) ℓ) (ρ : Dev nD → PrngReg)

/-- The frame: the reference declares no semaphore. -/
theorem frame_reference : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Cert.ReferenceIdeal.Value.run (F := Ideal) m ρ)

end Cert.ReferenceIdeal.Mla

end
-- ==== Proof.Entry.lean ====
/- What the kernel's windows hold before the pallas_call: the scaled queries, the keys and the values, head by head. -/
module

public import proofs.«01_k».proof.Proof.Gen.KernelIdeal.Frame
public import Idealize.ShloMosaic.Lib.Pointwise
public import Idealize.ShloMosaic.Lib.StableHlo.RunRead

@[expose] public section

set_option maxRecDepth 16384

noncomputable section

namespace Cert.KernelIdeal.Mla

open Cert.KernelIdeal Cert.KernelIdeal.Gen
open Idealize.ShloMosaic Idealize.ShloMosaic.TcCoe Idealize.SL.Sem

section
variable (x0 x2 x4 : FVec Ideal S2x8192x16x128 .f32) (x1 : FVec Ideal S2x8192x16x64 .f32) (x3 : FVec Ideal S2x8192x64 .f32)

/-- The queries: the two parts and zeros, scaled. -/
def qCat : FVec Ideal S2x8192x16x256 .bf16 :=
  truncf .bf16 (mulf (concatenate S2x8192x16x256 3 [⟨S2x8192x16x128, x0⟩, ⟨S2x8192x16x64, x1⟩,
      ⟨S2x8192x16x64, (broadcastInDim S2x8192x16x64 ![] bcast_S_S2x8192x16x64 (constant S_ .f32 0x00000000#32) : FVec Ideal S2x8192x16x64 .f32)⟩]
      concatenates_S2x8192x16x128_S2x8192x16x64_S2x8192x16x64_S2x8192x16x256_d3 : FVec Ideal S2x8192x16x256 .f32)
    (broadcastInDim S2x8192x16x256 ![] bcast_S_S2x8192x16x256 (constant S_ .f32 0x3D93CD3A#32))) bitsLt_bf16_f32
/-- The keys: the two parts and zeros. -/
def kCat : FVec Ideal S2x8192x16x256 .bf16 :=
  truncf .bf16 (concatenate S2x8192x16x256 3 [⟨S2x8192x16x128, x2⟩,
      ⟨S2x8192x16x64, (broadcastInDim S2x8192x16x64 ![0, 1, 2, 3] bcast_S2x8192x1x64_S2x8192x16x64_0_1_2_3
        (broadcastInDim S2x8192x1x64 ![0, 1, 3] bcast_S2x8192x64_S2x8192x1x64_0_1_3 x3) : FVec Ideal S2x8192x16x64 .f32)⟩,
      ⟨S2x8192x16x64, (broadcastInDim S2x8192x16x64 ![] bcast_S_S2x8192x16x64 (constant S_ .f32 0x00000000#32) : FVec Ideal S2x8192x16x64 .f32)⟩]
      concatenates_S2x8192x16x128_S2x8192x16x64_S2x8192x16x64_S2x8192x16x256_d3 : FVec Ideal S2x8192x16x256 .f32) bitsLt_bf16_f32
/-- The values: the values, a column of ones, and zeros. -/
def vCat : FVec Ideal S2x8192x16x256 .bf16 :=
  concatenate S2x8192x16x256 3 [⟨S2x8192x16x128, (truncf .bf16 x4 bitsLt_bf16_f32 : FVec Ideal S2x8192x16x128 .bf16)⟩,
    ⟨S2x8192x16x1, (broadcastInDim S2x8192x16x1 ![] bcast_S_S2x8192x16x1 (constant S_ .bf16 0x3F80#16) : FVec Ideal S2x8192x16x1 .bf16)⟩,
    ⟨S2x8192x16x127, (broadcastInDim S2x8192x16x127 ![] bcast_S_S2x8192x16x127 (constant S_ .bf16 0x0000#16) : FVec Ideal S2x8192x16x127 .bf16)⟩]
    concatenates_S2x8192x16x128_S2x8192x16x1_S2x8192x16x127_S2x8192x16x256_d3
/-- The heads side by side. -/
def flat (x : FVec Ideal S2x8192x16x256 .bf16) : FVec Ideal S2x8192x4096 .bf16 := shapeCast S2x8192x4096 x shapeCasts_S2x8192x16x256_S2x8192x4096

end

variable (m : (ℓ : Loc nD τ sig) → Buf (Elt Ideal) ℓ)
theorem V_q (c : Dev nD) : V m c main_v5 = flat (qCat (m ((c : Thread nD τ).loc main_arg0)) (m ((c : Thread nD τ).loc main_arg1))) := by
  show StableHlo.after hostOps0 _ (Proc.devRef .tc main_v5) = _
  after_reads_simp
  rfl
theorem V_k (c : Dev nD) : V m c main_v11 = flat (kCat (m ((c : Thread nD τ).loc main_arg2)) (m ((c : Thread nD τ).loc main_arg3))) := by
  show StableHlo.after hostOps0 _ (Proc.devRef .tc main_v11) = _
  after_reads_simp
  rfl
theorem V_v (c : Dev nD) : V m c main_v16 = flat (vCat (m ((c : Thread nD τ).loc main_arg4))) := by
  show StableHlo.after hostOps0 _ (Proc.devRef .tc main_v16) = _
  after_reads_simp
  rfl

end Cert.KernelIdeal.Mla

end
-- ==== Proof.Softmax.lean ====
/- The running softmax over the extended reals: maxima and rescaled sums taken tile by tile are the whole row's. -/
module

public import Idealize.ShloMosaic.PureOps.Ideal
public import Idealize.ShloMosaic.Lib.Pointwise

@[expose] public section

noncomputable section

namespace Cert.KernelIdeal.Mla

open Idealize.ShloMosaic
open Finset

/-- A nonnegative finite factor goes through a sum, whatever the summands. -/
theorem scale_sum {ι : Type} (t : Finset ι) (x : EReal) (h0 : 0 ≤ x) (ht : x ≠ ⊤) (f : ι → EReal) : x * ∑ i ∈ t, f i = ∑ i ∈ t, x * f i := by
  classical
  induction t using Finset.induction_on with
  | empty => simp
  | insert a t ha ih => rw [sum_insert ha, sum_insert ha, EReal.left_distrib_of_nonneg_of_ne_top h0 ht, ih]

theorem bot_or_real (x : EReal) (hx : x ≠ ⊤) : x = ⊥ ∨ ∃ r : ℝ, x = r := by
  induction x with
  | bot => exact .inl rfl
  | coe r => exact .inr ⟨r, rfl⟩
  | top => exact absurd rfl hx

/-- An exponential below a real maximum is a nonnegative real. -/
theorem exp_real (s : EReal) (hs : s ≠ ⊤) (a : ℝ) : ∃ r : ℝ, 0 ≤ r ∧ Ideal.exp (s - a) = (r : EReal) ∧ (s ≠ ⊥ → 0 < r) := by
  rcases bot_or_real s hs with rfl | ⟨r, rfl⟩
  · exact ⟨0, le_rfl, by rw [EReal.bot_sub]; rfl, fun h => absurd rfl h⟩
  · exact ⟨Real.exp (r - a), (Real.exp_pos _).le, by rw [← EReal.coe_sub, Ideal.exp_coe], fun _ => Real.exp_pos _⟩

/-- Rescaling an exponential from one maximum to another. -/
theorem exp_rescale (s : EReal) (hs : s ≠ ⊤) (a b : ℝ) : Ideal.exp ((a : EReal) - b) * Ideal.exp (s - a) = Ideal.exp (s - b) := by
  rcases bot_or_real s hs with rfl | ⟨r, rfl⟩
  · rw [EReal.bot_sub, EReal.bot_sub, Ideal.exp_bot, mul_zero]
  · rw [← EReal.coe_sub, ← EReal.coe_sub, ← EReal.coe_sub, Ideal.exp_coe, Ideal.exp_coe, Ideal.exp_coe, ← EReal.coe_mul, ← Real.exp_add]
    congr 2; ring

/-- The maximum over the first `n` tiles of 512 columns. -/
def topOf (S : ℕ → EReal) (n : ℕ) : EReal := (range n).sup fun j => univ.sup fun c : Fin 512 => S (512 * j + c.val)

theorem topOf_succ (S : ℕ → EReal) (n : ℕ) : topOf S (n + 1) = max (topOf S n) (univ.fold max ⊥ fun c : Fin 512 => S (512 * n + c.val)) := by
  unfold topOf
  rw [range_add_one, sup_insert, sup_comm]; rfl

theorem topOf_real (S : ℕ → EReal) (hS : ∀ c, S c ≠ ⊤) (h0 : S 0 ≠ ⊥) (n : ℕ) (hn : 0 < n) : ∃ r : ℝ, topOf S n = r := by
  have h1 : topOf S n ≠ ⊤ := by
    refine ne_of_lt ((Finset.sup_lt_iff bot_lt_top).mpr fun j _ => (Finset.sup_lt_iff bot_lt_top).mpr fun c _ => lt_top_iff_ne_top.mpr (hS _))
  have h2 : topOf S n ≠ ⊥ := by
    have h : S (512 * 0 + (0 : Fin 512).val) ≤ topOf S n :=
      (le_sup (f := fun c : Fin 512 => S (512 * 0 + c.val)) (mem_univ 0)).trans
        (le_sup (f := fun j => univ.sup fun c : Fin 512 => S (512 * j + c.val)) (mem_range.mpr hn))
    intro e; rw [e] at h; exact h0 (le_bot_iff.mp h)
  rcases bot_or_real _ h1 with h | h
  · exact absurd h h2
  · exact h

/-- The running maximum is the maximum of the tiles taken. -/
theorem running_top (S M : ℕ → EReal) (N : ℕ) (hM0 : M 0 = ⊥)
    (hM : ∀ k, k < N → M (k + 1) = max (M k) (univ.fold max ⊥ fun c : Fin 512 => S (512 * k + c.val))) :
    ∀ k, k ≤ N → M k = topOf S k := by
  intro k
  induction k with
  | zero => intro _; rw [hM0]; rfl
  | succ k ih => intro hk; rw [hM k hk, ih (by omega), topOf_succ]

/-- The running sums are the sums of the tiles taken, weighted by the exponentials below their maximum. -/
theorem running_sum (S v M A : ℕ → EReal) (N : ℕ) (hS : ∀ c, S c ≠ ⊤) (h0 : S 0 ≠ ⊥) (hM : ∀ k, k ≤ N → M k = topOf S k) (hA0 : A 0 = 0)
    (hA : ∀ k, k < N → A (k + 1) = Ideal.exp (M k - M (k + 1)) * A k
      + ∑ c : Fin 512, Ideal.exp (S (512 * k + c.val) - M (k + 1)) * v (512 * k + c.val)) :
    ∀ k, k ≤ N → A k = ∑ j ∈ range k, ∑ c : Fin 512, Ideal.exp (S (512 * j + c.val) - topOf S k) * v (512 * j + c.val) := by
  intro k
  induction k with
  | zero => intro _; rw [hA0]; rfl
  | succ k ih =>
    intro hk
    rw [hA k hk, ih (by omega), sum_range_succ, hM k (by omega), hM (k + 1) hk]
    congr 1
    rcases Nat.eq_zero_or_pos k with rfl | hp
    · rw [range_zero, sum_empty, sum_empty, mul_zero]
    obtain ⟨a, ha⟩ := topOf_real S hS h0 k hp
    obtain ⟨b, hb⟩ := topOf_real S hS h0 (k + 1) (by omega)
    rw [ha, hb]
    obtain ⟨r, hr0, hr, -⟩ := exp_real a (EReal.coe_ne_top a) b
    have hn0 : (0 : EReal) ≤ Ideal.exp ((a : EReal) - b) := by rw [hr]; exact EReal.coe_nonneg.mpr hr0
    have hnt : Ideal.exp ((a : EReal) - b) ≠ ⊤ := by rw [hr]; exact EReal.coe_ne_top r
    rw [scale_sum _ _ hn0 hnt]
    refine sum_congr rfl fun j _ => ?_
    rw [scale_sum _ _ hn0 hnt]
    refine sum_congr rfl fun c _ => ?_
    rw [← mul_assoc, exp_rescale _ (hS _)]

/-- Tiles past the first `n` that hold only minus infinity change no sum, -/
theorem sum_dead (S v : ℕ → EReal) (n : ℕ) (hn : n ≤ 16) (μ : ℝ) (hdead : ∀ c, 512 * n ≤ c → S c = ⊥) :
    ∑ j ∈ range n, ∑ c : Fin 512, Ideal.exp (S (512 * j + c.val) - μ) * v (512 * j + c.val)
      = ∑ c : Fin 8192, Ideal.exp (S c.val - μ) * v c.val := by
  have h1 : ∑ c : Fin 8192, Ideal.exp (S c.val - μ) * v c.val
      = ∑ j ∈ range 16, ∑ c : Fin 512, Ideal.exp (S (512 * j + c.val) - μ) * v (512 * j + c.val) := by
    rw [Finset.sum_range]
    refine (Fin.sum_univ_tiles 16 512 rfl fun c : Fin 8192 => Ideal.exp (S c.val - μ) * v c.val).trans ?_
    refine sum_congr rfl fun j _ => sum_congr rfl fun c _ => ?_
    show Ideal.exp (S (j.val * 512 + c.val) - μ) * v (j.val * 512 + c.val) = _
    rw [Nat.mul_comm]
  rw [h1]
  refine sum_subset (range_subset_range.mpr hn) fun j _ hj => sum_eq_zero fun c _ => ?_
  have hj' : n ≤ j := Nat.le_of_not_lt fun h => hj (mem_range.mpr h)
  rw [hdead _ (by omega), EReal.bot_sub, Ideal.exp_bot, zero_mul]

/-- nor the maximum. -/
theorem top_dead (S : ℕ → EReal) (n : ℕ) (hn : n ≤ 16) (hdead : ∀ c, 512 * n ≤ c → S c = ⊥) :
    topOf S n = univ.fold max ⊥ fun c : Fin 8192 => S c.val := by
  show _ = univ.sup fun c : Fin 8192 => S c.val
  refine le_antisymm (Finset.sup_le fun j hj => Finset.sup_le fun c _ => ?_) (Finset.sup_le fun c _ => ?_)
  · have hj' := mem_range.mp hj
    exact le_sup (f := fun c : Fin 8192 => S c.val) (mem_univ (⟨512 * j + c.val, by omega⟩ : Fin 8192))
  · rcases Nat.lt_or_ge c.val (512 * n) with h | h
    · have e : c.val = 512 * (c.val / 512) + (⟨c.val % 512, by omega⟩ : Fin 512).val := by show _ = _ + c.val % 512; omega
      rw [e]
      exact (le_sup (f := fun d : Fin 512 => S (512 * (c.val / 512) + d.val)) (mem_univ _)).trans
        (le_sup (f := fun j => univ.sup fun d : Fin 512 => S (512 * j + d.val)) (mem_range.mpr (by omega)))
    · rw [hdead _ h]; exact bot_le

/-- Dividing the weighted sum by the sum of the weights is weighting by the quotients. -/
theorem quotient_sum {n : ℕ} (S v : Fin n → EReal) (hS : ∀ c, S c ≠ ⊤) (c0 : Fin n) (h0 : S c0 ≠ ⊥) (μ : ℝ) :
    Ideal.div (∑ c, Ideal.exp (S c - μ) * v c) (∑ c, Ideal.exp (S c - μ) * 1)
      = ∑ c, Ideal.div (Ideal.exp (S c - μ)) (∑ c', Ideal.exp (S c' - μ)) * v c := by
  choose x hx0 hx hxp using fun c => exp_real (S c) (hS c) μ
  have hL : ∑ c, Ideal.exp (S c - μ) = ((∑ c, x c : ℝ) : EReal) := by
    rw [sum_congr rfl fun c _ => hx c]
    exact (map_sum (⟨⟨Real.toEReal, EReal.coe_zero⟩, EReal.coe_add⟩ : ℝ →+ EReal) x univ).symm
  have hpos : 0 < ∑ c, x c := sum_pos' (fun c _ => hx0 c) ⟨c0, mem_univ _, hxp c0 h0⟩
  simp only [mul_one]
  rw [hL, Ideal.div_coe hpos.ne', mul_comm, scale_sum _ _ (EReal.coe_nonneg.mpr (one_div_nonneg.mpr hpos.le)) (EReal.coe_ne_top _)]
  refine sum_congr rfl fun c _ => ?_
  rw [Ideal.div_coe hpos.ne', mul_left_comm, mul_assoc, mul_left_comm]

/-- The running softmax of a row: the quotient of the running sums is the values' sum weighted by the softmax of the whole row. -/
theorem running_softmax (S v M A L : ℕ → EReal) (n : ℕ) (hn0 : 0 < n) (hn : n ≤ 16) (hS : ∀ c, S c ≠ ⊤) (h0 : S 0 ≠ ⊥)
    (hdead : ∀ c, 512 * n ≤ c → S c = ⊥) (hM0 : M 0 = ⊥) (hA0 : A 0 = 0) (hL0 : L 0 = 0)
    (hM : ∀ k, k < n → M (k + 1) = max (M k) (univ.fold max ⊥ fun c : Fin 512 => S (512 * k + c.val)))
    (hA : ∀ k, k < n → A (k + 1) = Ideal.exp (M k - M (k + 1)) * A k
      + ∑ c : Fin 512, Ideal.exp (S (512 * k + c.val) - M (k + 1)) * v (512 * k + c.val))
    (hL : ∀ k, k < n → L (k + 1) = Ideal.exp (M k - M (k + 1)) * L k
      + ∑ c : Fin 512, Ideal.exp (S (512 * k + c.val) - M (k + 1)) * 1) :
    Ideal.div (A n) (L n) = ∑ c : Fin 8192, Ideal.div (Ideal.exp (S c.val - univ.fold max ⊥ fun c : Fin 8192 => S c.val))
      (∑ c' : Fin 8192, Ideal.exp (S c'.val - univ.fold max ⊥ fun c : Fin 8192 => S c.val)) * v c.val := by
  have hT := running_top S M n hM0 hM
  rw [running_sum S v M A n hS h0 hT hA0 hA n le_rfl, running_sum S (fun _ => 1) M L n hS h0 hT hL0 hL n le_rfl]
  obtain ⟨μ, hμ⟩ := topOf_real S hS h0 n hn0
  rw [← top_dead S n hn hdead, hμ, sum_dead S v n hn μ hdead, sum_dead S (fun _ => 1) n hn μ hdead]
  exact quotient_sum (fun c : Fin 8192 => S c.val) (fun c => v c.val) (fun c => hS _) 0 h0 μ

end Cert.KernelIdeal.Mla

end
-- ==== Proof.Inputs.lean ====
/- The windows' contents at an index: a padded product is the two parts' products scaled; the values carry a column of ones. -/
module

public import proofs.«01_k».proof.Proof.Entry
public import proofs.«01_k».proof.Proof.Softmax
public import Idealize.ShloMosaic.Lib.Pointwise

@[expose] public section

set_option maxRecDepth 16384

noncomputable section

namespace Cert.KernelIdeal.Mla

open Cert.KernelIdeal Cert.KernelIdeal.Gen
open Idealize.ShloMosaic Idealize.ShloMosaic.TcCoe

variable (x0 x2 x4 : FVec Ideal S2x8192x16x128 .f32) (x1 : FVec Ideal S2x8192x16x64 .f32) (x3 : FVec Ideal S2x8192x64 .f32)

theorem flat_apply (x : FVec Ideal S2x8192x16x256 .bf16) (b : Fin 2) (r : Fin 8192) (h : Fin 16) (d : Fin 256) (j : Fin 4096) (hj : j.val = 256 * h.val + d.val) :
    flat x (ix3 b r j) = x (ix4 b r h d) := by
  obtain ⟨h, hh⟩ := h
  obtain ⟨d, hd⟩ := d
  obtain ⟨j, hl⟩ := j
  obtain rfl : h = j / 256 := by simp only at hj; omega
  obtain rfl : d = j % 256 := by simp only at hj; omega
  pointwise [flat]

/-- The scale is a nonnegative real. -/
theorem scale_real : ∃ s : ℝ, 0 ≤ s ∧ Ideal.ofBits .f32 0x3D93CD3A#32 = (s : EReal) := by
  refine ⟨_, ?_, by simp [Ideal.ofBits, Ideal.ieee]; rfl⟩
  positivity

section
variable (b : Fin 2) (r : Fin 8192) (h : Fin 16)
theorem qCat_0 (d : Fin 128) : qCat x0 x1 (ix4 b r h ⟨d.val, by omega⟩) = (x0 (ix4 b r h d) : EReal) * Ideal.ofBits .f32 0x3D93CD3A#32 := by
  pointwise [qCat]
theorem qCat_1 (d : Fin 64) : qCat x0 x1 (ix4 b r h ⟨128 + d.val, by omega⟩) = (x1 (ix4 b r h d) : EReal) * Ideal.ofBits .f32 0x3D93CD3A#32 := by
  pointwise [qCat]
theorem kCat_0 (d : Fin 128) : kCat x2 x3 (ix4 b r h ⟨d.val, by omega⟩) = (x2 (ix4 b r h d) : EReal) := by
  pointwise [kCat]
theorem kCat_1 (d : Fin 64) : kCat x2 x3 (ix4 b r h ⟨128 + d.val, by omega⟩) = (x3 (ix3 b r d) : EReal) := by
  pointwise [kCat]
theorem kCat_2 (d : Fin 64) : kCat x2 x3 (ix4 b r h ⟨192 + d.val, by omega⟩) = (0 : EReal) := by
  pointwise [kCat]
  rw [dif_neg (by omega), dif_neg (by omega)]
theorem vCat_0 (e : Fin 128) : vCat x4 (ix4 b r h ⟨e.val, by omega⟩) = x4 (ix4 b r h e) := by
  pointwise [vCat]
theorem vCat_1 : vCat x4 (ix4 b r h 128) = (1 : EReal) := by
  pointwise [vCat]
end

/-- A sum over 256 columns, by the three parts. -/
theorem sum_parts (f : Fin 256 → EReal) : ∑ d, f d = (∑ d : Fin 128, f ⟨d.val, by omega⟩)
    + ((∑ d : Fin 64, f ⟨128 + d.val, by omega⟩) + ∑ d : Fin 64, f ⟨192 + d.val, by omega⟩) := by
  rw [Fin.sum_univ_two_halves 128 128 rfl f, Fin.sum_univ_two_halves 64 64 rfl fun d : Fin 128 => f ⟨128 + d.val, by omega⟩]
  refine congrArg₂ _ rfl (congrArg₂ _ rfl (Finset.sum_congr rfl fun d _ => congrArg f (Fin.ext ?_)))
  show 128 + (64 + d.val) = 192 + d.val
  omega

/-- The padded products are the two parts' products, scaled. -/
theorem dot_apply (b : Fin 2) (r c : Fin 8192) (h : Fin 16) :
    ∑ d : Fin 256, (qCat x0 x1 (ix4 b r h d) : EReal) * kCat x2 x3 (ix4 b c h d)
      = ((∑ d : Fin 128, (x0 (ix4 b r h d) : EReal) * x2 (ix4 b c h d)) + ∑ d : Fin 64, (x3 (ix3 b c d) : EReal) * x1 (ix4 b r h d))
        * Ideal.ofBits .f32 0x3D93CD3A#32 := by
  rw [sum_parts]
  obtain ⟨s, hs0, hs⟩ := scale_real
  have h0 : (0 : EReal) ≤ s := EReal.coe_nonneg.mpr hs0
  simp only [qCat_0, qCat_1, kCat_0, kCat_1, kCat_2, mul_zero, Finset.sum_const_zero, add_zero, hs]
  rw [mul_comm, EReal.left_distrib_of_nonneg_of_ne_top h0 (EReal.coe_ne_top s), scale_sum _ _ h0 (EReal.coe_ne_top s), scale_sum _ _ h0 (EReal.coe_ne_top s)]
  refine congrArg₂ _ (Finset.sum_congr rfl fun d _ => ?_) (Finset.sum_congr rfl fun d _ => ?_)
  · rw [mul_comm (x0 _ : EReal), mul_assoc]
  · rw [mul_comm (x1 _ : EReal), mul_assoc, mul_comm (x3 _ : EReal)]

end Cert.KernelIdeal.Mla

end
-- ==== Proof.Points.lean ====
/- Which block of each array a grid point stages. -/
module

public import proofs.«01_k».proof.Proof.Data
public import Idealize.ShloMosaic.Lib.Pipeline.ValueKit

@[expose] public section

set_option maxRecDepth 16384

noncomputable section

namespace Cert.KernelIdeal.Mla

open Cert.KernelIdeal Cert.KernelIdeal.Gen
open Idealize.ShloMosaic Idealize.ShloMosaic.TcCoe Idealize.SL.Sem

/-- The windows' block indices: the batch and the pair of heads, and the query tile (queries, result) or the key tile up to it. -/
theorem idx : ∀ t : Fin cfg0.N, win0_0.index t = ![t.val / 2048, t.val / 16 % 16, t.val / 256 % 8]
    ∧ win0_1.index t = ![t.val / 2048, min (t.val % 16) (t.val / 16 % 16), t.val / 256 % 8]
    ∧ win0_2.index t = ![t.val / 2048, min (t.val % 16) (t.val / 16 % 16), t.val / 256 % 8]
    ∧ win0_3.index t = ![t.val / 2048, t.val / 16 % 16, t.val / 256 % 8] :=
  (by decide +kernel : ∀ t : Fin grid0.N, _)

end Cert.KernelIdeal.Mla

end
-- ==== Proof.Blocks.lean ====
/- The staged blocks at an index: a point's queries, keys and values are rows of its batch and of its pair of heads. -/
module

public import proofs.«01_k».proof.Proof.Data
public import proofs.«01_k».proof.Proof.Inputs
public import proofs.«01_k».proof.Proof.Points
public import Idealize.ShloMosaic.Lib.Pipeline.ValueKit

@[expose] public section

set_option maxRecDepth 16384

noncomputable section

namespace Cert.KernelIdeal.Mla

open Cert.KernelIdeal Cert.KernelIdeal.Gen
open Idealize.ShloMosaic Idealize.ShloMosaic.TcCoe Idealize.SL.Sem

variable (t : Fin cfg0.N) (X : FVec Ideal S2x8192x4096 .bf16)

theorem read_q (r j : Fin 512) (b : Fin 2) (R : Fin 8192) (J : Fin 4096) (hb : b.val = t.val / 2048) (hR : R.val = 512 * (t.val / 16 % 16) + r.val)
    (hJ : J.val = 512 * (t.val / 256 % 8) + j.val) : (((cfg0.win 0).blk t).view.read (Elt Ideal) X : Vec Ideal S1x512x512 .bf16) (ix3 0 r j) = X (ix3 b R J) := by
  have e := (idx t).1
  blk_simp [e]
  blk_ext [e]
theorem read_k (r j : Fin 512) (b : Fin 2) (R : Fin 8192) (J : Fin 4096) (hb : b.val = t.val / 2048) (hR : R.val = 512 * min (t.val % 16) (t.val / 16 % 16) + r.val)
    (hJ : J.val = 512 * (t.val / 256 % 8) + j.val) : (((cfg0.win 1).blk t).view.read (Elt Ideal) X : Vec Ideal S1x512x512 .bf16) (ix3 0 r j) = X (ix3 b R J) := by
  have e := (idx t).2.1
  blk_simp [e]
  blk_ext [e]
theorem read_v (r j : Fin 512) (b : Fin 2) (R : Fin 8192) (J : Fin 4096) (hb : b.val = t.val / 2048) (hR : R.val = 512 * min (t.val % 16) (t.val / 16 % 16) + r.val)
    (hJ : J.val = 512 * (t.val / 256 % 8) + j.val) : (((cfg0.win 2).blk t).view.read (Elt Ideal) X : Vec Ideal S1x512x512 .bf16) (ix3 0 r j) = X (ix3 b R J) := by
  have e := (idx t).2.2.1
  blk_simp [e]
  blk_ext [e]
section
variable (m : (ℓ : Loc nD τ sig) → Buf (Elt Ideal) ℓ) (c : Dev nD) (h : Fin 2) (r : Fin 512) (d : Fin 256) (b : Fin 2) (R : Fin 8192) (g : Fin 16)
  (hb : b.val = t.val / 2048) (hg : g.val = 2 * (t.val / 256 % 8) + h.val)
include hb hg
/-- A staged query, -/
theorem q_at (hR : R.val = 512 * (t.val / 16 % 16) + r.val) : headQ (iblk m c 0 t) h (ix3 0 r d)
    = qCat (m ((c : Thread nD τ).loc main_arg0)) (m ((c : Thread nD τ).loc main_arg1)) (ix4 b R g d) := by
  show (((cfg0.win 0).blk t).view.read (Elt Ideal) (V m c main_v5) : Vec Ideal S1x512x512 .bf16) (ix3 0 r ⟨256 * h.val + d.val, _⟩) = _
  rw [V_q m c]
  exact (read_q t _ r _ b R ⟨256 * g.val + d.val, by omega⟩ hb hR (by show 256 * g.val + d.val = 512 * (t.val / 256 % 8) + (256 * h.val + d.val); omega)).trans
    (flat_apply _ b R g d _ rfl)
/-- a staged key, -/
theorem k_at (hR : R.val = 512 * min (t.val % 16) (t.val / 16 % 16) + r.val) : headQ (iblk m c 1 t) h (ix3 0 r d)
    = kCat (m ((c : Thread nD τ).loc main_arg2)) (m ((c : Thread nD τ).loc main_arg3)) (ix4 b R g d) := by
  show (((cfg0.win 1).blk t).view.read (Elt Ideal) (V m c main_v11) : Vec Ideal S1x512x512 .bf16) (ix3 0 r ⟨256 * h.val + d.val, _⟩) = _
  rw [V_k m c]
  exact (read_k t _ r _ b R ⟨256 * g.val + d.val, by omega⟩ hb hR (by show 256 * g.val + d.val = 512 * (t.val / 256 % 8) + (256 * h.val + d.val); omega)).trans
    (flat_apply _ b R g d _ rfl)
/-- and a staged value. -/
theorem v_at (hR : R.val = 512 * min (t.val % 16) (t.val / 16 % 16) + r.val) : headQ (iblk m c 2 t) h (ix3 0 r d)
    = vCat (m ((c : Thread nD τ).loc main_arg4)) (ix4 b R g d) := by
  show (((cfg0.win 2).blk t).view.read (Elt Ideal) (V m c main_v16) : Vec Ideal S1x512x512 .bf16) (ix3 0 r ⟨256 * h.val + d.val, _⟩) = _
  rw [V_v m c]
  exact (read_v t _ r _ b R ⟨256 * g.val + d.val, by omega⟩ hb hR (by show 256 * g.val + d.val = 512 * (t.val / 256 % 8) + (256 * h.val + d.val); omega)).trans
    (flat_apply _ b R g d _ rfl)
end

end Cert.KernelIdeal.Mla

end
-- ==== Proof.Scores.lean ====
/- The reference's result, by parts, at an index: the masked scores, their maximum, the weights, and the weighted sum of the values. -/
module

public import proofs.«01_k».proof.Proof.Gen.ReferenceIdeal.Run
public import Idealize.ShloMosaic.Lib.Pointwise

@[expose] public section

set_option maxRecDepth 16384

noncomputable section

namespace Cert.ReferenceIdeal.Mla

open Cert.ReferenceIdeal Cert.ReferenceIdeal.Gen
open Idealize.ShloMosaic Idealize.ShloMosaic.TcCoe Idealize.SL.Sem

/-- Each position's chunk of 64. -/
def chunkVec : IVec S8192 32 :=
  select (andi (cmpi .ne (signi (iotaInDim S8192 32 0)) (broadcastInDim S8192 ![] bcast_S_S8192 (signi (constantI S_ 32 64#32))))
      (cmpi .ne (Host.remsi (iotaInDim S8192 32 0) (broadcastInDim S8192 ![] bcast_S_S8192 (constantI S_ 32 64#32))) (broadcastInDim S8192 ![] bcast_S_S8192 (constantI S_ 32 0#32))))
    (subi (Host.divsi (iotaInDim S8192 32 0) (broadcastInDim S8192 ![] bcast_S_S8192 (constantI S_ 32 64#32))) (broadcastInDim S8192 ![] bcast_S_S8192 (constantI S_ 32 1#32)))
    (Host.divsi (iotaInDim S8192 32 0) (broadcastInDim S8192 ![] bcast_S_S8192 (constantI S_ 32 64#32)))
/-- Which key positions a query position sees. -/
def seenVec (w : IVec S8192 32) : IVec S8192x8192 1 :=
  cmpi .sle (broadcastInDim S8192x8192 ![0, 1] bcast_S1x8192_S8192x8192_0_1 (broadcastInDim S1x8192 ![1] bcast_S8192_S1x8192_1 w))
    (broadcastInDim S8192x8192 ![0, 1] bcast_S8192x1_S8192x8192_0_1 (broadcastInDim S8192x1 ![0] bcast_S8192_S8192x1_0 w))

section
variable (x0 x2 x4 : FVec Ideal S2x8192x16x128 .f32) (x1 : FVec Ideal S2x8192x16x64 .f32) (x3 : FVec Ideal S2x8192x64 .f32)

/-- The scaled scores before the mask. -/
def rawVec : FVec Ideal S2x16x8192x8192 .f32 :=
  mulf (addf (Host.dotGeneral dot_S2x8192x16x128_S2x8192x16x128_S2x16x8192x8192_3_3_1_1_02_02 none x0 x2)
      (transpose S2x16x8192x8192 [0, 3, 2, 1] (Host.dotGeneral dot_S2x8192x64_S2x8192x16x64_S2x8192x8192x16_2_3_1_12_0_0 none x3 x1) transposes_S2x8192x8192x16_S2x16x8192x8192_0_3_2_1))
    (broadcastInDim S2x16x8192x8192 ![] bcast_S_S2x16x8192x8192 (constant S_ .f32 0x3D93CD3A#32))
/-- The masked scores. -/
def maskedVec (s : FVec Ideal S2x16x8192x8192 .f32) (ok : IVec S8192x8192 1) : FVec Ideal S2x16x8192x8192 .f32 :=
  select (broadcastInDim S2x16x8192x8192 ![2, 3] bcast_S8192x8192_S2x16x8192x8192_2_3 ok) s
    (broadcastInDim S2x16x8192x8192 ![] bcast_S_S2x16x8192x8192 (constant S_ .f32 0xFF800000#32))
/-- The largest score of a row. -/
def topVec (s : FVec Ideal S2x16x8192x8192 .f32) : FVec Ideal S2x16x8192 .f32 :=
  Host.reduce FloatOps.maximumf s (constant S_ .f32 0xFF800000#32) reducesTo_S2x16x8192x8192_S2x16x8192_d3 h_S_
/-- The weights before their division. -/
def weightVec (s : FVec Ideal S2x16x8192x8192 .f32) (μ : FVec Ideal S2x16x8192 .f32) : FVec Ideal S2x16x8192x8192 .f32 :=
  Host.exp (subf s (broadcastInDim S2x16x8192x8192 ![0, 1, 2, 3] bcast_S2x16x8192x1_S2x16x8192x8192_0_1_2_3
    (broadcastInDim S2x16x8192x1 ![0, 1, 2] bcast_S2x16x8192_S2x16x8192x1_0_1_2
      (maximumf (broadcastInDim S2x16x8192 ![] bcast_S_S2x16x8192 (constant S_ .f32 0xFF800000#32)) μ))))
/-- The weights. -/
def probVec (w : FVec Ideal S2x16x8192x8192 .f32) : FVec Ideal S2x16x8192x8192 .f32 :=
  Host.divf w (broadcastInDim S2x16x8192x8192 ![0, 1, 2, 3] bcast_S2x16x8192x1_S2x16x8192x8192_0_1_2_3
    (broadcastInDim S2x16x8192x1 ![0, 1, 2] bcast_S2x16x8192_S2x16x8192x1_0_1_2
      (Host.reduceAdd w (constant S_ .f32 0x00000000#32) reducesTo_S2x16x8192x8192_S2x16x8192_d3 h_S_)))
/-- The weighted sums of the values, laid out as the result. -/
def mixVec (p : FVec Ideal S2x16x8192x8192 .f32) : FVec Ideal S2x8192x2048 .bf16 :=
  truncf .bf16 (shapeCast _ (transpose S2x8192x16x128 [0, 3, 1, 2]
    (Host.dotGeneral dot_S2x8192x16x128_S2x16x8192x8192_S2x16x128x8192_1_3_3_2_02_01 none x4 p) transposes_S2x16x128x8192_S2x8192x16x128_0_3_1_2) shapeCasts_S2x8192x16x128_S2x8192x2048) bitsLt_bf16_f32

theorem rawVec_apply (b : Fin 2) (h : Fin 16) (r c : Fin 8192) :
    rawVec x0 x2 x1 x3 (ix4 b h r c) = ((∑ d : Fin 128, x0 (ix4 b r h d) * x2 (ix4 b c h d)) + ∑ d : Fin 64, x3 (ix3 b c d) * x1 (ix4 b r h d))
      * Ideal.ofBits .f32 0x3D93CD3A#32 := by
  pointwise [rawVec]
theorem mixVec_apply (p : FVec Ideal S2x16x8192x8192 .f32) (b : Fin 2) (r : Fin 8192) (h : Fin 16) (e : Fin 128) (j : Fin 2048) (hj : j.val = 128 * h.val + e.val) :
    mixVec x4 p (ix3 b r j) = ∑ c : Fin 8192, x4 (ix4 b c h e) * p (ix4 b h r c) := by
  obtain ⟨h, hh⟩ := h
  obtain ⟨e, he⟩ := e
  obtain ⟨j, hl⟩ := j
  obtain rfl : h = j / 128 := by simp only at hj; omega
  obtain rfl : e = j % 128 := by simp only at hj; omega
  pointwise [mixVec]
end

/-- The reduction's starting value is minus infinity. -/
theorem minusInf : Ideal.ofBits .f32 4286578688#32 = ⊥ := by simp [Ideal.ofBits, Ideal.ieee]
theorem topVec_apply (s : FVec Ideal S2x16x8192x8192 .f32) (b : Fin 2) (h : Fin 16) (r : Fin 8192) :
    topVec s (ix3 b h r) = (Finset.univ.fold max ⊥ fun c : Fin 8192 => (s (ix4 b h r c) : EReal)) := by
  pointwise [topVec]
  rw [minusInf]
theorem weightVec_apply (s : FVec Ideal S2x16x8192x8192 .f32) (μ : FVec Ideal S2x16x8192 .f32) (b : Fin 2) (h : Fin 16) (r c : Fin 8192) :
    weightVec s μ (ix4 b h r c) = Ideal.exp ((s (ix4 b h r c) : EReal) - μ (ix3 b h r)) := by
  pointwise [weightVec]
  rw [minusInf, max_eq_right bot_le]
theorem probVec_apply (w : FVec Ideal S2x16x8192x8192 .f32) (b : Fin 2) (h : Fin 16) (r c : Fin 8192) :
    probVec w (ix4 b h r c) = Ideal.div (w (ix4 b h r c)) (∑ c' : Fin 8192, (w (ix4 b h r c') : EReal)) := by
  pointwise [probVec]

/-- The quotient by 64, rounded down, of an index word. -/
def chunkWord (x : BitVec 32) : BitVec 32 :=
  Scalar.select
    (IntOp.andi
      (IntOp.cmpi .ne (if x = 0 then 0 else if x.msb = true then -1 else 1 : BitVec 32) (if 64#32 = 0 then 0 else if (64#32).msb = true then -1 else 1))
      (IntOp.cmpi .ne (IntOp.remsi .host x 64#32) 0#32))
    (IntOp.subi (IntOp.divsi .host x 64#32) 1#32)
    (IntOp.divsi .host x 64#32)
theorem chunkWord_eq : ∀ n : Fin 8192, chunkWord (BitVec.ofNat 32 n.val) = BitVec.ofNat 32 (n.val / 64) := by decide +kernel
theorem sle_small : ∀ a b : Fin 128, IntOp.cmpi .sle (BitVec.ofNat 32 a.val) (BitVec.ofNat 32 b.val) = if a.val ≤ b.val then 1#1 else 0#1 := by
  decide +kernel

/-- A position's chunk is its quotient by 64. -/
theorem chunkVec_apply (r : Fin 8192) : chunkVec (ix1 r) = BitVec.ofNat 32 (r.val / 64) := by
  refine Eq.trans ?_ (chunkWord_eq r)
  pointwise [chunkVec, chunkWord]

/-- The masked scores: those of later chunks are minus infinity. -/
theorem masked_apply (s : FVec Ideal S2x16x8192x8192 .f32) (b : Fin 2) (h : Fin 16) (r c : Fin 8192) :
    maskedVec s (seenVec chunkVec) (ix4 b h r c) = if c.val / 64 ≤ r.val / 64 then (s (ix4 b h r c) : EReal) else ⊥ := by
  pointwise [maskedVec, seenVec]
  rw [chunkVec_apply, chunkVec_apply, minusInf]
  have e := sle_small ⟨c.val / 64, by omega⟩ ⟨r.val / 64, by omega⟩
  rw [e]
  by_cases hh : c.val / 64 ≤ r.val / 64
  · rw [if_pos hh, if_pos hh]; rfl
  · rw [if_neg hh, if_neg hh]; rfl

section
variable (x0 x2 x4 : FVec Ideal S2x8192x16x128 .f32) (x1 : FVec Ideal S2x8192x16x64 .f32) (x3 : FVec Ideal S2x8192x64 .f32)

/-- The masked score of a query position against a key position. -/
def score (b : Fin 2) (h : Fin 16) (r c : Fin 8192) : EReal :=
  if c.val / 64 ≤ r.val / 64 then ((∑ d : Fin 128, (x0 (ix4 b r h d) : EReal) * x2 (ix4 b c h d)) + ∑ d : Fin 64, (x3 (ix3 b c d) : EReal) * x1 (ix4 b r h d))
    * Ideal.ofBits .f32 0x3D93CD3A#32 else ⊥
/-- The reference's result. -/
def attention : FVec Ideal S2x8192x2048 .bf16 :=
  mixVec x4 (probVec (weightVec (maskedVec (rawVec x0 x2 x1 x3) (seenVec chunkVec)) (topVec (maskedVec (rawVec x0 x2 x1 x3) (seenVec chunkVec)))))

theorem attention_apply (b : Fin 2) (r : Fin 8192) (h : Fin 16) (e : Fin 128) (j : Fin 2048) (hj : j.val = 128 * h.val + e.val) :
    attention x0 x2 x4 x1 x3 (ix3 b r j) = ∑ c : Fin 8192,
      Ideal.div (Ideal.exp (score x0 x2 x1 x3 b h r c - Finset.univ.fold max ⊥ fun c' : Fin 8192 => score x0 x2 x1 x3 b h r c'))
        (∑ c'' : Fin 8192, Ideal.exp (score x0 x2 x1 x3 b h r c'' - Finset.univ.fold max ⊥ fun c' : Fin 8192 => score x0 x2 x1 x3 b h r c'))
      * x4 (ix4 b c h e) := by
  have hs : ∀ c, maskedVec (rawVec x0 x2 x1 x3) (seenVec chunkVec) (ix4 b h r c) = score x0 x2 x1 x3 b h r c := fun c => by
    rw [masked_apply, rawVec_apply]; rfl
  unfold attention
  rw [mixVec_apply x4 _ b r h e j hj]
  refine Finset.sum_congr rfl fun c _ => ?_
  rw [probVec_apply, mul_comm]
  simp only [weightVec_apply, topVec_apply, hs]

variable (m : (ℓ : Loc nD τ sig) → Buf (Elt Ideal) ℓ)
/-- The reference's run ends with it. -/
theorem res_eq (c : Dev nD) : Cert.ReferenceIdeal.Value.res_main_v30 m c = attention (m ((c.tc : Thread nD τ).loc main_arg0)) (m ((c.tc : Thread nD τ).loc main_arg2))
    (m ((c.tc : Thread nD τ).loc main_arg4)) (m ((c.tc : Thread nD τ).loc main_arg1)) (m ((c.tc : Thread nD τ).loc main_arg3)) := rfl
end

end Cert.ReferenceIdeal.Mla

end
-- ==== Proof.Rows.lean ====
/- One row of the result: its maxima and sums over the key tiles are the running softmax of the row's scores. -/
module

public import proofs.«01_k».proof.Proof.Blocks
public import proofs.«01_k».proof.Proof.Scores

@[expose] public section

set_option maxRecDepth 16384

noncomputable section

namespace Cert.KernelIdeal.Mla

open Cert.KernelIdeal Cert.KernelIdeal.Gen
open Idealize.ShloMosaic Idealize.ShloMosaic.TcCoe Idealize.SL.Sem

section
variable (x0 x2 x4 : FVec Ideal S2x8192x16x128 .f32) (x1 : FVec Ideal S2x8192x16x64 .f32) (x3 : FVec Ideal S2x8192x64 .f32)
/-- The row's masked scores, by column number. -/
def rowScore (b : Fin 2) (g : Fin 16) (R : Fin 8192) (n : ℕ) : EReal :=
  if h : n < 8192 then Cert.ReferenceIdeal.Mla.score x0 x2 x1 x3 b g R ⟨n, h⟩ else ⊥
/-- The head's values of one component, by column number. -/
def rowValue (b : Fin 2) (g : Fin 16) (e : Fin 128) (n : ℕ) : EReal := if h : n < 8192 then x4 (ix4 b ⟨n, h⟩ g e) else 0
end

/-- What a point starts from: the reset state at a row's first key tile. -/
def entering (t : ℕ) (s : Scratch) : Scratch := if t % 16 = 0 then start else s

section
variable (t : ℕ) (x0 x1 x2 : Vec Ideal S1x512x512 .bf16) (s : Scratch) (ht : t % 16 ≤ t / 16 % 16)
include ht
theorem advance_eq : advance t x0 x1 x2 s = (stepM (t % 16 = t / 16 % 16) x0 x1 (entering t s).1, stepA (t % 16 = t / 16 % 16) x0 x1 x2 (entering t s).1 (entering t s).2) := by
  unfold advance
  by_cases h : t % 16 = t / 16 % 16
  · simp only [if_neg (show ¬ t % 16 < t / 16 % 16 by omega), if_pos h]
    refine congrArg₂ Prod.mk ?_ ?_
    · unfold stepM tileScore; simp only [if_pos h, if_pos trivial]; rfl
    · unfold stepA tileScore; simp only [if_pos h, if_pos trivial]; rfl
  · simp only [if_pos (show t % 16 < t / 16 % 16 by omega)]
    refine congrArg₂ Prod.mk ?_ ?_
    · unfold stepM tileScore; simp only [if_neg h, if_neg not_false]; rfl
    · unfold stepA tileScore; simp only [if_neg h, if_neg not_false]; rfl
end

variable (m : (ℓ : Loc nD τ sig) → Buf (Elt Ideal) ℓ) (c : Dev nD)

/-- The row's scores in the run's arrays, -/
abbrev S (b : Fin 2) (g : Fin 16) (R : Fin 8192) : ℕ → EReal :=
  rowScore (m ((c : Thread nD τ).loc main_arg0)) (m ((c : Thread nD τ).loc main_arg2)) (m ((c : Thread nD τ).loc main_arg1)) (m ((c : Thread nD τ).loc main_arg3)) b g R
/-- and its values. -/
abbrev U (b : Fin 2) (g : Fin 16) (e : Fin 128) : ℕ → EReal := rowValue (m ((c : Thread nD τ).loc main_arg4)) b g e

section tile
variable (t : Fin cfg0.N) (h : Fin 2) (r : Fin 512) (b : Fin 2) (R : Fin 8192) (g : Fin 16) (ht : t.val % 16 ≤ t.val / 16 % 16)
  (hb : b.val = t.val / 2048) (hg : g.val = 2 * (t.val / 256 % 8) + h.val) (hR : R.val = 512 * (t.val / 16 % 16) + r.val)
include ht hb hg

include hR in
/-- A tile's scores are the row's. -/
theorem tile_at (k : Fin 512) : tileScore (t.val % 16 = t.val / 16 % 16) (iblk m c 0 t) (iblk m c 1 t) h (ix2 r k) = S m c b g R (512 * (t.val % 16) + k.val) := by
  have hl : 512 * (t.val % 16) + k.val < 8192 := by omega
  have raw : scoreVec (headQ (iblk m c 0 t) h) (headQ (iblk m c 1 t) h) (ix2 r k) = _ :=
    (scoreVec_apply _ _ r k).trans ((Finset.sum_congr rfl fun d _ => congrArg₂ (fun a b : EReal => a * b)
      (q_at t m c h r d b R g hb hg hR)
      (k_at t m c h k d b ⟨512 * (t.val % 16) + k.val, hl⟩ g hb hg (by show 512 * (t.val % 16) + k.val = _; rw [min_eq_left ht]))).trans
      (dot_apply _ _ _ _ b R ⟨512 * (t.val % 16) + k.val, hl⟩ g))
  unfold S rowScore
  rw [dif_pos hl]
  unfold Cert.ReferenceIdeal.Mla.score tileScore
  by_cases hd : t.val % 16 = t.val / 16 % 16
  · rw [if_pos hd, maskVec_apply, raw]
    refine if_congr ?_ rfl rfl
    show k.val / 64 ≤ r.val / 64 ↔ (512 * (t.val % 16) + k.val) / 64 ≤ R.val / 64
    omega
  · rw [if_neg hd, raw]
    refine (if_pos ?_).symm
    show (512 * (t.val % 16) + k.val) / 64 ≤ R.val / 64
    omega

/-- A tile's values are the row's, -/
theorem value_at (k : Fin 512) (e : Fin 128) : headQ (iblk m c 2 t) h (ix3 0 k ⟨e.val, by omega⟩) = U m c b g e (512 * (t.val % 16) + k.val) := by
  have hl : 512 * (t.val % 16) + k.val < 8192 := by omega
  unfold U rowValue
  rw [dif_pos hl]
  exact (v_at t m c h k _ b ⟨512 * (t.val % 16) + k.val, hl⟩ g hb hg (by show 512 * (t.val % 16) + k.val = _; rw [min_eq_left ht])).trans (vCat_0 _ b _ g e)
/-- beside a column of ones. -/
theorem one_at (k : Fin 512) : headQ (iblk m c 2 t) h (ix3 0 k 128) = (1 : EReal) := by
  have hl : 512 * (t.val % 16) + k.val < 8192 := by omega
  exact (v_at t m c h k _ b ⟨512 * (t.val % 16) + k.val, hl⟩ g hb hg (by show 512 * (t.val % 16) + k.val = _; rw [min_eq_left ht])).trans (vCat_1 _ b _ g)

include hR
variable (s : Scratch)
/-- The row's maximum after a tile. -/
theorem row_M : (advance t.val (iblk m c 0 t) (iblk m c 1 t) (iblk m c 2 t) s).1 (ix3 h r 0)
    = max ((entering t.val s).1 (ix3 h r 0) : EReal) (Finset.univ.fold max ⊥ fun k : Fin 512 => S m c b g R (512 * (t.val % 16) + k.val)) := by
  rw [advance_eq _ _ _ _ _ ht]
  refine (stepM_apply _ _ _ _ h r).trans ((topVec_apply _ _ r).trans ?_)
  simp only [tile_at m c t h r b R g ht hb hg hR]
  rfl
/-- The row's sums after a tile, of any of the head's columns. -/
theorem row_A (e : Fin 256) (j : Fin 512) (hj : j.val = 256 * h.val + e.val) : (advance t.val (iblk m c 0 t) (iblk m c 1 t) (iblk m c 2 t) s).2 (ix2 r j)
    = Ideal.exp (((entering t.val s).1 (ix3 h r 0) : EReal) - (advance t.val (iblk m c 0 t) (iblk m c 1 t) (iblk m c 2 t) s).1 (ix3 h r 0)) * (entering t.val s).2 (ix2 r j)
      + ∑ k : Fin 512, Ideal.exp (S m c b g R (512 * (t.val % 16) + k.val) - (advance t.val (iblk m c 0 t) (iblk m c 1 t) (iblk m c 2 t) s).1 (ix3 h r 0))
        * headQ (iblk m c 2 t) h (ix3 0 k e) := by
  obtain ⟨j, hl⟩ := j
  obtain rfl : j = 256 * h.val + e.val := hj
  rw [advance_eq _ _ _ _ _ ht]
  refine (stepA_apply _ _ _ _ _ _ h r e _ rfl).trans ((sumVec_apply _ _ _ _ r e).trans ?_)
  simp only [tile_at m c t h r b R g ht hb hg hR]
  rfl
end tile

end Cert.KernelIdeal.Mla

end
-- ==== Proof.Result.lean ====
/- The kernel's result: a row's quotients are the reference's weighted sums, where the scores are below plus infinity. -/
module

public import proofs.«01_k».proof.Proof.Rows

@[expose] public section

set_option maxRecDepth 16384

noncomputable section

namespace Cert.KernelIdeal.Mla

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The scratch before point `n`, at any number. -/
def stateOf (n : ℕ) : Scratch := if h : n ≤ cfg0.N then stateAt m c n h else start
theorem stateOf_eq (n : ℕ) (h : n ≤ cfg0.N) : stateOf m c n = stateAt m c n h := dif_pos h
theorem stateOf_succ (t : Fin cfg0.N) : stateOf m c (t.val + 1) = advance t.val (iblk m c 0 t) (iblk m c 1 t) (iblk m c 2 t) (stateOf m c t.val) := by
  rw [stateOf_eq m c _ t.isLt, stateOf_eq m c _ t.isLt.le]; rfl
/-- The scratch of the row of tiles `p` after `k` key tiles. -/
def chain (p k : ℕ) : Scratch := if k = 0 then start else stateOf m c (16 * p + k)
theorem entering_chain (p k : ℕ) (hk : k < 16) : entering (16 * p + k) (stateOf m c (16 * p + k)) = chain m c p k := by
  unfold entering chain
  by_cases h : k = 0
  · rw [if_pos h, if_pos (by omega)]
  · rw [if_neg h, if_neg (by omega)]

theorem start_M (h : Fin 2) (r : Fin 512) : start.1 (ix3 h r 0) = (⊥ : EReal) := by
  show (k0_pay1 (F := Ideal)) (ix3 h r 0) = _
  pointwise [k0_pay1]
  exact mask_eq
theorem start_A (r j : Fin 512) : start.2 (ix2 r j) = (0 : EReal) := by
  show (k0_pay2 (F := Ideal)) (ix2 r j) = _
  pointwise [k0_pay2]

section row
variable (t : Fin cfg0.N) (h : Fin 2) (r : Fin 512) (b : Fin 2) (R : Fin 8192) (g : Fin 16)
  (hb : b.val = t.val / 2048) (hg : g.val = 2 * (t.val / 256 % 8) + h.val) (hR : R.val = 512 * (t.val / 16 % 16) + r.val)
include hb hg hR

/-- The row's maxima, tile by tile, -/
theorem chain_M (k : ℕ) (hk : k < t.val / 16 % 16 + 1) : (chain m c (t.val / 16) (k + 1)).1 (ix3 h r 0)
    = max ((chain m c (t.val / 16) k).1 (ix3 h r 0) : EReal) (Finset.univ.fold max ⊥ fun d : Fin 512 => S m c b g R (512 * k + d.val)) := by
  have hN := points
  have ht := t.isLt
  have e := row_M m c ⟨16 * (t.val / 16) + k, by omega⟩ h r b R g (by show (16 * (t.val / 16) + k) % 16 ≤ (16 * (t.val / 16) + k) / 16 % 16; omega)
    (by show b.val = (16 * (t.val / 16) + k) / 2048; omega) (by show g.val = 2 * ((16 * (t.val / 16) + k) / 256 % 8) + h.val; omega)
    (by show R.val = 512 * ((16 * (t.val / 16) + k) / 16 % 16) + r.val; omega) (stateOf m c (16 * (t.val / 16) + k))
  rw [← stateOf_succ] at e
  simp only [entering_chain m c _ k (by omega : k < 16), show (16 * (t.val / 16) + k) % 16 = k by omega] at e
  unfold chain at e ⊢
  exact e
/-- and its sums. -/
theorem chain_A (k : ℕ) (hk : k < t.val / 16 % 16 + 1) (e : Fin 256) (j : Fin 512) (hj : j.val = 256 * h.val + e.val) (w : ℕ → EReal)
    (hw : ∀ (u : Fin cfg0.N) (d : Fin 512), u.val = 16 * (t.val / 16) + k → headQ (iblk m c 2 u) h (ix3 0 d e) = w (512 * k + d.val)) :
    (chain m c (t.val / 16) (k + 1)).2 (ix2 r j)
    = Ideal.exp (((chain m c (t.val / 16) k).1 (ix3 h r 0) : EReal) - (chain m c (t.val / 16) (k + 1)).1 (ix3 h r 0)) * (chain m c (t.val / 16) k).2 (ix2 r j)
      + ∑ d : Fin 512, Ideal.exp (S m c b g R (512 * k + d.val) - (chain m c (t.val / 16) (k + 1)).1 (ix3 h r 0)) * w (512 * k + d.val) := by
  have hN := points
  have ht := t.isLt
  have e := row_A m c ⟨16 * (t.val / 16) + k, by omega⟩ h r b R g (by show (16 * (t.val / 16) + k) % 16 ≤ (16 * (t.val / 16) + k) / 16 % 16; omega)
    (by show b.val = (16 * (t.val / 16) + k) / 2048; omega) (by show g.val = 2 * ((16 * (t.val / 16) + k) / 256 % 8) + h.val; omega)
    (by show R.val = 512 * ((16 * (t.val / 16) + k) / 16 % 16) + r.val; omega) (stateOf m c (16 * (t.val / 16) + k)) e j hj
  rw [← stateOf_succ] at e
  simp only [entering_chain m c _ k (by omega : k < 16), show (16 * (t.val / 16) + k) % 16 = k by omega,
    fun d => hw ⟨16 * (t.val / 16) + k, by omega⟩ d rfl] at e
  unfold chain at e ⊢
  exact e

/-- The row's quotients are the values' sums weighted by the softmax of its scores. -/
theorem row_out (hS : ∀ n, S m c b g R n ≠ ⊤) (h0 : S m c b g R 0 ≠ ⊥) (e : Fin 128) (j : Fin 256) (hj : j.val = 128 * h.val + e.val) :
    outAt m c t (ix3 0 r j) = ∑ d : Fin 8192, Ideal.div (Ideal.exp (S m c b g R d.val - Finset.univ.fold max ⊥ fun d : Fin 8192 => S m c b g R d.val))
      (∑ d' : Fin 8192, Ideal.exp (S m c b g R d'.val - Finset.univ.fold max ⊥ fun d : Fin 8192 => S m c b g R d.val)) * U m c b g e d.val := by
  have hN := points
  have ht := t.isLt
  have hlast : (stateAt m c (lastOf t.val + 1) (lastOf_lt t)) = chain m c (t.val / 16) (t.val / 16 % 16 + 1) := by
    unfold chain
    rw [if_neg (Nat.succ_ne_zero _), ← stateOf_eq]
    congr 1; unfold lastOf; omega
  have hvt : ∀ u : Fin cfg0.N, ∀ k, k < t.val / 16 % 16 + 1 → u.val = 16 * (t.val / 16) + k → u.val % 16 ≤ u.val / 16 % 16 ∧ u.val % 16 = k
      ∧ b.val = u.val / 2048 ∧ g.val = 2 * (u.val / 256 % 8) + h.val := fun u k hk hu => by omega
  unfold outAt
  rw [hlast]
  refine (outOf_apply _ h r e j hj).trans ?_
  refine running_softmax (S m c b g R) (U m c b g e) (fun k => (chain m c (t.val / 16) k).1 (ix3 h r 0))
    (fun k => (chain m c (t.val / 16) k).2 (ix2 r ⟨256 * h.val + e.val, by omega⟩)) (fun k => (chain m c (t.val / 16) k).2 (ix2 r ⟨256 * h.val + 128, by omega⟩))
    (t.val / 16 % 16 + 1) (by omega) (by omega) hS h0 ?_ (start_M h r) (start_A r _) (start_A r _)
    (fun k hk => chain_M m c t h r b R g hb hg hR k hk)
    (fun k hk => chain_A m c t h r b R g hb hg hR k hk ⟨e.val, by omega⟩ _ rfl _ fun u d hu => ?_)
    (fun k hk => chain_A m c t h r b R g hb hg hR k hk 128 _ rfl (fun _ => 1) fun u d hu => ?_)
  · intro n hn
    unfold S rowScore
    by_cases hl : n < 8192
    · rw [dif_pos hl]; exact if_neg (by show ¬ n / 64 ≤ R.val / 64; omega)
    · rw [dif_neg hl]
  · obtain ⟨h1, h2, h3, h4⟩ := hvt u k hk hu
    rw [← h2]; exact value_at m c u h r b R g h1 h3 h4 d e
  · obtain ⟨h1, h2, h3, h4⟩ := hvt u k hk hu
    exact one_at m c u h b g h1 h3 h4 d
end row

end Cert.KernelIdeal.Mla

end
-- ==== Proof.Finite.lean ====
/- What the precondition says: queries, keys and position parts are real numbers, so a seen score is one too. -/
module

public import proofs.«01_k».proof.Defs
public import proofs.«01_k».proof.Proof.Rows
public import Idealize.ShloMosaic.PureOps.Reduce
public import Idealize.ShloMosaic.PureOps.Ideal.Laws

@[expose] public section

set_option maxRecDepth 16384

noncomputable section

namespace Cert.Pre_finite_scores.Mla

open Cert.Pre_finite_scores Idealize.ShloMosaic

/-- The shape conditions of the precondition. -/
theorem facts : Cert.Pre_finite_scores.Facts where
  bcast_S_S2x8192x16x128 := by decide
  reducesTo_S2x8192x16x128_S_d0_1_2_3 := by decide
  h_S_ := by decide
  bcast_S_S2x8192x16x64 := by decide
  reducesTo_S2x8192x16x64_S_d0_1_2_3 := by decide
  bcast_S_S2x8192x64 := by decide
  reducesTo_S2x8192x64_S_d0_1_2 := by decide

theorem and_one (a b : BitVec 1) (h : IntOp.andi a b = 1#1) : a = 1#1 ∧ b = 1#1 := by revert a b; decide
theorem fold_one {ι : Type} (s : Finset ι) (x : ι → BitVec 1) (v : BitVec 1) (h : s.fold IntOp.andi v x = 1#1) (i : ι) (hi : i ∈ s) : x i = 1#1 := by
  induction s using Finset.cons_induction with
  | empty => exact absurd hi (Finset.notMem_empty i)
  | cons a s ha ih =>
    rw [Finset.fold_cons] at h
    obtain ⟨h1, h2⟩ := and_one _ _ h
    rcases Finset.mem_cons.mp hi with rfl | hi
    · exact h1
    · exact ih h2 hi

theorem top_eq : Ideal.ofBits .f32 0x7F800000#32 = ⊤ := by simp [Ideal.ofBits, Ideal.ieee]

/-- A number below plus infinity in absolute value is real. -/
theorem real_of_abs (x : EReal) (h : Ideal.cmp .olt (max x (-x)) ⊤ = 1#1) : ∃ r : ℝ, x = r := by
  have hlt : max x (-x) < ⊤ := by
    by_contra hn
    simp [Ideal.cmp, hn] at h
  induction x with
  | bot => simp at hlt
  | top => simp at hlt
  | coe r => exact ⟨r, rfl⟩

/-- An array all of whose entries pass the test is real everywhere. -/
theorem real_of_all {s : Shape} {axes : List (Fin s.rank)} (x : FVec Ideal s .f32) (hb : S_.BroadcastsInDim s (![] : Fin 0 → Fin s.rank))
    (hr : s.ReducesTo axes S_) (hu : 0 < S_.numel)
    (h : Host.reduce IntOp.andi (cmpf .olt (Host.absf x) (broadcastInDim s ![] hb (constant S_ .f32 0x7F800000#32))) (constantI S_ 1 1#1) hr hu = fun _ => 1#1)
    (i : s.Idx) : ∃ r : ℝ, (x i : EReal) = r := by
  have e := congrFun h (fun a => a.elim0)
  rw [Host.reduce_eq_fold] at e
  have e' := fold_one _ _ _ e i (Finset.mem_filter.mpr ⟨Finset.mem_univ _, funext fun a => a.elim0⟩)
  refine real_of_abs _ ?_
  rw [← top_eq]
  exact e'

theorem and_all (a b : IVec S_ 1) (h : andi a b = fun _ => 1#1) : a = (fun _ => 1#1) ∧ b = fun _ => 1#1 :=
  ⟨funext fun i => (and_one _ _ (congrFun h i)).1, funext fun i => (and_one _ _ (congrFun h i)).2⟩

variable (x0 x2 x4 : FVec Ideal S2x8192x16x128 .f32) (x1 : FVec Ideal S2x8192x16x64 .f32) (x3 : FVec Ideal S2x8192x64 .f32)

/-- What the precondition says of the arrays. -/
theorem real_of_pre [Cert.Pre_finite_scores.Facts] (h : Cert.Pre_finite_scores.fn (F := Ideal) x0 x1 x2 x3 x4 = fun _ => 1#1) :
    (∀ i, ∃ r : ℝ, (x0 i : EReal) = r) ∧ (∀ i, ∃ r : ℝ, (x1 i : EReal) = r) ∧ (∀ i, ∃ r : ℝ, (x2 i : EReal) = r) ∧ ∀ i, ∃ r : ℝ, (x3 i : EReal) = r := by
  unfold Cert.Pre_finite_scores.fn Cert.Pre_finite_scores.fn_part1 at h
  obtain ⟨h, h3⟩ := and_all _ _ h
  obtain ⟨h, h2⟩ := and_all _ _ h
  obtain ⟨h0, h1⟩ := and_all _ _ h
  exact ⟨real_of_all _ _ _ _ h0, real_of_all _ _ _ _ h1, real_of_all _ _ _ _ h2, real_of_all _ _ _ _ h3⟩

theorem real_mul {x y : EReal} (hx : ∃ r : ℝ, x = r) (hy : ∃ r : ℝ, y = r) : ∃ r : ℝ, x * y = r := by
  obtain ⟨a, rfl⟩ := hx; obtain ⟨b, rfl⟩ := hy; exact ⟨a * b, (EReal.coe_mul a b).symm⟩
theorem real_add {x y : EReal} (hx : ∃ r : ℝ, x = r) (hy : ∃ r : ℝ, y = r) : ∃ r : ℝ, x + y = r := by
  obtain ⟨a, rfl⟩ := hx; obtain ⟨b, rfl⟩ := hy; exact ⟨a + b, (EReal.coe_add a b).symm⟩
theorem real_sum {ι : Type} (s : Finset ι) (f : ι → EReal) (hf : ∀ i, ∃ r : ℝ, f i = r) : ∃ r : ℝ, ∑ i ∈ s, f i = r := by
  induction s using Finset.cons_induction with
  | empty => exact ⟨0, by simp⟩
  | cons a s ha ih => rw [Finset.sum_cons]; exact real_add (hf a) ih

/-- A row's scores are below plus infinity and its first is real. -/
theorem score_real (h0 : ∀ i, ∃ r : ℝ, (x0 i : EReal) = r) (h1 : ∀ i, ∃ r : ℝ, (x1 i : EReal) = r) (h2 : ∀ i, ∃ r : ℝ, (x2 i : EReal) = r)
    (h3 : ∀ i, ∃ r : ℝ, (x3 i : EReal) = r) (b : Fin 2) (g : Fin 16) (R : Fin 8192) :
    (∀ n, Cert.KernelIdeal.Mla.rowScore x0 x2 x1 x3 b g R n ≠ ⊤) ∧ Cert.KernelIdeal.Mla.rowScore x0 x2 x1 x3 b g R 0 ≠ ⊥ := by
  obtain ⟨s, _, hs⟩ := Cert.KernelIdeal.Mla.scale_real
  have raw : ∀ k : Fin 8192, ∃ r : ℝ, ((∑ d : Fin 128, (x0 (ix4 b R g d) : EReal) * x2 (ix4 b k g d)) + ∑ d : Fin 64, (x3 (ix3 b k d) : EReal) * x1 (ix4 b R g d))
      * Ideal.ofBits .f32 0x3D93CD3A#32 = r := fun k =>
    real_mul (real_add (real_sum _ _ fun d => real_mul (h0 _) (h2 _)) (real_sum _ _ fun d => real_mul (h3 _) (h1 _))) ⟨s, hs⟩
  constructor
  · intro n
    unfold Cert.KernelIdeal.Mla.rowScore
    by_cases hn : n < 8192
    · rw [dif_pos hn]
      unfold Cert.ReferenceIdeal.Mla.score
      obtain ⟨r, hr⟩ := raw ⟨n, hn⟩
      split_ifs
      · rw [hr]; exact EReal.coe_ne_top r
      · exact bot_ne_top
    · rw [dif_neg hn]; exact bot_ne_top
  · unfold Cert.KernelIdeal.Mla.rowScore
    rw [dif_pos (by omega)]
    unfold Cert.ReferenceIdeal.Mla.score
    obtain ⟨r, hr⟩ := raw ⟨0, by omega⟩
    rw [if_pos (by simp), hr]; exact EReal.coe_ne_bot r

end Cert.Pre_finite_scores.Mla

end
-- ==== Proof.Final.lean ====
/- The result array: the kernel's is the reference's attention of the same arguments, where those are real. -/
module

public import proofs.«01_k».proof.Proof.Result
public import proofs.«01_k».proof.Proof.Finite
public import Idealize.ShloMosaic.Lib.Pipeline.ValueKit

@[expose] public section

set_option maxRecDepth 16384

noncomputable section

namespace Cert.KernelIdeal.Mla

open Cert.KernelIdeal Cert.KernelIdeal.Gen
open Idealize.ShloMosaic Idealize.ShloMosaic.TcCoe Idealize.SL.Sem

variable (m : (ℓ : Loc nD τ sig) → Buf (Elt Ideal) ℓ) (c : Dev nD)

/-- The reference's result of the run's arguments. -/
def goal : FVec Ideal S2x8192x2048 .bf16 :=
  Cert.ReferenceIdeal.Mla.attention (m ((c : Thread nD τ).loc main_arg0)) (m ((c : Thread nD τ).loc main_arg2)) (m ((c : Thread nD τ).loc main_arg4))
    (m ((c : Thread nD τ).loc main_arg1)) (m ((c : Thread nD τ).loc main_arg3))

/-- A block's index has first coordinate zero. -/
theorem block_eta (y : S1x512x256.Idx) : y = ix3 0 (y 1) (y 2) := by
  funext a
  match a with
  | 0 => exact Fin.ext (by have := (y 0).isLt; show (y 0 : ℕ) = 0; exact Nat.lt_one_iff.mp this)
  | 1 => rfl
  | 2 => rfl

section
variable (hS : ∀ b g R, (∀ n, S m c b g R n ≠ ⊤) ∧ S m c b g R 0 ≠ ⊥)
include hS

/-- A block's entry is the attention's. -/
theorem out_at (t : Fin cfg0.N) (r : Fin 512) (j : Fin 256) (b : Fin 2) (R : Fin 8192) (J : Fin 2048) (hb : b.val = t.val / 2048)
    (hR : R.val = 512 * (t.val / 16 % 16) + r.val) (hJ : J.val = 256 * (t.val / 256 % 8) + j.val) :
    (outAt m c t (ix3 0 r j) : EReal) = goal m c (ix3 b R J) := by
  have h1 : j.val / 128 < 2 := by omega
  have h2 : j.val % 128 < 128 := by omega
  have h3 : 2 * (t.val / 256 % 8) + j.val / 128 < 16 := by omega
  refine (row_out m c t ⟨j.val / 128, h1⟩ r b R ⟨_, h3⟩ hb rfl hR (hS b ⟨_, h3⟩ R).1 (hS b ⟨_, h3⟩ R).2 ⟨j.val % 128, h2⟩ j
    (by show j.val = 128 * (j.val / 128) + j.val % 128; omega)).trans ?_
  refine Eq.trans ?_ (Cert.ReferenceIdeal.Mla.attention_apply _ _ _ _ _ b R ⟨_, h3⟩ ⟨j.val % 128, h2⟩ J
    (by show J.val = 128 * (2 * (t.val / 256 % 8) + j.val / 128) + j.val % 128; omega)).symm
  simp only [S, U, rowScore, rowValue, Fin.is_lt, dif_pos, Fin.eta]

/-- The result array after the run. -/
theorem final : (dats m 0 c).arrAt 3 cfg0.N = goal m c := by
  refine (dats m 0 c).arrAt_eq_of_covers 3 _ (by decide +kernel) fun t hf y => ?_
  have e := (idx t).2.2.2
  generalize hG : goal m c = G
  have key : ∀ (r : Fin 512) (j : Fin 256) (b : Fin 2) (R : Fin 8192) (J : Fin 2048), b.val = t.val / 2048 → R.val = 512 * (t.val / 16 % 16) + r.val →
      J.val = 256 * (t.val / 256 % 8) + j.val → (outAt m c t (ix3 0 r j) : EReal) = G (ix3 b R J) := fun r j b R J h1 h2 h3 =>
    hG ▸ out_at m c hS t r j b R J h1 h2 h3
  blk_simp
  rw [after3]
  have e0 : ((win0_3.blk t).view.emb y 0 : ℕ) = t.val / 2048 := by
    have h0 : (y 0 : ℕ) < 1 := (y 0).isLt
    blk_simp [e]
  have e1 : ((win0_3.blk t).view.emb y 1 : ℕ) = 512 * (t.val / 16 % 16) + (y 1 : ℕ) := by
    blk_simp [e]
    exact congrArg (· + (y 1 : ℕ)) (Nat.mul_comm _ _)
  have e2 : ((win0_3.blk t).view.emb y 2 : ℕ) = 256 * (t.val / 256 % 8) + (y 2 : ℕ) := by
    blk_simp [e]
    exact congrArg (· + (y 2 : ℕ)) (Nat.mul_comm _ _)
  have k := key (y 1) (y 2) ((win0_3.blk t).view.emb y 0) ((win0_3.blk t).view.emb y 1) ((win0_3.blk t).view.emb y 2) e0 e1 e2
  exact (congrArg (outAt m c t) (block_eta y)).trans (k.trans (congrArg G (eq_ix3 ((win0_3.blk t).view.emb y)).symm))
end

end Cert.KernelIdeal.Mla

end
-- ==== Proof.EvenIn.lean ====
/- An even layer's input projection, the tiled product being the whole one, and what the layer adds to the caches. -/
module

public import proofs.«01_k».proof.Proof.Gen.EvenInIdeal.Frame
public import proofs.«01_k».proof.Proof.Gen.EvenInReferenceIdeal.Run
public import proofs.«01_k».proof.Defs
public import Idealize.ShloMosaic.Lib.Quiescent
public import Idealize.ShloMosaic.PureOps.Ideal
public import Idealize.ShloMosaic.Lib.Pointwise
public import Idealize.ShloMosaic.Lib.StableHlo.RunRead
public import Idealize.ShloMosaic.Lib.Pipeline.ValueKit

@[expose] public section

set_option maxRecDepth 16384

noncomputable section

namespace Cert.EvenInReferenceIdeal.Proj

open Cert.EvenInReferenceIdeal Cert.EvenInReferenceIdeal.Gen
open Idealize.ShloMosaic Idealize.ShloMosaic.TcCoe Idealize.SL.Sem

section
variable (z : FVec Ideal S16896x5120 .f32)

/-- The projection's rows as the prompts' and as the samples' tokens. -/
def prompts : FVec Ideal S2x8192x5120 .f32 := shapeCast S2x8192x5120 (extractStridedSlice S16384x5120 ![0, 0] z slices_S16896x5120_S16384x5120_0_0 : FVec Ideal S16384x5120 .f32) shapeCasts_S16384x5120_S2x8192x5120
def samples : FVec Ideal S16x32x5120 .f32 := shapeCast S16x32x5120 (extractStridedSlice S512x5120 ![16384, 0] z slices_S16896x5120_S512x5120_16384_0 : FVec Ideal S512x5120 .f32) shapeCasts_S512x5120_S16x32x5120

/-- The prompts' last keys and values, head by head, and their last inputs of the pooling. -/
def promptKeys : FVec Ideal S2x128x8x64 .f32 := extractStridedSlice S2x128x8x64 ![0, 8064, 0, 0] (shapeCast S2x8192x8x64 (extractStridedSlice S2x8192x512 ![0, 0, 2048] (prompts z) slices_S2x8192x5120_S2x8192x512_0_0_2048 : FVec Ideal S2x8192x512 .f32) shapeCasts_S2x8192x512_S2x8192x8x64 : FVec Ideal S2x8192x8x64 .f32) slices_S2x8192x8x64_S2x128x8x64_0_8064_0_0
def promptValues : FVec Ideal S2x128x8x64 .f32 := extractStridedSlice S2x128x8x64 ![0, 8064, 0, 0] (shapeCast S2x8192x8x64 (extractStridedSlice S2x8192x512 ![0, 0, 2560] (prompts z) slices_S2x8192x5120_S2x8192x512_0_0_2560 : FVec Ideal S2x8192x512 .f32) shapeCasts_S2x8192x512_S2x8192x8x64 : FVec Ideal S2x8192x8x64 .f32) slices_S2x8192x8x64_S2x128x8x64_0_8064_0_0
def promptPool : FVec Ideal S2x15x2048 .f32 := extractStridedSlice S2x15x2048 ![0, 8177, 0] (extractStridedSlice S2x8192x2048 ![0, 0, 3072] (prompts z) slices_S2x8192x5120_S2x8192x2048_0_0_3072 : FVec Ideal S2x8192x2048 .f32) slices_S2x8192x2048_S2x15x2048_0_8177_0

/-- The samples' new keys, values and inputs of the pooling. -/
def sampleKeys : FVec Ideal S16x32x8x64 .f32 := shapeCast S16x32x8x64 (extractStridedSlice S16x32x512 ![0, 0, 2048] (samples z) slices_S16x32x5120_S16x32x512_0_0_2048 : FVec Ideal S16x32x512 .f32) shapeCasts_S16x32x512_S16x32x8x64
def sampleValues : FVec Ideal S16x32x8x64 .f32 := shapeCast S16x32x8x64 (extractStridedSlice S16x32x512 ![0, 0, 2560] (samples z) slices_S16x32x5120_S16x32x512_0_0_2560 : FVec Ideal S16x32x512 .f32) shapeCasts_S16x32x512_S16x32x8x64
def samplePool : FVec Ideal S16x32x2048 .f32 := extractStridedSlice S16x32x2048 ![0, 0, 3072] (samples z) slices_S16x32x5120_S16x32x2048_0_0_3072
end

/-- A cache's window moved on by the samples' new entries. -/
def window (cache : FVec Ideal S16x128x8x64 .f32) (x : FVec Ideal S16x32x8x64 .f32) : FVec Ideal S16x128x8x64 .f32 :=
  extractStridedSlice S16x128x8x64 ![0, 32, 0, 0] (concatenate S16x160x8x64 1 [⟨S16x128x8x64, cache⟩, ⟨S16x32x8x64, x⟩] concatenates_S16x128x8x64_S16x32x8x64_S16x160x8x64_d1 : FVec Ideal S16x160x8x64 .f32) slices_S16x160x8x64_S16x128x8x64_0_32_0_0
def history (state : FVec Ideal S16x15x2048 .f32) (x : FVec Ideal S16x32x2048 .f32) : FVec Ideal S16x15x2048 .f32 :=
  extractStridedSlice S16x15x2048 ![0, 32, 0] (concatenate S16x47x2048 1 [⟨S16x15x2048, state⟩, ⟨S16x32x2048, x⟩] concatenates_S16x15x2048_S16x32x2048_S16x47x2048_d1 : FVec Ideal S16x47x2048 .f32) slices_S16x47x2048_S16x15x2048_0_32_0

end Cert.EvenInReferenceIdeal.Proj

namespace Cert.EvenInIdeal.Proj

open Cert.EvenInIdeal Cert.EvenInIdeal.Gen
open Idealize.ShloMosaic Idealize.ShloMosaic.TcCoe Idealize.SL.Sem
open Cert.EvenInReferenceIdeal.Proj (prompts samples promptKeys promptValues promptPool sampleKeys sampleValues samplePool window history)

/-- The blocks of a point: a band of rows, a band of columns, and the tile where they meet. -/
theorem idx : ∀ t : Fin cfg0.N, win0_0.index t = ![t.val / 10, 0] ∧ win0_1.index t = ![0, t.val % 10] ∧ win0_2.index t = ![t.val / 10, t.val % 10] :=
  (by decide +kernel : ∀ t : Fin grid0.N, _)

/-- A tile's entry is the sum of a row's products with a column. -/
theorem tile_apply (a : Vec Ideal S512x4096 .bf16) (b : Vec Ideal S4096x512 .bf16) (r j : Fin 512) :
    out0_2 a b (ix2 r j) = ∑ d : Fin 4096, (a (ix2 r d) : EReal) * b (ix2 d j) := by
  unfold out0_2
  frame_out
  pointwise [k0_pay1]

section
variable (t : Fin cfg0.N)
theorem read_a (X : FVec Ideal S16896x4096 .bf16) (r : Fin 512) (d : Fin 4096) (R : Fin 16896) (hR : R.val = 512 * (t.val / 10) + r.val) :
    (((cfg0.win 0).blk t).view.read (Elt Ideal) X : Vec Ideal S512x4096 .bf16) (ix2 r d) = X (ix2 R d) := by
  have e := (idx t).1
  blk_simp [e]
  blk_ext [e]
theorem read_b (X : FVec Ideal S4096x5120 .bf16) (d : Fin 4096) (j : Fin 512) (J : Fin 5120) (hJ : J.val = 512 * (t.val % 10) + j.val) :
    (((cfg0.win 1).blk t).view.read (Elt Ideal) X : Vec Ideal S4096x512 .bf16) (ix2 d j) = X (ix2 d J) := by
  have e := (idx t).2.1
  blk_simp [e]
  blk_ext [e]
end

/-- The whole product. -/
def product (h : FVec Ideal S16896x4096 .bf16) (w : FVec Ideal S4096x5120 .f32) : FVec Ideal S16896x5120 .f32 :=
  fun i => ∑ d : Fin 4096, (h (ix2 (i 0) d) : EReal) * w (ix2 d (i 1))

variable (m : (ℓ : Loc nD τ sig) → Buf (Elt Ideal) ℓ) (c : Dev nD)

theorem V_w : V m c main_v0 = (truncf .bf16 (m ((c : Thread nD τ).loc main_arg1)) bitsLt_bf16_f32 : FVec Ideal S4096x5120 .bf16) := by
  show StableHlo.after hostOps0 _ (Proc.devRef .tc main_v0) = _
  after_reads_simp

theorem out_at (t : Fin cfg0.N) (r j : Fin 512) (R : Fin 16896) (J : Fin 5120) (hR : R.val = 512 * (t.val / 10) + r.val) (hJ : J.val = 512 * (t.val % 10) + j.val) :
    (out0_2 (iblk m c 0 t) (iblk m c 1 t) (ix2 r j) : EReal) = product (m ((c : Thread nD τ).loc main_arg0)) (m ((c : Thread nD τ).loc main_arg1)) (ix2 R J) := by
  rw [tile_apply]
  refine Finset.sum_congr rfl fun d _ => congrArg₂ (fun a b : EReal => a * b) ?_ ?_
  · show (((cfg0.win 0).blk t).view.read (Elt Ideal) (V m c main_arg0) : Vec Ideal S512x4096 .bf16) (ix2 r d) = _
    rw [V_main_arg0 m c]
    exact read_a t _ r d R hR
  · show (((cfg0.win 1).blk t).view.read (Elt Ideal) (V m c main_v0) : Vec Ideal S4096x512 .bf16) (ix2 d j) = _
    rw [V_w m c]
    exact read_b t _ d j J hJ

/-- The result array after the run is the whole product. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have e := (idx t).2.2
  generalize hG : product (m ((c : Thread nD τ).loc main_arg0)) (m ((c : Thread nD τ).loc main_arg1)) = G
  have key := fun r j R J hR hJ => (out_at m c t r j R J hR hJ).trans (congrFun hG _)
  blk_simp
  rw [after0_2]
  have e0 : ((win0_2.blk t).view.emb y 0 : ℕ) = 512 * (t.val / 10) + (y 0 : ℕ) := by
    blk_simp [e]
    exact congrArg (· + (y 0 : ℕ)) (Nat.mul_comm _ _)
  have e1 : ((win0_2.blk t).view.emb y 1 : ℕ) = 512 * (t.val % 10) + (y 1 : ℕ) := by
    blk_simp [e]
    exact congrArg (· + (y 1 : ℕ)) (Nat.mul_comm _ _)
  have k := key (y 0) (y 1) ((win0_2.blk t).view.emb y 0) ((win0_2.blk t).view.emb y 1) e0 e1
  exact (congrArg (out0_2 (iblk m c 0 t) (iblk m c 1 t)) (eq_ix2 y)).trans (k.trans (congrArg G (eq_ix2 ((win0_2.blk t).view.emb y)).symm))

/-- The reference's product is it too. -/
theorem reference_eq (h : FVec Ideal S16896x4096 .bf16) (w : FVec Ideal S4096x5120 .f32) :
    Host.dotGeneral Cert.EvenInReferenceIdeal.dot_S16896x4096_S4096x5120_S16896x5120_1_0_0_1_n_n none (extf .f32 h Cert.EvenInReferenceIdeal.Gen.bitsLt_bf16_f32 : FVec Ideal S16896x4096 .f32) w = product h w := by
  funext i
  rw [eq_ix2 i]
  unfold product
  pointwise

/-! What the layer adds to the caches: the kernel cuts the columns first, the reference the tokens. -/

section
variable (z : FVec Ideal S16896x5120 .f32)

theorem prompt_k : (shapeCast S2x8192x512 (extractStridedSlice S16384x512 ![0, 2048] z slices_S16896x5120_S16384x512_0_2048 : FVec Ideal S16384x512 .f32) shapeCasts_S16384x512_S2x8192x512 : FVec Ideal S2x8192x512 .f32) = extractStridedSlice S2x8192x512 ![0, 0, 2048] (prompts z) Cert.EvenInReferenceIdeal.Gen.slices_S2x8192x5120_S2x8192x512_0_0_2048 := by
  funext i
  rw [eq_ix3 i]
  generalize (i 0 : Fin 2) = b, (i 1 : Fin 8192) = t, (i 2 : Fin 512) = j
  pointwise [prompts]

theorem prompt_v : (shapeCast S2x8192x512 (extractStridedSlice S16384x512 ![0, 2560] z slices_S16896x5120_S16384x512_0_2560 : FVec Ideal S16384x512 .f32) shapeCasts_S16384x512_S2x8192x512 : FVec Ideal S2x8192x512 .f32) = extractStridedSlice S2x8192x512 ![0, 0, 2560] (prompts z) Cert.EvenInReferenceIdeal.Gen.slices_S2x8192x5120_S2x8192x512_0_0_2560 := by
  funext i
  rw [eq_ix3 i]
  generalize (i 0 : Fin 2) = b, (i 1 : Fin 8192) = t, (i 2 : Fin 512) = j
  pointwise [prompts]

theorem prompt_u : (shapeCast S2x8192x2048 (extractStridedSlice S16384x2048 ![0, 3072] z slices_S16896x5120_S16384x2048_0_3072 : FVec Ideal S16384x2048 .f32) shapeCasts_S16384x2048_S2x8192x2048 : FVec Ideal S2x8192x2048 .f32) = extractStridedSlice S2x8192x2048 ![0, 0, 3072] (prompts z) Cert.EvenInReferenceIdeal.Gen.slices_S2x8192x5120_S2x8192x2048_0_0_3072 := by
  funext i
  rw [eq_ix3 i]
  generalize (i 0 : Fin 2) = b, (i 1 : Fin 8192) = t, (i 2 : Fin 2048) = j
  pointwise [prompts]

theorem sample_k : (shapeCast S16x32x512 (extractStridedSlice S512x512 ![16384, 2048] z slices_S16896x5120_S512x512_16384_2048 : FVec Ideal S512x512 .f32) shapeCasts_S512x512_S16x32x512 : FVec Ideal S16x32x512 .f32) = extractStridedSlice S16x32x512 ![0, 0, 2048] (samples z) Cert.EvenInReferenceIdeal.Gen.slices_S16x32x5120_S16x32x512_0_0_2048 := by
  funext i
  rw [eq_ix3 i]
  generalize (i 0 : Fin 16) = b, (i 1 : Fin 32) = t, (i 2 : Fin 512) = j
  pointwise [samples]

theorem sample_v : (shapeCast S16x32x512 (extractStridedSlice S512x512 ![16384, 2560] z slices_S16896x5120_S512x512_16384_2560 : FVec Ideal S512x512 .f32) shapeCasts_S512x512_S16x32x512 : FVec Ideal S16x32x512 .f32) = extractStridedSlice S16x32x512 ![0, 0, 2560] (samples z) Cert.EvenInReferenceIdeal.Gen.slices_S16x32x5120_S16x32x512_0_0_2560 := by
  funext i
  rw [eq_ix3 i]
  generalize (i 0 : Fin 16) = b, (i 1 : Fin 32) = t, (i 2 : Fin 512) = j
  pointwise [samples]

theorem sample_u : (shapeCast S16x32x2048 (extractStridedSlice S512x2048 ![16384, 3072] z slices_S16896x5120_S512x2048_16384_3072 : FVec Ideal S512x2048 .f32) shapeCasts_S512x2048_S16x32x2048 : FVec Ideal S16x32x2048 .f32) = extractStridedSlice S16x32x2048 ![0, 0, 3072] (samples z) Cert.EvenInReferenceIdeal.Gen.slices_S16x32x5120_S16x32x2048_0_0_3072 := by
  funext i
  rw [eq_ix3 i]
  generalize (i 0 : Fin 16) = b, (i 1 : Fin 32) = t, (i 2 : Fin 2048) = j
  pointwise [samples]
end

/-- The last tokens' heads are the heads' last tokens. -/
theorem heads_last (x : FVec Ideal S2x8192x512 .f32) :
    (shapeCast S2x128x8x64 (extractStridedSlice S2x128x512 ![0, 8064, 0] x slices_S2x8192x512_S2x128x512_0_8064_0 : FVec Ideal S2x128x512 .f32) shapeCasts_S2x128x512_S2x128x8x64 : FVec Ideal S2x128x8x64 .f32)
      = extractStridedSlice S2x128x8x64 ![0, 8064, 0, 0] (shapeCast Cert.EvenInReferenceIdeal.S2x8192x8x64 x Cert.EvenInReferenceIdeal.Gen.shapeCasts_S2x8192x512_S2x8192x8x64 : FVec Ideal Cert.EvenInReferenceIdeal.S2x8192x8x64 .f32) Cert.EvenInReferenceIdeal.Gen.slices_S2x8192x8x64_S2x128x8x64_0_8064_0_0 := by
  funext i
  rw [eq_ix4 i]
  generalize (i 0 : Fin 2) = b, (i 1 : Fin 128) = t, (i 2 : Fin 8) = n, (i 3 : Fin 64) = j
  pointwise

section
variable (X : Valuation τ sig (Elt Ideal)) (z : FVec Ideal S16896x5120 .f32) (hz : X (Proc.devRef .tc main_v1) = z)
include hz

theorem tail_promptKeys : StableHlo.after hostOps1 X (Proc.devRef .tc main_v24) = promptKeys z := by
  after_reads_simp
  rw [hz]
  exact (heads_last _).trans (congrArg (fun x => extractStridedSlice _ _ (shapeCast _ x _) _) (prompt_k z))

theorem tail_sampleKeys : StableHlo.after hostOps1 X (Proc.devRef .tc main_v25) = window (X (Proc.devRef .tc main_arg2)) (sampleKeys z) := by
  after_reads_simp
  refine congrArg₂ window ?_ ?_
  · after_reads_simp
  · after_reads_simp
    rw [hz]
    exact congrArg (fun x => shapeCast _ x _) (sample_k z)

theorem tail_promptValues : StableHlo.after hostOps1 X (Proc.devRef .tc main_v27) = promptValues z := by
  after_reads_simp
  rw [hz]
  exact (heads_last _).trans (congrArg (fun x => extractStridedSlice _ _ (shapeCast _ x _) _) (prompt_v z))

theorem tail_sampleValues : StableHlo.after hostOps1 X (Proc.devRef .tc main_v28) = window (X (Proc.devRef .tc main_arg3)) (sampleValues z) := by
  after_reads_simp
  refine congrArg₂ window ?_ ?_
  · after_reads_simp
  · after_reads_simp
    rw [hz]
    exact congrArg (fun x => shapeCast _ x _) (sample_v z)

theorem tail_promptPool : StableHlo.after hostOps1 X (Proc.devRef .tc main_v29) = promptPool z := by
  after_reads_simp
  rw [hz]
  exact congrArg (fun x => extractStridedSlice _ _ x _) (prompt_u z)

theorem tail_samplePool : StableHlo.after hostOps1 X (Proc.devRef .tc main_v30) = history (X (Proc.devRef .tc main_arg4)) (samplePool z) := by
  after_reads_simp
  refine congrArg₂ history ?_ ?_
  · after_reads_simp
  · after_reads_simp
    rw [hz]
    exact sample_u z
end

variable (m : (ℓ : Loc nD τ sig) → Buf (Elt Ideal) ℓ) (c : Dev nD)

/-- The buffers after the region. -/
abbrev exit : Valuation τ sig (Elt Ideal) := Pipeline.withArrays spec0 c (V0 m c) fun w => (dats m 0 c).arrAt w cfg0.N

theorem exit_z : exit m c (Proc.devRef .tc main_v1) = product (m ((c : Thread nD τ).loc main_arg0)) (m ((c : Thread nD τ).loc main_arg1)) :=
  (Pipeline.withArrays_arr spec0 (by decide) c (V0 m c) (fun w => (dats m 0 c).arrAt w cfg0.N) 2).trans (final m c)
theorem exit_arg2 : exit m c (Proc.devRef .tc main_arg2) = m ((c : Thread nD τ).loc main_arg2) :=
  (Pipeline.withArrays_of_ne spec0 c (V0 m c) _ main_arg2 (by exact (by decide : ∀ w, Pipeline.arrRef spec0 w ≠ main_arg2))).trans (V_main_arg2 m c)
theorem exit_arg3 : exit m c (Proc.devRef .tc main_arg3) = m ((c : Thread nD τ).loc main_arg3) :=
  (Pipeline.withArrays_of_ne spec0 c (V0 m c) _ main_arg3 (by exact (by decide : ∀ w, Pipeline.arrRef spec0 w ≠ main_arg3))).trans (V_main_arg3 m c)
theorem exit_arg4 : exit m c (Proc.devRef .tc main_arg4) = m ((c : Thread nD τ).loc main_arg4) :=
  (Pipeline.withArrays_of_ne spec0 c (V0 m c) _ main_arg4 (by exact (by decide : ∀ w, Pipeline.arrRef spec0 w ≠ main_arg4))).trans (V_main_arg4 m c)

theorem final_promptKeys : Pipeline.afterTail₀ cfgs (dats m) 0 (V0 m) [hostOps1] c main_v24 = promptKeys (product (m ((c : Thread nD τ).loc main_arg0)) (m ((c : Thread nD τ).loc main_arg1))) :=
  (tail_promptKeys (exit m c) _ (exit_z m c))

theorem final_sampleKeys : Pipeline.afterTail₀ cfgs (dats m) 0 (V0 m) [hostOps1] c main_v25 = window (m ((c : Thread nD τ).loc main_arg2)) (sampleKeys (product (m ((c : Thread nD τ).loc main_arg0)) (m ((c : Thread nD τ).loc main_arg1)))) :=
  (tail_sampleKeys (exit m c) _ (exit_z m c)).trans (congrArg (window · _) (exit_arg2 m c))

theorem final_promptValues : Pipeline.afterTail₀ cfgs (dats m) 0 (V0 m) [hostOps1] c main_v27 = promptValues (product (m ((c : Thread nD τ).loc main_arg0)) (m ((c : Thread nD τ).loc main_arg1))) :=
  (tail_promptValues (exit m c) _ (exit_z m c))

theorem final_sampleValues : Pipeline.afterTail₀ cfgs (dats m) 0 (V0 m) [hostOps1] c main_v28 = window (m ((c : Thread nD τ).loc main_arg3)) (sampleValues (product (m ((c : Thread nD τ).loc main_arg0)) (m ((c : Thread nD τ).loc main_arg1)))) :=
  (tail_sampleValues (exit m c) _ (exit_z m c)).trans (congrArg (window · _) (exit_arg3 m c))

theorem final_promptPool : Pipeline.afterTail₀ cfgs (dats m) 0 (V0 m) [hostOps1] c main_v29 = promptPool (product (m ((c : Thread nD τ).loc main_arg0)) (m ((c : Thread nD τ).loc main_arg1))) :=
  (tail_promptPool (exit m c) _ (exit_z m c))

theorem final_samplePool : Pipeline.afterTail₀ cfgs (dats m) 0 (V0 m) [hostOps1] c main_v30 = history (m ((c : Thread nD τ).loc main_arg4)) (samplePool (product (m ((c : Thread nD τ).loc main_arg0)) (m ((c : Thread nD τ).loc main_arg1)))) :=
  (tail_samplePool (exit m c) _ (exit_z m c)).trans (congrArg (history · _) (exit_arg4 m c))

/-- The run with every result named. -/
theorem run (ρ : Dev nD → PrngReg) : θ_run defs (onTc (τ := τ) (main (F := Ideal))) ⟨m, fun _ => 0, ρ⟩ fun r => ∀ c : Dev nD,
      r.2.mem ((c.tc : Thread nD τ).loc main_v1) = (product (m ((c : Thread nD τ).loc main_arg0)) (m ((c : Thread nD τ).loc main_arg1)))
      ∧ r.2.mem ((c.tc : Thread nD τ).loc main_v24) = promptKeys (product (m ((c : Thread nD τ).loc main_arg0)) (m ((c : Thread nD τ).loc main_arg1)))
      ∧ r.2.mem ((c.tc : Thread nD τ).loc main_v25) = window (m ((c : Thread nD τ).loc main_arg2)) (sampleKeys (product (m ((c : Thread nD τ).loc main_arg0)) (m ((c : Thread nD τ).loc main_arg1))))
      ∧ r.2.mem ((c.tc : Thread nD τ).loc main_v27) = promptValues (product (m ((c : Thread nD τ).loc main_arg0)) (m ((c : Thread nD τ).loc main_arg1)))
      ∧ r.2.mem ((c.tc : Thread nD τ).loc main_v28) = window (m ((c : Thread nD τ).loc main_arg3)) (sampleValues (product (m ((c : Thread nD τ).loc main_arg0)) (m ((c : Thread nD τ).loc main_arg1))))
      ∧ r.2.mem ((c.tc : Thread nD τ).loc main_v29) = promptPool (product (m ((c : Thread nD τ).loc main_arg0)) (m ((c : Thread nD τ).loc main_arg1)))
      ∧ r.2.mem ((c.tc : Thread nD τ).loc main_v30) = history (m ((c : Thread nD τ).loc main_arg4)) (samplePool (product (m ((c : Thread nD τ).loc main_arg0)) (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 2).trans (final m c),
      ((h c).2 main_v24 (Pipeline.mem_restRefs_of main_v24 (by decide) (by decide))).trans (final_promptKeys m c),
      ((h c).2 main_v25 (Pipeline.mem_restRefs_of main_v25 (by decide) (by decide))).trans (final_sampleKeys m c),
      ((h c).2 main_v27 (Pipeline.mem_restRefs_of main_v27 (by decide) (by decide))).trans (final_promptValues m c),
      ((h c).2 main_v28 (Pipeline.mem_restRefs_of main_v28 (by decide) (by decide))).trans (final_sampleValues m c),
      ((h c).2 main_v29 (Pipeline.mem_restRefs_of main_v29 (by decide) (by decide))).trans (final_promptPool m c),
      ((h c).2 main_v30 (Pipeline.mem_restRefs_of main_v30 (by decide) (by decide))).trans (final_samplePool m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.EvenInIdeal.Proj

namespace Cert.EvenInReferenceIdeal.Proj

open Cert.EvenInReferenceIdeal Cert.EvenInReferenceIdeal.Gen
open Idealize.ShloMosaic Idealize.ShloMosaic.TcCoe Idealize.SL.Sem

/-- The frame: the reference declares no semaphore. -/
theorem frame_reference (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2.2.2.2.2.2.2, sem_eq_zero_of_no_sems (by decide) r.2⟩) (Cert.EvenInReferenceIdeal.Value.run (F := Ideal) m ρ)

end Cert.EvenInReferenceIdeal.Proj

namespace Cert.Proof

open Idealize.ShloMosaic Idealize.SL.Sem

theorem algebraic_even : Cert.algebraic_EvenInIdeal_EvenInReferenceIdeal (hEvenInIdeal := Cert.EvenInIdeal.Gen.facts) (hEvenInReferenceIdeal := Cert.EvenInReferenceIdeal.Gen.facts) := by
  intro m g m' g' _ hargs
  refine ⟨fun c => Cert.EvenInIdeal.Proj.product (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1)),
    fun c => Cert.EvenInReferenceIdeal.Proj.promptKeys (Cert.EvenInIdeal.Proj.product (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1))),
    fun c => Cert.EvenInReferenceIdeal.Proj.window (m ((c.tc : Thread Cert.EvenInIdeal.nD Cert.EvenInIdeal.τ).loc Cert.EvenInIdeal.main_arg2)) (Cert.EvenInReferenceIdeal.Proj.sampleKeys (Cert.EvenInIdeal.Proj.product (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1)))),
    fun c => Cert.EvenInReferenceIdeal.Proj.promptValues (Cert.EvenInIdeal.Proj.product (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1))),
    fun c => Cert.EvenInReferenceIdeal.Proj.window (m ((c.tc : Thread Cert.EvenInIdeal.nD Cert.EvenInIdeal.τ).loc Cert.EvenInIdeal.main_arg3)) (Cert.EvenInReferenceIdeal.Proj.sampleValues (Cert.EvenInIdeal.Proj.product (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1)))),
    fun c => Cert.EvenInReferenceIdeal.Proj.promptPool (Cert.EvenInIdeal.Proj.product (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1))),
    fun c => Cert.EvenInReferenceIdeal.Proj.history (m ((c.tc : Thread Cert.EvenInIdeal.nD Cert.EvenInIdeal.τ).loc Cert.EvenInIdeal.main_arg4)) (Cert.EvenInReferenceIdeal.Proj.samplePool (Cert.EvenInIdeal.Proj.product (m ((c.tc : Thread Cert.EvenInIdeal.nD Cert.EvenInIdeal.τ).loc Cert.EvenInIdeal.main_arg0)) (m ((c.tc : Thread Cert.EvenInIdeal.nD Cert.EvenInIdeal.τ).loc Cert.EvenInIdeal.main_arg1)))),
    Cert.EvenInIdeal.Proj.run m g, ?_⟩
  refine (θ_run _ _ _).mono (fun r h c => ?_) (Cert.EvenInReferenceIdeal.Value.run (F := Ideal) m' g')
  obtain ⟨a0, a1, a2, a3, a4⟩ := hargs c
  have hz := (Cert.EvenInIdeal.Proj.reference_eq _ _).trans (congr (congrArg Cert.EvenInIdeal.Proj.product a0) a1)
  obtain ⟨h0, h1, h2, h3, h4, h5, h6, hk⟩ := h c
  exact ⟨h0.trans hz, h1.trans (congrArg Cert.EvenInReferenceIdeal.Proj.promptKeys hz),
    h2.trans (congrArg₂ Cert.EvenInReferenceIdeal.Proj.window a2 (congrArg Cert.EvenInReferenceIdeal.Proj.sampleKeys hz)),
    h3.trans (congrArg Cert.EvenInReferenceIdeal.Proj.promptValues hz),
    h4.trans (congrArg₂ Cert.EvenInReferenceIdeal.Proj.window a3 (congrArg Cert.EvenInReferenceIdeal.Proj.sampleValues hz)),
    h5.trans (congrArg Cert.EvenInReferenceIdeal.Proj.promptPool hz),
    h6.trans (congrArg₂ Cert.EvenInReferenceIdeal.Proj.history a4 (congrArg Cert.EvenInReferenceIdeal.Proj.samplePool hz)), hk⟩

end Cert.Proof

end
-- ==== Proof.OddOrder.lean ====
/- The column order of an odd layer's input projection. -/
module

public import proofs.«01_k».proof.Proof.Gen.OddInIdeal.Frame
public import proofs.«01_k».proof.Proof.Gen.OddInReferenceIdeal.Run
public import proofs.«01_k».proof.Defs
public import Idealize.ShloMosaic.Lib.Quiescent
public import Idealize.ShloMosaic.PureOps.Ideal
public import Idealize.ShloMosaic.Lib.Pointwise
public import Idealize.ShloMosaic.Lib.StableHlo.RunRead
public import Idealize.ShloMosaic.Lib.Pipeline.ValueKit

@[expose] public section

set_option maxRecDepth 16384

noncomputable section

namespace Cert.OddInIdeal.Proj

open Cert.OddInIdeal Cert.OddInIdeal.Gen
open Idealize.ShloMosaic Idealize.ShloMosaic.TcCoe Idealize.SL.Sem

/-- The column of the given weights that stands at a column of the call's order: the local queries, the
    sparse attention's queries, the first latent queries, the second, the local keys, values, the rotary
    key, the index keys and the index weights. -/
def srcN (n : ℕ) : ℕ :=
  if n < 2048 then n + 1600 else if n < 4096 then n - 2048 + 4672 else if n < 5120 then n - 4096
    else if n < 5632 then n - 5120 + 1024 else if n < 6144 then n - 5632 + 3648 else if n < 6656 then n - 6144 + 4160
    else if n < 6720 then n - 6656 + 1536 else n

/-- That column, in range. -/
def src (J : Fin 6816) : Fin 6816 := ⟨srcN J.val, by unfold srcN; split_ifs <;> omega⟩

theorem at_src {K : ℕ} (X : (⟨2, ![K, 6816]⟩ : Shape).Idx → EReal) (d : Fin K) (J : Fin 6816) (a : ℕ) (ha : a < 6816) (h : a = srcN J.val) :
    X (ix2 d ⟨a, ha⟩) = X (ix2 d (src J)) := congrArg X (congrArg (ix2 d) (Fin.ext h))

set_option maxHeartbeats 4000000 in
theorem order_w (X : FVec Ideal S4096x6816 .f32) (d : Fin 4096) (J : Fin 6816) :
    (concatenate S4096x6816 1 [⟨S4096x2048, (extractStridedSlice S4096x2048 ![0, 1600] X slices_S4096x6816_S4096x2048_0_1600 : FVec Ideal S4096x2048 .f32)⟩, ⟨S4096x2048, (extractStridedSlice S4096x2048 ![0, 4672] X slices_S4096x6816_S4096x2048_0_4672 : FVec Ideal S4096x2048 .f32)⟩, ⟨S4096x1024, (extractStridedSlice S4096x1024 ![0, 0] X slices_S4096x6816_S4096x1024_0_0 : FVec Ideal S4096x1024 .f32)⟩, ⟨S4096x512, (extractStridedSlice S4096x512 ![0, 1024] X slices_S4096x6816_S4096x512_0_1024 : FVec Ideal S4096x512 .f32)⟩, ⟨S4096x512, (extractStridedSlice S4096x512 ![0, 3648] X slices_S4096x6816_S4096x512_0_3648 : FVec Ideal S4096x512 .f32)⟩, ⟨S4096x512, (extractStridedSlice S4096x512 ![0, 4160] X slices_S4096x6816_S4096x512_0_4160 : FVec Ideal S4096x512 .f32)⟩, ⟨S4096x64, (extractStridedSlice S4096x64 ![0, 1536] X slices_S4096x6816_S4096x64_0_1536 : FVec Ideal S4096x64 .f32)⟩, ⟨S4096x64, (extractStridedSlice S4096x64 ![0, 6720] X slices_S4096x6816_S4096x64_0_6720 : FVec Ideal S4096x64 .f32)⟩, ⟨S4096x32, (extractStridedSlice S4096x32 ![0, 6784] X slices_S4096x6816_S4096x32_0_6784 : FVec Ideal S4096x32 .f32)⟩] concatenates_S4096x2048_S4096x2048_S4096x1024_S4096x512_S4096x512_S4096x512_S4096x64_S4096x64_S4096x32_S4096x6816_d1 : FVec Ideal S4096x6816 .f32) (ix2 d J) = X (ix2 d (src J)) := by
  pointwise
  split_ifs <;> first | (refine at_src X d J _ _ ?_; unfold srcN; split_ifs <;> omega) | (exfalso; omega) | exact absurd rfl ‹_› | trace_state

end Cert.OddInIdeal.Proj

namespace Cert.OddInReferenceIdeal.Proj

open Cert.OddInReferenceIdeal Cert.OddInReferenceIdeal.Gen
open Idealize.ShloMosaic Idealize.ShloMosaic.TcCoe Idealize.SL.Sem
open Cert.OddInIdeal.Proj (src srcN at_src)

set_option maxHeartbeats 4000000 in
theorem order_y (X : FVec Ideal S16896x6816 .f32) (d : Fin 16896) (J : Fin 6816) :
    (concatenate S16896x6816 1 [⟨S16896x2048, (extractStridedSlice S16896x2048 ![0, 1600] X slices_S16896x6816_S16896x2048_0_1600 : FVec Ideal S16896x2048 .f32)⟩, ⟨S16896x2048, (extractStridedSlice S16896x2048 ![0, 4672] X slices_S16896x6816_S16896x2048_0_4672 : FVec Ideal S16896x2048 .f32)⟩, ⟨S16896x1024, (extractStridedSlice S16896x1024 ![0, 0] X slices_S16896x6816_S16896x1024_0_0 : FVec Ideal S16896x1024 .f32)⟩, ⟨S16896x512, (extractStridedSlice S16896x512 ![0, 1024] X slices_S16896x6816_S16896x512_0_1024 : FVec Ideal S16896x512 .f32)⟩, ⟨S16896x512, (extractStridedSlice S16896x512 ![0, 3648] X slices_S16896x6816_S16896x512_0_3648 : FVec Ideal S16896x512 .f32)⟩, ⟨S16896x512, (extractStridedSlice S16896x512 ![0, 4160] X slices_S16896x6816_S16896x512_0_4160 : FVec Ideal S16896x512 .f32)⟩, ⟨S16896x64, (extractStridedSlice S16896x64 ![0, 1536] X slices_S16896x6816_S16896x64_0_1536 : FVec Ideal S16896x64 .f32)⟩, ⟨S16896x64, (extractStridedSlice S16896x64 ![0, 6720] X slices_S16896x6816_S16896x64_0_6720 : FVec Ideal S16896x64 .f32)⟩, ⟨S16896x32, (extractStridedSlice S16896x32 ![0, 6784] X slices_S16896x6816_S16896x32_0_6784 : FVec Ideal S16896x32 .f32)⟩] concatenates_S16896x2048_S16896x2048_S16896x1024_S16896x512_S16896x512_S16896x512_S16896x64_S16896x64_S16896x32_S16896x6816_d1 : FVec Ideal S16896x6816 .f32) (ix2 d J) = X (ix2 d (src J)) := by
  pointwise
  split_ifs <;> first | (refine at_src X d J _ _ ?_; unfold srcN; split_ifs <;> omega) | (exfalso; omega) | exact absurd rfl ‹_› | trace_state

end Cert.OddInReferenceIdeal.Proj

end
-- ==== Proof.OddIn.lean ====
/- An odd layer's input projection: the tiled product with the reordered, padded weights is the whole product,
   its columns reordered and padded with zeros. -/
module

public import proofs.«01_k».proof.Proof.Gen.OddInIdeal.Frame
public import proofs.«01_k».proof.Proof.Gen.OddInReferenceIdeal.Run
public import proofs.«01_k».proof.Proof.OddOrder
public import proofs.«01_k».proof.Defs
public import Idealize.ShloMosaic.Lib.Quiescent
public import Idealize.ShloMosaic.PureOps.Ideal
public import Idealize.ShloMosaic.Lib.Pointwise
public import Idealize.ShloMosaic.Lib.StableHlo.RunRead
public import Idealize.ShloMosaic.Lib.Pipeline.ValueKit

@[expose] public section

set_option maxRecDepth 16384

noncomputable section

namespace Cert.OddInIdeal.Proj

open Cert.OddInIdeal Cert.OddInIdeal.Gen
open Idealize.ShloMosaic Idealize.ShloMosaic.TcCoe Idealize.SL.Sem

/-- The blocks of a point: a band of rows, a band of columns, and the tile where they meet. -/
theorem idx : ∀ t : Fin cfg0.N, win0_0.index t = ![t.val / 9, 0] ∧ win0_1.index t = ![0, t.val % 9] ∧ win0_2.index t = ![t.val / 9, t.val % 9] :=
  (by decide +kernel : ∀ t : Fin grid0.N, _)

/-- A tile's entry is the sum of a row's products with a column. -/
theorem tile_apply (a : Vec Ideal S512x4096 .bf16) (b : Vec Ideal S4096x768 .bf16) (r : Fin 512) (j : Fin 768) :
    out0_2 a b (ix2 r j) = ∑ d : Fin 4096, (a (ix2 r d) : EReal) * b (ix2 d j) := by
  unfold out0_2
  frame_out
  pointwise [k0_pay1]

section
variable (t : Fin cfg0.N)
theorem read_a (X : FVec Ideal S16896x4096 .bf16) (r : Fin 512) (d : Fin 4096) (R : Fin 16896) (hR : R.val = 512 * (t.val / 9) + r.val) :
    (((cfg0.win 0).blk t).view.read (Elt Ideal) X : Vec Ideal S512x4096 .bf16) (ix2 r d) = X (ix2 R d) := by
  have e := (idx t).1
  blk_simp [e]
  blk_ext [e]
theorem read_b (X : FVec Ideal S4096x6912 .bf16) (d : Fin 4096) (j : Fin 768) (J : Fin 6912) (hJ : J.val = 768 * (t.val % 9) + j.val) :
    (((cfg0.win 1).blk t).view.read (Elt Ideal) X : Vec Ideal S4096x768 .bf16) (ix2 d j) = X (ix2 d J) := by
  have e := (idx t).2.1
  blk_simp [e]
  blk_ext [e]
end

/-- The weights as the call takes them: the columns in the call's order, then 96 zero columns. -/
def packed (w : FVec Ideal S4096x6816 .f32) : FVec Ideal S4096x6912 .bf16 :=
  pad S4096x6912 ![0, 0] ![0, 96] ![0, 0] (truncf .bf16 (concatenate S4096x6816 1 [⟨S4096x2048, (extractStridedSlice S4096x2048 ![0, 1600] w slices_S4096x6816_S4096x2048_0_1600 : FVec Ideal S4096x2048 .f32)⟩, ⟨S4096x2048, (extractStridedSlice S4096x2048 ![0, 4672] w slices_S4096x6816_S4096x2048_0_4672 : FVec Ideal S4096x2048 .f32)⟩, ⟨S4096x1024, (extractStridedSlice S4096x1024 ![0, 0] w slices_S4096x6816_S4096x1024_0_0 : FVec Ideal S4096x1024 .f32)⟩, ⟨S4096x512, (extractStridedSlice S4096x512 ![0, 1024] w slices_S4096x6816_S4096x512_0_1024 : FVec Ideal S4096x512 .f32)⟩, ⟨S4096x512, (extractStridedSlice S4096x512 ![0, 3648] w slices_S4096x6816_S4096x512_0_3648 : FVec Ideal S4096x512 .f32)⟩, ⟨S4096x512, (extractStridedSlice S4096x512 ![0, 4160] w slices_S4096x6816_S4096x512_0_4160 : FVec Ideal S4096x512 .f32)⟩, ⟨S4096x64, (extractStridedSlice S4096x64 ![0, 1536] w slices_S4096x6816_S4096x64_0_1536 : FVec Ideal S4096x64 .f32)⟩, ⟨S4096x64, (extractStridedSlice S4096x64 ![0, 6720] w slices_S4096x6816_S4096x64_0_6720 : FVec Ideal S4096x64 .f32)⟩, ⟨S4096x32, (extractStridedSlice S4096x32 ![0, 6784] w slices_S4096x6816_S4096x32_0_6784 : FVec Ideal S4096x32 .f32)⟩] concatenates_S4096x2048_S4096x2048_S4096x1024_S4096x512_S4096x512_S4096x512_S4096x64_S4096x64_S4096x32_S4096x6816_d1 : FVec Ideal S4096x6816 .f32) bitsLt_bf16_f32 : FVec Ideal S4096x6816 .bf16)
    (sitofp .bf16 (constantI S_ 32 0#32) : FVec Ideal S_ .bf16) pads_S4096x6816_S4096x6912_000_0960 h_S_

theorem packed_in (w : FVec Ideal S4096x6816 .f32) (d : Fin 4096) (J : Fin 6912) (h : J.val < 6816) :
    (packed w (ix2 d J) : EReal) = w (ix2 d (src ⟨J.val, h⟩)) := by
  refine Eq.trans ?_ (order_w w d ⟨J.val, h⟩)
  unfold packed
  generalize (concatenate S4096x6816 1 [⟨S4096x2048, (extractStridedSlice S4096x2048 ![0, 1600] w slices_S4096x6816_S4096x2048_0_1600 : FVec Ideal S4096x2048 .f32)⟩, ⟨S4096x2048, (extractStridedSlice S4096x2048 ![0, 4672] w slices_S4096x6816_S4096x2048_0_4672 : FVec Ideal S4096x2048 .f32)⟩, ⟨S4096x1024, (extractStridedSlice S4096x1024 ![0, 0] w slices_S4096x6816_S4096x1024_0_0 : FVec Ideal S4096x1024 .f32)⟩, ⟨S4096x512, (extractStridedSlice S4096x512 ![0, 1024] w slices_S4096x6816_S4096x512_0_1024 : FVec Ideal S4096x512 .f32)⟩, ⟨S4096x512, (extractStridedSlice S4096x512 ![0, 3648] w slices_S4096x6816_S4096x512_0_3648 : FVec Ideal S4096x512 .f32)⟩, ⟨S4096x512, (extractStridedSlice S4096x512 ![0, 4160] w slices_S4096x6816_S4096x512_0_4160 : FVec Ideal S4096x512 .f32)⟩, ⟨S4096x64, (extractStridedSlice S4096x64 ![0, 1536] w slices_S4096x6816_S4096x64_0_1536 : FVec Ideal S4096x64 .f32)⟩, ⟨S4096x64, (extractStridedSlice S4096x64 ![0, 6720] w slices_S4096x6816_S4096x64_0_6720 : FVec Ideal S4096x64 .f32)⟩, ⟨S4096x32, (extractStridedSlice S4096x32 ![0, 6784] w slices_S4096x6816_S4096x32_0_6784 : FVec Ideal S4096x32 .f32)⟩] concatenates_S4096x2048_S4096x2048_S4096x1024_S4096x512_S4096x512_S4096x512_S4096x64_S4096x64_S4096x32_S4096x6816_d1 : FVec Ideal S4096x6816 .f32) = X
  pointwise
  rw [dif_pos h]

theorem packed_out (w : FVec Ideal S4096x6816 .f32) (d : Fin 4096) (J : Fin 6912) (h : ¬J.val < 6816) :
    (packed w (ix2 d J) : EReal) = 0 := by
  unfold packed
  generalize (concatenate S4096x6816 1 [⟨S4096x2048, (extractStridedSlice S4096x2048 ![0, 1600] w slices_S4096x6816_S4096x2048_0_1600 : FVec Ideal S4096x2048 .f32)⟩, ⟨S4096x2048, (extractStridedSlice S4096x2048 ![0, 4672] w slices_S4096x6816_S4096x2048_0_4672 : FVec Ideal S4096x2048 .f32)⟩, ⟨S4096x1024, (extractStridedSlice S4096x1024 ![0, 0] w slices_S4096x6816_S4096x1024_0_0 : FVec Ideal S4096x1024 .f32)⟩, ⟨S4096x512, (extractStridedSlice S4096x512 ![0, 1024] w slices_S4096x6816_S4096x512_0_1024 : FVec Ideal S4096x512 .f32)⟩, ⟨S4096x512, (extractStridedSlice S4096x512 ![0, 3648] w slices_S4096x6816_S4096x512_0_3648 : FVec Ideal S4096x512 .f32)⟩, ⟨S4096x512, (extractStridedSlice S4096x512 ![0, 4160] w slices_S4096x6816_S4096x512_0_4160 : FVec Ideal S4096x512 .f32)⟩, ⟨S4096x64, (extractStridedSlice S4096x64 ![0, 1536] w slices_S4096x6816_S4096x64_0_1536 : FVec Ideal S4096x64 .f32)⟩, ⟨S4096x64, (extractStridedSlice S4096x64 ![0, 6720] w slices_S4096x6816_S4096x64_0_6720 : FVec Ideal S4096x64 .f32)⟩, ⟨S4096x32, (extractStridedSlice S4096x32 ![0, 6784] w slices_S4096x6816_S4096x32_0_6784 : FVec Ideal S4096x32 .f32)⟩] concatenates_S4096x2048_S4096x2048_S4096x1024_S4096x512_S4096x512_S4096x512_S4096x64_S4096x64_S4096x32_S4096x6816_d1 : FVec Ideal S4096x6816 .f32) = X
  pointwise
  rw [dif_neg h]
  show (((0#32 : BitVec 32).toInt : ℝ) : EReal) = 0
  simp

/-- The whole product, its columns reordered, then 96 zero columns. -/
def product (h : FVec Ideal S16896x4096 .bf16) (w : FVec Ideal S4096x6816 .f32) : FVec Ideal S16896x6912 .f32 :=
  fun i => if q : (i 1).val < 6816 then ∑ d : Fin 4096, (h (ix2 (i 0) d) : EReal) * w (ix2 d (src ⟨(i 1).val, q⟩)) else 0

theorem tile_eq (a : Vec Ideal S512x4096 .bf16) (b : Vec Ideal S4096x768 .bf16) (h : FVec Ideal S16896x4096 .bf16) (w : FVec Ideal S4096x6816 .f32)
    (r : Fin 512) (j : Fin 768) (R : Fin 16896) (J : Fin 6912) (ha : ∀ d : Fin 4096, a (ix2 r d) = h (ix2 R d)) (hb : ∀ d : Fin 4096, b (ix2 d j) = packed w (ix2 d J)) :
    (out0_2 a b (ix2 r j) : EReal) = product h w (ix2 R J) := by
  rw [tile_apply]
  have e : ∑ d : Fin 4096, (a (ix2 r d) : EReal) * b (ix2 d j) = ∑ d : Fin 4096, (h (ix2 R d) : EReal) * packed w (ix2 d J) :=
    Finset.sum_congr rfl fun d _ => congrArg₂ (fun a b : EReal => a * b) (ha d) (hb d)
  refine e.trans ?_
  unfold product
  by_cases q : J.val < 6816
  · rw [dif_pos (show ((ix2 R J : S16896x6912.Idx) 1).val < 6816 from q)]
    exact Finset.sum_congr rfl fun d _ => congrArg (fun b : EReal => _ * b) (packed_in _ d J q)
  · rw [dif_neg (show ¬((ix2 R J : S16896x6912.Idx) 1).val < 6816 from q)]
    refine Finset.sum_eq_zero fun d _ => ?_
    rw [packed_out _ d J q, mul_zero]

variable (m : (ℓ : Loc nD τ sig) → Buf (Elt Ideal) ℓ) (c : Dev nD)

theorem V_w : V m c main_v11 = packed (m ((c : Thread nD τ).loc main_arg1)) := by
  show StableHlo.after (List.flatten [hostOps0, hostOps0_1]) _ (Proc.devRef .tc main_v11) = _
  simp only [hostOps0, hostOps0_1, List.flatten_cons, List.flatten_nil, List.append_nil, List.cons_append, List.nil_append]
  after_reads_simp
  rfl

theorem out_at (t : Fin cfg0.N) (r : Fin 512) (j : Fin 768) (R : Fin 16896) (J : Fin 6912) (hR : R.val = 512 * (t.val / 9) + r.val) (hJ : J.val = 768 * (t.val % 9) + j.val) :
    (out0_2 (iblk m c 0 t) (iblk m c 1 t) (ix2 r j) : EReal) = product (m ((c : Thread nD τ).loc main_arg0)) (m ((c : Thread nD τ).loc main_arg1)) (ix2 R J) := by
  refine tile_eq _ _ _ _ r j R J (fun d => ?_) fun d => ?_
  · show (((cfg0.win 0).blk t).view.read (Elt Ideal) (V m c main_arg0) : Vec Ideal S512x4096 .bf16) (ix2 r d) = _
    rw [V_main_arg0 m c]
    exact read_a t _ r d R hR
  · show (((cfg0.win 1).blk t).view.read (Elt Ideal) (V m c main_v11) : Vec Ideal S4096x768 .bf16) (ix2 d j) = _
    rw [V_w m c]
    exact read_b t _ d j J hJ

/-- The result array after the run is the whole product. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have e := (idx t).2.2
  generalize hG : product (m ((c : Thread nD τ).loc main_arg0)) (m ((c : Thread nD τ).loc main_arg1)) = G
  have key := fun r j R J hR hJ => (out_at m c t r j R J hR hJ).trans (congrFun hG _)
  blk_simp
  rw [after0_2]
  have e0 : ((win0_2.blk t).view.emb y 0 : ℕ) = 512 * (t.val / 9) + (y 0 : ℕ) := by
    blk_simp [e]
    exact congrArg (· + (y 0 : ℕ)) (Nat.mul_comm _ _)
  have e1 : ((win0_2.blk t).view.emb y 1 : ℕ) = 768 * (t.val % 9) + (y 1 : ℕ) := by
    blk_simp [e]
    exact congrArg (· + (y 1 : ℕ)) (Nat.mul_comm _ _)
  have k := key (y 0) (y 1) ((win0_2.blk t).view.emb y 0) ((win0_2.blk t).view.emb y 1) e0 e1
  exact (congrArg (out0_2 (iblk m c 0 t) (iblk m c 1 t)) (eq_ix2 y)).trans (k.trans (congrArg G (eq_ix2 ((win0_2.blk t).view.emb y)).symm))

end Cert.OddInIdeal.Proj

namespace Cert.OddInReferenceIdeal.Proj

open Cert.OddInReferenceIdeal Cert.OddInReferenceIdeal.Gen
open Idealize.ShloMosaic Idealize.ShloMosaic.TcCoe Idealize.SL.Sem
open Cert.OddInIdeal.Proj (src)

/-- The reference's columns, in the call's order, then 96 zero columns. -/
def layout (Y : FVec Ideal S16896x6816 .f32) : FVec Ideal S16896x6912 .f32 :=
  concatenate S16896x6912 1 [⟨S16896x6816, (concatenate S16896x6816 1 [⟨S16896x2048, (extractStridedSlice S16896x2048 ![0, 1600] Y slices_S16896x6816_S16896x2048_0_1600 : FVec Ideal S16896x2048 .f32)⟩, ⟨S16896x2048, (extractStridedSlice S16896x2048 ![0, 4672] Y slices_S16896x6816_S16896x2048_0_4672 : FVec Ideal S16896x2048 .f32)⟩, ⟨S16896x1024, (extractStridedSlice S16896x1024 ![0, 0] Y slices_S16896x6816_S16896x1024_0_0 : FVec Ideal S16896x1024 .f32)⟩, ⟨S16896x512, (extractStridedSlice S16896x512 ![0, 1024] Y slices_S16896x6816_S16896x512_0_1024 : FVec Ideal S16896x512 .f32)⟩, ⟨S16896x512, (extractStridedSlice S16896x512 ![0, 3648] Y slices_S16896x6816_S16896x512_0_3648 : FVec Ideal S16896x512 .f32)⟩, ⟨S16896x512, (extractStridedSlice S16896x512 ![0, 4160] Y slices_S16896x6816_S16896x512_0_4160 : FVec Ideal S16896x512 .f32)⟩, ⟨S16896x64, (extractStridedSlice S16896x64 ![0, 1536] Y slices_S16896x6816_S16896x64_0_1536 : FVec Ideal S16896x64 .f32)⟩, ⟨S16896x64, (extractStridedSlice S16896x64 ![0, 6720] Y slices_S16896x6816_S16896x64_0_6720 : FVec Ideal S16896x64 .f32)⟩, ⟨S16896x32, (extractStridedSlice S16896x32 ![0, 6784] Y slices_S16896x6816_S16896x32_0_6784 : FVec Ideal S16896x32 .f32)⟩] concatenates_S16896x2048_S16896x2048_S16896x1024_S16896x512_S16896x512_S16896x512_S16896x64_S16896x64_S16896x32_S16896x6816_d1 : FVec Ideal S16896x6816 .f32)⟩,
    ⟨S16896x96, (broadcastInDim S16896x96 ![] bcast_S_S16896x96 (constant S_ .f32 0x00000000#32) : FVec Ideal S16896x96 .f32)⟩] concatenates_S16896x6816_S16896x96_S16896x6912_d1

theorem layout_in (Y : FVec Ideal S16896x6816 .f32) (R : Fin 16896) (J : Fin 6912) (h : J.val < 6816) :
    (layout Y (ix2 R J) : EReal) = Y (ix2 R (src ⟨J.val, h⟩)) := by
  refine Eq.trans ?_ (order_y Y R ⟨J.val, h⟩)
  unfold layout
  generalize (concatenate S16896x6816 1 [⟨S16896x2048, (extractStridedSlice S16896x2048 ![0, 1600] Y slices_S16896x6816_S16896x2048_0_1600 : FVec Ideal S16896x2048 .f32)⟩, ⟨S16896x2048, (extractStridedSlice S16896x2048 ![0, 4672] Y slices_S16896x6816_S16896x2048_0_4672 : FVec Ideal S16896x2048 .f32)⟩, ⟨S16896x1024, (extractStridedSlice S16896x1024 ![0, 0] Y slices_S16896x6816_S16896x1024_0_0 : FVec Ideal S16896x1024 .f32)⟩, ⟨S16896x512, (extractStridedSlice S16896x512 ![0, 1024] Y slices_S16896x6816_S16896x512_0_1024 : FVec Ideal S16896x512 .f32)⟩, ⟨S16896x512, (extractStridedSlice S16896x512 ![0, 3648] Y slices_S16896x6816_S16896x512_0_3648 : FVec Ideal S16896x512 .f32)⟩, ⟨S16896x512, (extractStridedSlice S16896x512 ![0, 4160] Y slices_S16896x6816_S16896x512_0_4160 : FVec Ideal S16896x512 .f32)⟩, ⟨S16896x64, (extractStridedSlice S16896x64 ![0, 1536] Y slices_S16896x6816_S16896x64_0_1536 : FVec Ideal S16896x64 .f32)⟩, ⟨S16896x64, (extractStridedSlice S16896x64 ![0, 6720] Y slices_S16896x6816_S16896x64_0_6720 : FVec Ideal S16896x64 .f32)⟩, ⟨S16896x32, (extractStridedSlice S16896x32 ![0, 6784] Y slices_S16896x6816_S16896x32_0_6784 : FVec Ideal S16896x32 .f32)⟩] concatenates_S16896x2048_S16896x2048_S16896x1024_S16896x512_S16896x512_S16896x512_S16896x64_S16896x64_S16896x32_S16896x6816_d1 : FVec Ideal S16896x6816 .f32) = X
  pointwise
  rw [dif_pos h]

theorem layout_out (Y : FVec Ideal S16896x6816 .f32) (R : Fin 16896) (J : Fin 6912) (h : ¬J.val < 6816) :
    (layout Y (ix2 R J) : EReal) = 0 := by
  unfold layout
  generalize (concatenate S16896x6816 1 [⟨S16896x2048, (extractStridedSlice S16896x2048 ![0, 1600] Y slices_S16896x6816_S16896x2048_0_1600 : FVec Ideal S16896x2048 .f32)⟩, ⟨S16896x2048, (extractStridedSlice S16896x2048 ![0, 4672] Y slices_S16896x6816_S16896x2048_0_4672 : FVec Ideal S16896x2048 .f32)⟩, ⟨S16896x1024, (extractStridedSlice S16896x1024 ![0, 0] Y slices_S16896x6816_S16896x1024_0_0 : FVec Ideal S16896x1024 .f32)⟩, ⟨S16896x512, (extractStridedSlice S16896x512 ![0, 1024] Y slices_S16896x6816_S16896x512_0_1024 : FVec Ideal S16896x512 .f32)⟩, ⟨S16896x512, (extractStridedSlice S16896x512 ![0, 3648] Y slices_S16896x6816_S16896x512_0_3648 : FVec Ideal S16896x512 .f32)⟩, ⟨S16896x512, (extractStridedSlice S16896x512 ![0, 4160] Y slices_S16896x6816_S16896x512_0_4160 : FVec Ideal S16896x512 .f32)⟩, ⟨S16896x64, (extractStridedSlice S16896x64 ![0, 1536] Y slices_S16896x6816_S16896x64_0_1536 : FVec Ideal S16896x64 .f32)⟩, ⟨S16896x64, (extractStridedSlice S16896x64 ![0, 6720] Y slices_S16896x6816_S16896x64_0_6720 : FVec Ideal S16896x64 .f32)⟩, ⟨S16896x32, (extractStridedSlice S16896x32 ![0, 6784] Y slices_S16896x6816_S16896x32_0_6784 : FVec Ideal S16896x32 .f32)⟩] concatenates_S16896x2048_S16896x2048_S16896x1024_S16896x512_S16896x512_S16896x512_S16896x64_S16896x64_S16896x32_S16896x6816_d1 : FVec Ideal S16896x6816 .f32) = X
  pointwise
  rw [dif_neg h]

/-- The reference's result is the reordered, padded product too. -/
theorem reference_eq (h : FVec Ideal S16896x4096 .bf16) (w : FVec Ideal S4096x6816 .f32) :
    layout (Host.dotGeneral dot_S16896x4096_S4096x6816_S16896x6816_1_0_0_1_n_n none (extf .f32 h bitsLt_bf16_f32 : FVec Ideal S16896x4096 .f32) w) = Cert.OddInIdeal.Proj.product h w := by
  funext i
  obtain ⟨R, J, rfl⟩ : ∃ (R : Fin 16896) (J : Fin 6912), i = ix2 R J := ⟨i 0, i 1, eq_ix2 i⟩
  unfold Cert.OddInIdeal.Proj.product
  by_cases q : J.val < 6816
  · rw [dif_pos (show ((ix2 R J : S16896x6912.Idx) 1).val < 6816 from q)]
    refine (layout_in _ R J q).trans ?_
    show _ = ∑ d : Fin 4096, (h (ix2 R d) : EReal) * w (ix2 d (src ⟨J.val, q⟩))
    generalize src ⟨J.val, q⟩ = s
    pointwise
  · rw [dif_neg (show ¬((ix2 R J : S16896x6912.Idx) 1).val < 6816 from q)]
    exact layout_out _ R J q

end Cert.OddInReferenceIdeal.Proj

end
-- ==== Proof.OddNew.lean ====
/- An odd layer's input projection and what the layer adds to the caches beside the rotary keys. -/
module

public import proofs.«01_k».proof.Proof.OddIn

@[expose] public section

set_option maxRecDepth 16384

noncomputable section

namespace Cert.OddInReferenceIdeal.Proj

open Cert.OddInReferenceIdeal Cert.OddInReferenceIdeal.Gen
open Idealize.ShloMosaic Idealize.ShloMosaic.TcCoe Idealize.SL.Sem

/-- The projection, its columns in the order of the weights. -/
def projection (h : FVec Ideal S16896x4096 .bf16) (w : FVec Ideal S4096x6816 .f32) : FVec Ideal S16896x6816 .f32 :=
  Host.dotGeneral dot_S16896x4096_S4096x6816_S16896x6816_1_0_0_1_n_n none (extf .f32 h bitsLt_bf16_f32 : FVec Ideal S16896x4096 .f32) w

/-- Its rows as the prompts' and as the samples' tokens. -/
def prompts (Y : FVec Ideal S16896x6816 .f32) : FVec Ideal S2x8192x6816 .f32 := shapeCast S2x8192x6816 (extractStridedSlice S16384x6816 ![0, 0] Y slices_S16896x6816_S16384x6816_0_0 : FVec Ideal S16384x6816 .f32) shapeCasts_S16384x6816_S2x8192x6816
def samples (Y : FVec Ideal S16896x6816 .f32) : FVec Ideal S16x32x6816 .f32 := shapeCast S16x32x6816 (extractStridedSlice S512x6816 ![16384, 0] Y slices_S16896x6816_S512x6816_16384_0 : FVec Ideal S512x6816 .f32) shapeCasts_S512x6816_S16x32x6816

/-- The latents: the second latent columns normed over the row and scaled. -/
def promptLatents (g : FVec Ideal S512 .f32) (x : FVec Ideal S2x8192x512 .f32) : FVec Ideal S2x8192x512 .f32 :=
  mulf (mulf x (broadcastInDim S2x8192x512 ![0, 1, 2] bcast_S2x8192x1_S2x8192x512_0_1_2 (Host.rsqrt (addf (Host.divf (broadcastInDim S2x8192x1 ![0, 1] bcast_S2x8192_S2x8192x1_0_1 (Host.reduceAdd (mulf x x) (constant S_ .f32 0x00000000#32) reducesTo_S2x8192x512_S2x8192_d2 h_S_)) (broadcastInDim S2x8192x1 ![] bcast_S_S2x8192x1 (constant S_ .f32 0x44000000#32))) (broadcastInDim S2x8192x1 ![] bcast_S_S2x8192x1 (constant S_ .f32 0x358637BD#32)))))) (broadcastInDim S2x8192x512 ![0, 1, 2] bcast_S1x1x512_S2x8192x512_0_1_2 (broadcastInDim S1x1x512 ![2] bcast_S512_S1x1x512_2 g))
def sampleLatents (g : FVec Ideal S512 .f32) (x : FVec Ideal S16x32x512 .f32) : FVec Ideal S16x32x512 .f32 :=
  mulf (mulf x (broadcastInDim S16x32x512 ![0, 1, 2] bcast_S16x32x1_S16x32x512_0_1_2 (Host.rsqrt (addf (Host.divf (broadcastInDim S16x32x1 ![0, 1] bcast_S16x32_S16x32x1_0_1 (Host.reduceAdd (mulf x x) (constant S_ .f32 0x00000000#32) reducesTo_S16x32x512_S16x32_d2 h_S_)) (broadcastInDim S16x32x1 ![] bcast_S_S16x32x1 (constant S_ .f32 0x44000000#32))) (broadcastInDim S16x32x1 ![] bcast_S_S16x32x1 (constant S_ .f32 0x358637BD#32)))))) (broadcastInDim S16x32x512 ![0, 1, 2] bcast_S1x1x512_S16x32x512_0_1_2 (broadcastInDim S1x1x512 ![2] bcast_S512_S1x1x512_2 g))

/-- A row's columns as eight heads. -/
def promptHeads (x : FVec Ideal S2x8192x512 .f32) : FVec Ideal S2x8192x8x64 .f32 := shapeCast S2x8192x8x64 x shapeCasts_S2x8192x512_S2x8192x8x64
def sampleHeads (x : FVec Ideal S16x32x512 .f32) : FVec Ideal S16x32x8x64 .f32 := shapeCast S16x32x8x64 x shapeCasts_S16x32x512_S16x32x8x64

/-! The columns that the caches keep. -/

section
variable (Y : FVec Ideal S16896x6816 .f32)
def latentP : FVec Ideal S2x8192x512 .f32 := extractStridedSlice S2x8192x512 ![0, 0, 1024] (prompts Y) slices_S2x8192x6816_S2x8192x512_0_0_1024
def latentS : FVec Ideal S16x32x512 .f32 := extractStridedSlice S16x32x512 ![0, 0, 1024] (samples Y) slices_S16x32x6816_S16x32x512_0_0_1024
def keyP : FVec Ideal S2x8192x512 .f32 := extractStridedSlice S2x8192x512 ![0, 0, 3648] (prompts Y) slices_S2x8192x6816_S2x8192x512_0_0_3648
def keyS : FVec Ideal S16x32x512 .f32 := extractStridedSlice S16x32x512 ![0, 0, 3648] (samples Y) slices_S16x32x6816_S16x32x512_0_0_3648
def valueP : FVec Ideal S2x8192x512 .f32 := extractStridedSlice S2x8192x512 ![0, 0, 4160] (prompts Y) slices_S2x8192x6816_S2x8192x512_0_0_4160
def valueS : FVec Ideal S16x32x512 .f32 := extractStridedSlice S16x32x512 ![0, 0, 4160] (samples Y) slices_S16x32x6816_S16x32x512_0_0_4160
def indexP : FVec Ideal S2x8192x64 .f32 := extractStridedSlice S2x8192x64 ![0, 0, 6720] (prompts Y) slices_S2x8192x6816_S2x8192x64_0_0_6720
def indexS : FVec Ideal S16x32x64 .f32 := extractStridedSlice S16x32x64 ![0, 0, 6720] (samples Y) slices_S16x32x6816_S16x32x64_0_0_6720
end

end Cert.OddInReferenceIdeal.Proj

namespace Cert.OddInIdeal.Proj

open Cert.OddInIdeal Cert.OddInIdeal.Gen
open Idealize.ShloMosaic Idealize.ShloMosaic.TcCoe Idealize.SL.Sem
open Cert.OddInReferenceIdeal.Proj

/-! The kernel cuts its reordered columns first, the reference the tokens. -/

section
variable (Y : FVec Ideal Cert.OddInReferenceIdeal.S16896x6816 .f32)

theorem latentP_eq : (shapeCast S2x8192x512 (extractStridedSlice S16384x512 ![0, 5120] (layout Y : FVec Ideal S16896x6912 .f32) slices_S16896x6912_S16384x512_0_5120 : FVec Ideal S16384x512 .f32) shapeCasts_S16384x512_S2x8192x512 : FVec Ideal S2x8192x512 .f32) = latentP Y := by
  funext i
  rw [eq_ix3 i]
  generalize (i 0 : Fin 2) = b, (i 1 : Fin 8192) = t, (i 2 : Fin 512) = j
  have hb : b.val < 2 := b.isLt
  have ht : t.val < 8192 := t.isLt
  have hj : j.val < 512 := j.isLt
  have hR : b.val * 8192 + t.val < 16896 := by omega
  have hJ : 5120 + j.val < 6816 := by omega
  refine Eq.trans (b := layout Y (ix2 ⟨b.val * 8192 + t.val, hR⟩ ⟨5120 + j.val, by omega⟩)) ?_ ?_
  · generalize layout Y = Z
    pointwise
  · refine (layout_in Y _ _ hJ).trans ((at_src Y _ ⟨5120 + j.val, hJ⟩ (1024 + j.val) (by omega) ?_).symm.trans ?_)
    · show _ = srcN (5120 + j.val)
      unfold srcN
      split_ifs <;> omega
    · symm
      pointwise [latentP, prompts]

theorem latentS_eq : (shapeCast S16x32x512 (extractStridedSlice S512x512 ![16384, 5120] (layout Y : FVec Ideal S16896x6912 .f32) slices_S16896x6912_S512x512_16384_5120 : FVec Ideal S512x512 .f32) shapeCasts_S512x512_S16x32x512 : FVec Ideal S16x32x512 .f32) = latentS Y := by
  funext i
  rw [eq_ix3 i]
  generalize (i 0 : Fin 16) = b, (i 1 : Fin 32) = t, (i 2 : Fin 512) = j
  have hb : b.val < 16 := b.isLt
  have ht : t.val < 32 := t.isLt
  have hj : j.val < 512 := j.isLt
  have hR : 16384 + (b.val * 32 + t.val) < 16896 := by omega
  have hJ : 5120 + j.val < 6816 := by omega
  refine Eq.trans (b := layout Y (ix2 ⟨16384 + (b.val * 32 + t.val), hR⟩ ⟨5120 + j.val, by omega⟩)) ?_ ?_
  · generalize layout Y = Z
    pointwise
  · refine (layout_in Y _ _ hJ).trans ((at_src Y _ ⟨5120 + j.val, hJ⟩ (1024 + j.val) (by omega) ?_).symm.trans ?_)
    · show _ = srcN (5120 + j.val)
      unfold srcN
      split_ifs <;> omega
    · symm
      pointwise [latentS, samples]

theorem keyP_eq : (shapeCast S2x8192x512 (extractStridedSlice S16384x512 ![0, 5632] (layout Y : FVec Ideal S16896x6912 .f32) slices_S16896x6912_S16384x512_0_5632 : FVec Ideal S16384x512 .f32) shapeCasts_S16384x512_S2x8192x512 : FVec Ideal S2x8192x512 .f32) = keyP Y := by
  funext i
  rw [eq_ix3 i]
  generalize (i 0 : Fin 2) = b, (i 1 : Fin 8192) = t, (i 2 : Fin 512) = j
  have hb : b.val < 2 := b.isLt
  have ht : t.val < 8192 := t.isLt
  have hj : j.val < 512 := j.isLt
  have hR : b.val * 8192 + t.val < 16896 := by omega
  have hJ : 5632 + j.val < 6816 := by omega
  refine Eq.trans (b := layout Y (ix2 ⟨b.val * 8192 + t.val, hR⟩ ⟨5632 + j.val, by omega⟩)) ?_ ?_
  · generalize layout Y = Z
    pointwise
  · refine (layout_in Y _ _ hJ).trans ((at_src Y _ ⟨5632 + j.val, hJ⟩ (3648 + j.val) (by omega) ?_).symm.trans ?_)
    · show _ = srcN (5632 + j.val)
      unfold srcN
      split_ifs <;> omega
    · symm
      pointwise [keyP, prompts]

theorem keyS_eq : (shapeCast S16x32x512 (extractStridedSlice S512x512 ![16384, 5632] (layout Y : FVec Ideal S16896x6912 .f32) slices_S16896x6912_S512x512_16384_5632 : FVec Ideal S512x512 .f32) shapeCasts_S512x512_S16x32x512 : FVec Ideal S16x32x512 .f32) = keyS Y := by
  funext i
  rw [eq_ix3 i]
  generalize (i 0 : Fin 16) = b, (i 1 : Fin 32) = t, (i 2 : Fin 512) = j
  have hb : b.val < 16 := b.isLt
  have ht : t.val < 32 := t.isLt
  have hj : j.val < 512 := j.isLt
  have hR : 16384 + (b.val * 32 + t.val) < 16896 := by omega
  have hJ : 5632 + j.val < 6816 := by omega
  refine Eq.trans (b := layout Y (ix2 ⟨16384 + (b.val * 32 + t.val), hR⟩ ⟨5632 + j.val, by omega⟩)) ?_ ?_
  · generalize layout Y = Z
    pointwise
  · refine (layout_in Y _ _ hJ).trans ((at_src Y _ ⟨5632 + j.val, hJ⟩ (3648 + j.val) (by omega) ?_).symm.trans ?_)
    · show _ = srcN (5632 + j.val)
      unfold srcN
      split_ifs <;> omega
    · symm
      pointwise [keyS, samples]

theorem valueP_eq : (shapeCast S2x8192x512 (extractStridedSlice S16384x512 ![0, 6144] (layout Y : FVec Ideal S16896x6912 .f32) slices_S16896x6912_S16384x512_0_6144 : FVec Ideal S16384x512 .f32) shapeCasts_S16384x512_S2x8192x512 : FVec Ideal S2x8192x512 .f32) = valueP Y := by
  funext i
  rw [eq_ix3 i]
  generalize (i 0 : Fin 2) = b, (i 1 : Fin 8192) = t, (i 2 : Fin 512) = j
  have hb : b.val < 2 := b.isLt
  have ht : t.val < 8192 := t.isLt
  have hj : j.val < 512 := j.isLt
  have hR : b.val * 8192 + t.val < 16896 := by omega
  have hJ : 6144 + j.val < 6816 := by omega
  refine Eq.trans (b := layout Y (ix2 ⟨b.val * 8192 + t.val, hR⟩ ⟨6144 + j.val, by omega⟩)) ?_ ?_
  · generalize layout Y = Z
    pointwise
  · refine (layout_in Y _ _ hJ).trans ((at_src Y _ ⟨6144 + j.val, hJ⟩ (4160 + j.val) (by omega) ?_).symm.trans ?_)
    · show _ = srcN (6144 + j.val)
      unfold srcN
      split_ifs <;> omega
    · symm
      pointwise [valueP, prompts]

theorem valueS_eq : (shapeCast S16x32x512 (extractStridedSlice S512x512 ![16384, 6144] (layout Y : FVec Ideal S16896x6912 .f32) slices_S16896x6912_S512x512_16384_6144 : FVec Ideal S512x512 .f32) shapeCasts_S512x512_S16x32x512 : FVec Ideal S16x32x512 .f32) = valueS Y := by
  funext i
  rw [eq_ix3 i]
  generalize (i 0 : Fin 16) = b, (i 1 : Fin 32) = t, (i 2 : Fin 512) = j
  have hb : b.val < 16 := b.isLt
  have ht : t.val < 32 := t.isLt
  have hj : j.val < 512 := j.isLt
  have hR : 16384 + (b.val * 32 + t.val) < 16896 := by omega
  have hJ : 6144 + j.val < 6816 := by omega
  refine Eq.trans (b := layout Y (ix2 ⟨16384 + (b.val * 32 + t.val), hR⟩ ⟨6144 + j.val, by omega⟩)) ?_ ?_
  · generalize layout Y = Z
    pointwise
  · refine (layout_in Y _ _ hJ).trans ((at_src Y _ ⟨6144 + j.val, hJ⟩ (4160 + j.val) (by omega) ?_).symm.trans ?_)
    · show _ = srcN (6144 + j.val)
      unfold srcN
      split_ifs <;> omega
    · symm
      pointwise [valueS, samples]

theorem indexP_eq : (shapeCast S2x8192x64 (extractStridedSlice S16384x64 ![0, 6720] (layout Y : FVec Ideal S16896x6912 .f32) slices_S16896x6912_S16384x64_0_6720 : FVec Ideal S16384x64 .f32) shapeCasts_S16384x64_S2x8192x64 : FVec Ideal S2x8192x64 .f32) = indexP Y := by
  funext i
  rw [eq_ix3 i]
  generalize (i 0 : Fin 2) = b, (i 1 : Fin 8192) = t, (i 2 : Fin 64) = j
  have hb : b.val < 2 := b.isLt
  have ht : t.val < 8192 := t.isLt
  have hj : j.val < 64 := j.isLt
  have hR : b.val * 8192 + t.val < 16896 := by omega
  have hJ : 6720 + j.val < 6816 := by omega
  refine Eq.trans (b := layout Y (ix2 ⟨b.val * 8192 + t.val, hR⟩ ⟨6720 + j.val, by omega⟩)) ?_ ?_
  · generalize layout Y = Z
    pointwise
  · refine (layout_in Y _ _ hJ).trans ((at_src Y _ ⟨6720 + j.val, hJ⟩ (6720 + j.val) (by omega) ?_).symm.trans ?_)
    · show _ = srcN (6720 + j.val)
      unfold srcN
      split_ifs <;> omega
    · symm
      pointwise [indexP, prompts]

theorem indexS_eq : (shapeCast S16x32x64 (extractStridedSlice S512x64 ![16384, 6720] (layout Y : FVec Ideal S16896x6912 .f32) slices_S16896x6912_S512x64_16384_6720 : FVec Ideal S512x64 .f32) shapeCasts_S512x64_S16x32x64 : FVec Ideal S16x32x64 .f32) = indexS Y := by
  funext i
  rw [eq_ix3 i]
  generalize (i 0 : Fin 16) = b, (i 1 : Fin 32) = t, (i 2 : Fin 64) = j
  have hb : b.val < 16 := b.isLt
  have ht : t.val < 32 := t.isLt
  have hj : j.val < 64 := j.isLt
  have hR : 16384 + (b.val * 32 + t.val) < 16896 := by omega
  have hJ : 6720 + j.val < 6816 := by omega
  refine Eq.trans (b := layout Y (ix2 ⟨16384 + (b.val * 32 + t.val), hR⟩ ⟨6720 + j.val, by omega⟩)) ?_ ?_
  · generalize layout Y = Z
    pointwise
  · refine (layout_in Y _ _ hJ).trans ((at_src Y _ ⟨6720 + j.val, hJ⟩ (6720 + j.val) (by omega) ?_).symm.trans ?_)
    · show _ = srcN (6720 + j.val)
      unfold srcN
      split_ifs <;> omega
    · symm
      pointwise [indexS, samples]
end

section
variable (X : Valuation τ sig (Elt Ideal)) (Y : FVec Ideal Cert.OddInReferenceIdeal.S16896x6816 .f32) (hz : X (Proc.devRef .tc main_v12) = layout Y)
include hz

theorem tail_promptLatents : StableHlo.after hostOps1 X (Proc.devRef .tc main_v43) = promptLatents (X (Proc.devRef .tc main_arg2)) (latentP Y) := by
  after_reads_simp
  rw [hz]
  exact congrArg (promptLatents _) (latentP_eq Y)

theorem tail_sampleLatents : StableHlo.after hostOps1 X (Proc.devRef .tc main_v76) = sampleLatents (X (Proc.devRef .tc main_arg2)) (latentS Y) := by
  after_reads_simp
  rw [hz]
  exact congrArg (sampleLatents _) (latentS_eq Y)

theorem tail_promptKeys : StableHlo.after hostOps1 X (Proc.devRef .tc main_v44) = promptHeads (keyP Y) := by
  after_reads_simp
  rw [hz]
  exact congrArg promptHeads (keyP_eq Y)

theorem tail_sampleKeys : StableHlo.after hostOps1 X (Proc.devRef .tc main_v77) = sampleHeads (keyS Y) := by
  after_reads_simp
  rw [hz]
  exact congrArg sampleHeads (keyS_eq Y)

theorem tail_promptValues : StableHlo.after hostOps1 X (Proc.devRef .tc main_v45) = promptHeads (valueP Y) := by
  after_reads_simp
  rw [hz]
  exact congrArg promptHeads (valueP_eq Y)

theorem tail_sampleValues : StableHlo.after hostOps1 X (Proc.devRef .tc main_v78) = sampleHeads (valueS Y) := by
  after_reads_simp
  rw [hz]
  exact congrArg sampleHeads (valueS_eq Y)

theorem tail_promptIndex : StableHlo.after hostOps1 X (Proc.devRef .tc main_v28) = indexP Y := by
  after_reads_simp
  rw [hz]
  exact indexP_eq Y

theorem tail_sampleIndex : StableHlo.after hostOps1 X (Proc.devRef .tc main_v61) = indexS Y := by
  after_reads_simp
  rw [hz]
  exact indexS_eq Y
end

variable (m : (ℓ : Loc nD τ sig) → Buf (Elt Ideal) ℓ) (c : Dev nD)

theorem final_layout : (dats m 0 c).arrAt 2 cfg0.N = layout (projection (m ((c.tc : Thread nD τ).loc main_arg0)) (m ((c.tc : Thread nD τ).loc main_arg1))) :=
  (final m c).trans (Cert.OddInReferenceIdeal.Proj.reference_eq _ _).symm

/-- The buffers after the region. -/
abbrev exit : Valuation τ sig (Elt Ideal) := Pipeline.withArrays spec0 c (V0 m c) fun w => (dats m 0 c).arrAt w cfg0.N

theorem exit_z : exit m c (Proc.devRef .tc main_v12) = layout (projection (m ((c.tc : Thread nD τ).loc main_arg0)) (m ((c.tc : Thread nD τ).loc main_arg1))) :=
  (Pipeline.withArrays_arr spec0 (by decide) c (V0 m c) (fun w => (dats m 0 c).arrAt w cfg0.N) 2).trans (final_layout m c)
theorem exit_arg2 : exit m c (Proc.devRef .tc main_arg2) = m ((c : Thread nD τ).loc main_arg2) :=
  (Pipeline.withArrays_of_ne spec0 c (V0 m c) _ main_arg2 (by exact (by decide : ∀ w, Pipeline.arrRef spec0 w ≠ main_arg2))).trans (V_main_arg2 m c)

theorem final_promptLatents : Pipeline.afterTail₀ cfgs (dats m) 0 (V0 m) [hostOps1] c main_v43 = promptLatents (m ((c.tc : Thread nD τ).loc main_arg2)) (latentP (projection (m ((c.tc : Thread nD τ).loc main_arg0)) (m ((c.tc : Thread nD τ).loc main_arg1)))) :=
  (tail_promptLatents (exit m c) _ (exit_z m c)).trans (congrArg (promptLatents · _) (exit_arg2 m c))

theorem final_sampleLatents : Pipeline.afterTail₀ cfgs (dats m) 0 (V0 m) [hostOps1] c main_v76 = sampleLatents (m ((c.tc : Thread nD τ).loc main_arg2)) (latentS (projection (m ((c.tc : Thread nD τ).loc main_arg0)) (m ((c.tc : Thread nD τ).loc main_arg1)))) :=
  (tail_sampleLatents (exit m c) _ (exit_z m c)).trans (congrArg (sampleLatents · _) (exit_arg2 m c))

theorem final_promptKeys : Pipeline.afterTail₀ cfgs (dats m) 0 (V0 m) [hostOps1] c main_v44 = promptHeads (keyP (projection (m ((c.tc : Thread nD τ).loc main_arg0)) (m ((c.tc : Thread nD τ).loc main_arg1)))) :=
  (tail_promptKeys (exit m c) _ (exit_z m c))

theorem final_sampleKeys : Pipeline.afterTail₀ cfgs (dats m) 0 (V0 m) [hostOps1] c main_v77 = sampleHeads (keyS (projection (m ((c.tc : Thread nD τ).loc main_arg0)) (m ((c.tc : Thread nD τ).loc main_arg1)))) :=
  (tail_sampleKeys (exit m c) _ (exit_z m c))

theorem final_promptValues : Pipeline.afterTail₀ cfgs (dats m) 0 (V0 m) [hostOps1] c main_v45 = promptHeads (valueP (projection (m ((c.tc : Thread nD τ).loc main_arg0)) (m ((c.tc : Thread nD τ).loc main_arg1)))) :=
  (tail_promptValues (exit m c) _ (exit_z m c))

theorem final_sampleValues : Pipeline.afterTail₀ cfgs (dats m) 0 (V0 m) [hostOps1] c main_v78 = sampleHeads (valueS (projection (m ((c.tc : Thread nD τ).loc main_arg0)) (m ((c.tc : Thread nD τ).loc main_arg1)))) :=
  (tail_sampleValues (exit m c) _ (exit_z m c))

theorem final_promptIndex : Pipeline.afterTail₀ cfgs (dats m) 0 (V0 m) [hostOps1] c main_v28 = indexP (projection (m ((c.tc : Thread nD τ).loc main_arg0)) (m ((c.tc : Thread nD τ).loc main_arg1))) :=
  (tail_promptIndex (exit m c) _ (exit_z m c))

theorem final_sampleIndex : Pipeline.afterTail₀ cfgs (dats m) 0 (V0 m) [hostOps1] c main_v61 = indexS (projection (m ((c.tc : Thread nD τ).loc main_arg0)) (m ((c.tc : Thread nD τ).loc main_arg1))) :=
  (tail_sampleIndex (exit m c) _ (exit_z m c))

/-- The run with every result named. -/
theorem run (ρ : Dev nD → PrngReg) : θ_run defs (onTc (τ := τ) (main (F := Ideal))) ⟨m, fun _ => 0, ρ⟩ fun r => ∀ c : Dev nD,
      r.2.mem ((c.tc : Thread nD τ).loc main_v12) = layout (projection (m ((c.tc : Thread nD τ).loc main_arg0)) (m ((c.tc : Thread nD τ).loc main_arg1)))
      ∧ r.2.mem ((c.tc : Thread nD τ).loc main_v43) = promptLatents (m ((c.tc : Thread nD τ).loc main_arg2)) (latentP (projection (m ((c.tc : Thread nD τ).loc main_arg0)) (m ((c.tc : Thread nD τ).loc main_arg1))))
      ∧ r.2.mem ((c.tc : Thread nD τ).loc main_v76) = sampleLatents (m ((c.tc : Thread nD τ).loc main_arg2)) (latentS (projection (m ((c.tc : Thread nD τ).loc main_arg0)) (m ((c.tc : Thread nD τ).loc main_arg1))))
      ∧ r.2.mem ((c.tc : Thread nD τ).loc main_v44) = promptHeads (keyP (projection (m ((c.tc : Thread nD τ).loc main_arg0)) (m ((c.tc : Thread nD τ).loc main_arg1))))
      ∧ r.2.mem ((c.tc : Thread nD τ).loc main_v77) = sampleHeads (keyS (projection (m ((c.tc : Thread nD τ).loc main_arg0)) (m ((c.tc : Thread nD τ).loc main_arg1))))
      ∧ r.2.mem ((c.tc : Thread nD τ).loc main_v45) = promptHeads (valueP (projection (m ((c.tc : Thread nD τ).loc main_arg0)) (m ((c.tc : Thread nD τ).loc main_arg1))))
      ∧ r.2.mem ((c.tc : Thread nD τ).loc main_v78) = sampleHeads (valueS (projection (m ((c.tc : Thread nD τ).loc main_arg0)) (m ((c.tc : Thread nD τ).loc main_arg1))))
      ∧ r.2.mem ((c.tc : Thread nD τ).loc main_v28) = indexP (projection (m ((c.tc : Thread nD τ).loc main_arg0)) (m ((c.tc : Thread nD τ).loc main_arg1)))
      ∧ r.2.mem ((c.tc : Thread nD τ).loc main_v61) = indexS (projection (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 2).trans (final_layout m c),
      ((h c).2 main_v43 (Pipeline.mem_restRefs_of main_v43 (by decide) (by decide))).trans (final_promptLatents m c),
      ((h c).2 main_v76 (Pipeline.mem_restRefs_of main_v76 (by decide) (by decide))).trans (final_sampleLatents m c),
      ((h c).2 main_v44 (Pipeline.mem_restRefs_of main_v44 (by decide) (by decide))).trans (final_promptKeys m c),
      ((h c).2 main_v77 (Pipeline.mem_restRefs_of main_v77 (by decide) (by decide))).trans (final_sampleKeys m c),
      ((h c).2 main_v45 (Pipeline.mem_restRefs_of main_v45 (by decide) (by decide))).trans (final_promptValues m c),
      ((h c).2 main_v78 (Pipeline.mem_restRefs_of main_v78 (by decide) (by decide))).trans (final_sampleValues m c),
      ((h c).2 main_v28 (Pipeline.mem_restRefs_of main_v28 (by decide) (by decide))).trans (final_promptIndex m c),
      ((h c).2 main_v61 (Pipeline.mem_restRefs_of main_v61 (by decide) (by decide))).trans (final_sampleIndex m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.OddInIdeal.Proj

namespace Cert.OddInReferenceIdeal.Proj

open Cert.OddInReferenceIdeal Cert.OddInReferenceIdeal.Gen
open Idealize.ShloMosaic Idealize.ShloMosaic.TcCoe Idealize.SL.Sem

/-- The frame: the reference declares no semaphore. -/
theorem frame_reference (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2.2.2.2.2.2.2.2.2, sem_eq_zero_of_no_sems (by decide) r.2⟩) (Cert.OddInReferenceIdeal.Value.run (F := Ideal) m ρ)

end Cert.OddInReferenceIdeal.Proj

namespace Cert.Proof

open Idealize.ShloMosaic Idealize.SL.Sem

theorem algebraic_odd : Cert.algebraic_OddInIdeal_OddInReferenceIdeal (hOddInIdeal := Cert.OddInIdeal.Gen.facts) (hOddInReferenceIdeal := Cert.OddInReferenceIdeal.Gen.facts) := by
  intro m g m' g' _ hargs
  refine ⟨fun c => Cert.OddInReferenceIdeal.Proj.layout (Cert.OddInReferenceIdeal.Proj.projection (m ((c.tc : Thread Cert.OddInIdeal.nD Cert.OddInIdeal.τ).loc Cert.OddInIdeal.main_arg0)) (m ((c.tc : Thread Cert.OddInIdeal.nD Cert.OddInIdeal.τ).loc Cert.OddInIdeal.main_arg1))),
    fun c => Cert.OddInReferenceIdeal.Proj.promptLatents (m ((c.tc : Thread Cert.OddInIdeal.nD Cert.OddInIdeal.τ).loc Cert.OddInIdeal.main_arg2)) (Cert.OddInReferenceIdeal.Proj.latentP (Cert.OddInReferenceIdeal.Proj.projection (m ((c.tc : Thread Cert.OddInIdeal.nD Cert.OddInIdeal.τ).loc Cert.OddInIdeal.main_arg0)) (m ((c.tc : Thread Cert.OddInIdeal.nD Cert.OddInIdeal.τ).loc Cert.OddInIdeal.main_arg1)))),
    fun c => Cert.OddInReferenceIdeal.Proj.sampleLatents (m ((c.tc : Thread Cert.OddInIdeal.nD Cert.OddInIdeal.τ).loc Cert.OddInIdeal.main_arg2)) (Cert.OddInReferenceIdeal.Proj.latentS (Cert.OddInReferenceIdeal.Proj.projection (m ((c.tc : Thread Cert.OddInIdeal.nD Cert.OddInIdeal.τ).loc Cert.OddInIdeal.main_arg0)) (m ((c.tc : Thread Cert.OddInIdeal.nD Cert.OddInIdeal.τ).loc Cert.OddInIdeal.main_arg1)))),
    fun c => Cert.OddInReferenceIdeal.Proj.promptHeads (Cert.OddInReferenceIdeal.Proj.keyP (Cert.OddInReferenceIdeal.Proj.projection (m ((c.tc : Thread Cert.OddInIdeal.nD Cert.OddInIdeal.τ).loc Cert.OddInIdeal.main_arg0)) (m ((c.tc : Thread Cert.OddInIdeal.nD Cert.OddInIdeal.τ).loc Cert.OddInIdeal.main_arg1)))),
    fun c => Cert.OddInReferenceIdeal.Proj.sampleHeads (Cert.OddInReferenceIdeal.Proj.keyS (Cert.OddInReferenceIdeal.Proj.projection (m ((c.tc : Thread Cert.OddInIdeal.nD Cert.OddInIdeal.τ).loc Cert.OddInIdeal.main_arg0)) (m ((c.tc : Thread Cert.OddInIdeal.nD Cert.OddInIdeal.τ).loc Cert.OddInIdeal.main_arg1)))),
    fun c => Cert.OddInReferenceIdeal.Proj.promptHeads (Cert.OddInReferenceIdeal.Proj.valueP (Cert.OddInReferenceIdeal.Proj.projection (m ((c.tc : Thread Cert.OddInIdeal.nD Cert.OddInIdeal.τ).loc Cert.OddInIdeal.main_arg0)) (m ((c.tc : Thread Cert.OddInIdeal.nD Cert.OddInIdeal.τ).loc Cert.OddInIdeal.main_arg1)))),
    fun c => Cert.OddInReferenceIdeal.Proj.sampleHeads (Cert.OddInReferenceIdeal.Proj.valueS (Cert.OddInReferenceIdeal.Proj.projection (m ((c.tc : Thread Cert.OddInIdeal.nD Cert.OddInIdeal.τ).loc Cert.OddInIdeal.main_arg0)) (m ((c.tc : Thread Cert.OddInIdeal.nD Cert.OddInIdeal.τ).loc Cert.OddInIdeal.main_arg1)))),
    fun c => Cert.OddInReferenceIdeal.Proj.indexP (Cert.OddInReferenceIdeal.Proj.projection (m ((c.tc : Thread Cert.OddInIdeal.nD Cert.OddInIdeal.τ).loc Cert.OddInIdeal.main_arg0)) (m ((c.tc : Thread Cert.OddInIdeal.nD Cert.OddInIdeal.τ).loc Cert.OddInIdeal.main_arg1))),
    fun c => Cert.OddInReferenceIdeal.Proj.indexS (Cert.OddInReferenceIdeal.Proj.projection (m ((c.tc : Thread Cert.OddInIdeal.nD Cert.OddInIdeal.τ).loc Cert.OddInIdeal.main_arg0)) (m ((c.tc : Thread Cert.OddInIdeal.nD Cert.OddInIdeal.τ).loc Cert.OddInIdeal.main_arg1))),
    Cert.OddInIdeal.Proj.run m g, ?_⟩
  refine (θ_run _ _ _).mono (fun r h c => ?_) (Cert.OddInReferenceIdeal.Value.run (F := Ideal) m' g')
  obtain ⟨a0, a1, a2⟩ := hargs c
  have hz := congrArg₂ Cert.OddInReferenceIdeal.Proj.projection a0 a1
  obtain ⟨h0, h1, h2, h3, h4, h5, h6, h7, h8, hk⟩ := h c
  exact ⟨h0.trans (congrArg Cert.OddInReferenceIdeal.Proj.layout hz),
    h1.trans (congrArg₂ Cert.OddInReferenceIdeal.Proj.promptLatents a2 (congrArg Cert.OddInReferenceIdeal.Proj.latentP hz)),
    h2.trans (congrArg₂ Cert.OddInReferenceIdeal.Proj.sampleLatents a2 (congrArg Cert.OddInReferenceIdeal.Proj.latentS hz)),
    h3.trans (congrArg (fun Y => Cert.OddInReferenceIdeal.Proj.promptHeads (Cert.OddInReferenceIdeal.Proj.keyP Y)) hz),
    h4.trans (congrArg (fun Y => Cert.OddInReferenceIdeal.Proj.sampleHeads (Cert.OddInReferenceIdeal.Proj.keyS Y)) hz),
    h5.trans (congrArg (fun Y => Cert.OddInReferenceIdeal.Proj.promptHeads (Cert.OddInReferenceIdeal.Proj.valueP Y)) hz),
    h6.trans (congrArg (fun Y => Cert.OddInReferenceIdeal.Proj.sampleHeads (Cert.OddInReferenceIdeal.Proj.valueS Y)) hz),
    h7.trans (congrArg Cert.OddInReferenceIdeal.Proj.indexP hz),
    h8.trans (congrArg Cert.OddInReferenceIdeal.Proj.indexS hz), hk⟩

end Cert.Proof

end
-- ==== Proof.OddRotary.lean ====
/- An odd layer's rotary keys: cut from the tiled product with the reordered weights, turned by the tokens' angles. -/
module

public import proofs.«01_k».proof.Proof.Gen.OddRotaryIdeal.Frame
public import proofs.«01_k».proof.Proof.Gen.OddRotaryReferenceIdeal.Run
public import proofs.«01_k».proof.Proof.OddNew

@[expose] public section

set_option maxRecDepth 16384

noncomputable section

namespace Cert.OddRotaryReferenceIdeal.Proj

open Cert.OddRotaryReferenceIdeal Cert.OddRotaryReferenceIdeal.Gen
open Idealize.ShloMosaic Idealize.ShloMosaic.TcCoe Idealize.SL.Sem
open Cert.OddInReferenceIdeal.Proj (projection prompts samples)

/-- The rotary key: a pair's two entries turned by the token's angle, the two halves side by side. -/
def promptLow (x : FVec Ideal S2x8192x64 .f32) : FVec Ideal S2x8192x32 .f32 :=
  (subf (mulf (extractStridedSlice S2x8192x32 ![0, 0, 0] x slices_S2x8192x64_S2x8192x32_0_0_0) (broadcastInDim S2x8192x32 ![0, 1, 2] bcast_S1x8192x32_S2x8192x32_0_1_2 (broadcastInDim S1x8192x32 ![1, 2] bcast_S8192x32_S1x8192x32_1_2 (Host.cos (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.exp (Host.divf (mulf (broadcastInDim S32 ![] bcast_S_S32 (constant S_ .f32 0xC1135D8E#32)) (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))))))) (mulf (extractStridedSlice S2x8192x32 ![0, 0, 32] x slices_S2x8192x64_S2x8192x32_0_0_32) (broadcastInDim S2x8192x32 ![0, 1, 2] bcast_S1x8192x32_S2x8192x32_0_1_2 (broadcastInDim S1x8192x32 ![1, 2] bcast_S8192x32_S1x8192x32_1_2 (Host.sin (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.exp (Host.divf (mulf (broadcastInDim S32 ![] bcast_S_S32 (constant S_ .f32 0xC1135D8E#32)) (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))))))))
def promptHigh (x : FVec Ideal S2x8192x64 .f32) : FVec Ideal S2x8192x32 .f32 :=
  (addf (mulf (extractStridedSlice S2x8192x32 ![0, 0, 32] x slices_S2x8192x64_S2x8192x32_0_0_32) (broadcastInDim S2x8192x32 ![0, 1, 2] bcast_S1x8192x32_S2x8192x32_0_1_2 (broadcastInDim S1x8192x32 ![1, 2] bcast_S8192x32_S1x8192x32_1_2 (Host.cos (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.exp (Host.divf (mulf (broadcastInDim S32 ![] bcast_S_S32 (constant S_ .f32 0xC1135D8E#32)) (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))))))) (mulf (extractStridedSlice S2x8192x32 ![0, 0, 0] x slices_S2x8192x64_S2x8192x32_0_0_0) (broadcastInDim S2x8192x32 ![0, 1, 2] bcast_S1x8192x32_S2x8192x32_0_1_2 (broadcastInDim S1x8192x32 ![1, 2] bcast_S8192x32_S1x8192x32_1_2 (Host.sin (mulf (broadcastInDim S8192x32 ![0, 1] bcast_S8192x1_S8192x32_0_1 (broadcastInDim S8192x1 ![0] bcast_S8192_S8192x1_0 (sitofp .f32 (iotaInDim S8192 32 0)))) (broadcastInDim S8192x32 ![0, 1] bcast_S1x32_S8192x32_0_1 (broadcastInDim S1x32 ![1] bcast_S32_S1x32_1 (Host.exp (Host.divf (mulf (broadcastInDim S32 ![] bcast_S_S32 (constant S_ .f32 0xC1135D8E#32)) (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))))))))
def promptJoin (a b : FVec Ideal S2x8192x32 .f32) : FVec Ideal S2x8192x64 .f32 :=
  concatenate S2x8192x64 2 [⟨S2x8192x32, a⟩, ⟨S2x8192x32, b⟩] concatenates_S2x8192x32_S2x8192x32_S2x8192x64_d2
def sampleLow (x : FVec Ideal S16x32x64 .f32) : FVec Ideal S16x32x32 .f32 :=
  (subf (mulf (extractStridedSlice S16x32x32 ![0, 0, 0] x slices_S16x32x64_S16x32x32_0_0_0) (broadcastInDim S16x32x32 ![0, 1, 2] bcast_S1x32x32_S16x32x32_0_1_2 (broadcastInDim S1x32x32 ![1, 2] bcast_S32x32_S1x32x32_1_2 (Host.cos (mulf (broadcastInDim S32x32 ![0, 1] bcast_S32x1_S32x32_0_1 (broadcastInDim S32x1 ![0] bcast_S32_S32x1_0 (sitofp .f32 (addi (broadcastInDim S32 ![] bcast_S_S32 (constantI S_ 32 1024#32)) (iotaInDim S32 32 0))))) (broadcastInDim S32x32 ![0, 1] bcast_S1x32_S32x32_0_1 (broadcastInDim S1x32 ![1] bcast_S32_S1x32_1 (Host.exp (Host.divf (mulf (broadcastInDim S32 ![] bcast_S_S32 (constant S_ .f32 0xC1135D8E#32)) (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))))))) (mulf (extractStridedSlice S16x32x32 ![0, 0, 32] x slices_S16x32x64_S16x32x32_0_0_32) (broadcastInDim S16x32x32 ![0, 1, 2] bcast_S1x32x32_S16x32x32_0_1_2 (broadcastInDim S1x32x32 ![1, 2] bcast_S32x32_S1x32x32_1_2 (Host.sin (mulf (broadcastInDim S32x32 ![0, 1] bcast_S32x1_S32x32_0_1 (broadcastInDim S32x1 ![0] bcast_S32_S32x1_0 (sitofp .f32 (addi (broadcastInDim S32 ![] bcast_S_S32 (constantI S_ 32 1024#32)) (iotaInDim S32 32 0))))) (broadcastInDim S32x32 ![0, 1] bcast_S1x32_S32x32_0_1 (broadcastInDim S1x32 ![1] bcast_S32_S1x32_1 (Host.exp (Host.divf (mulf (broadcastInDim S32 ![] bcast_S_S32 (constant S_ .f32 0xC1135D8E#32)) (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))))))))
def sampleHigh (x : FVec Ideal S16x32x64 .f32) : FVec Ideal S16x32x32 .f32 :=
  (addf (mulf (extractStridedSlice S16x32x32 ![0, 0, 32] x slices_S16x32x64_S16x32x32_0_0_32) (broadcastInDim S16x32x32 ![0, 1, 2] bcast_S1x32x32_S16x32x32_0_1_2 (broadcastInDim S1x32x32 ![1, 2] bcast_S32x32_S1x32x32_1_2 (Host.cos (mulf (broadcastInDim S32x32 ![0, 1] bcast_S32x1_S32x32_0_1 (broadcastInDim S32x1 ![0] bcast_S32_S32x1_0 (sitofp .f32 (addi (broadcastInDim S32 ![] bcast_S_S32 (constantI S_ 32 1024#32)) (iotaInDim S32 32 0))))) (broadcastInDim S32x32 ![0, 1] bcast_S1x32_S32x32_0_1 (broadcastInDim S1x32 ![1] bcast_S32_S1x32_1 (Host.exp (Host.divf (mulf (broadcastInDim S32 ![] bcast_S_S32 (constant S_ .f32 0xC1135D8E#32)) (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))))))) (mulf (extractStridedSlice S16x32x32 ![0, 0, 0] x slices_S16x32x64_S16x32x32_0_0_0) (broadcastInDim S16x32x32 ![0, 1, 2] bcast_S1x32x32_S16x32x32_0_1_2 (broadcastInDim S1x32x32 ![1, 2] bcast_S32x32_S1x32x32_1_2 (Host.sin (mulf (broadcastInDim S32x32 ![0, 1] bcast_S32x1_S32x32_0_1 (broadcastInDim S32x1 ![0] bcast_S32_S32x1_0 (sitofp .f32 (addi (broadcastInDim S32 ![] bcast_S_S32 (constantI S_ 32 1024#32)) (iotaInDim S32 32 0))))) (broadcastInDim S32x32 ![0, 1] bcast_S1x32_S32x32_0_1 (broadcastInDim S1x32 ![1] bcast_S32_S1x32_1 (Host.exp (Host.divf (mulf (broadcastInDim S32 ![] bcast_S_S32 (constant S_ .f32 0xC1135D8E#32)) (addf (broadcastInDim S32 ![] bcast_S_S32 (constant S_ .f32 0x00000000#32)) (mulf (broadcastInDim S32 ![] bcast_S_S32 (constant S_ .f32 0x40000000#32)) (sitofp .f32 (iotaInDim S32 32 0))))) (broadcastInDim S32 ![] bcast_S_S32 (constant S_ .f32 0x42800000#32))))))))))))
def sampleJoin (a b : FVec Ideal S16x32x32 .f32) : FVec Ideal S16x32x64 .f32 :=
  concatenate S16x32x64 2 [⟨S16x32x32, a⟩, ⟨S16x32x32, b⟩] concatenates_S16x32x32_S16x32x32_S16x32x64_d2

section
variable (Y : FVec Ideal S16896x6816 .f32)

/-- The columns of the rotary key. -/
def rotaryP : FVec Ideal S2x8192x64 .f32 := extractStridedSlice S2x8192x64 ![0, 0, 1536] (prompts Y) slices_S2x8192x6816_S2x8192x64_0_0_1536
def rotaryS : FVec Ideal S16x32x64 .f32 := extractStridedSlice S16x32x64 ![0, 0, 1536] (samples Y) slices_S16x32x6816_S16x32x64_0_0_1536

/-- The rotary keys of the prompts' and of the samples' tokens. -/
def promptRotary : FVec Ideal S2x8192x64 .f32 := promptJoin (promptLow (rotaryP Y)) (promptHigh (rotaryP Y))
def sampleRotary : FVec Ideal S16x32x64 .f32 := sampleJoin (sampleLow (rotaryS Y)) (sampleHigh (rotaryS Y))
end

variable (m : (ℓ : Loc nD τ sig) → Buf (Elt Ideal) ℓ) (c : Dev nD)

theorem reference_prompt : Cert.OddRotaryReferenceIdeal.Value.res_main_v43 m c = promptRotary (projection (m ((c.tc : Thread nD τ).loc main_arg0)) (m ((c.tc : Thread nD τ).loc main_arg1))) := rfl
theorem reference_sample : Cert.OddRotaryReferenceIdeal.Value.res_main_v81 m c = sampleRotary (projection (m ((c.tc : Thread nD τ).loc main_arg0)) (m ((c.tc : Thread nD τ).loc main_arg1))) := rfl

/-- The frame: the reference declares no semaphore. -/
theorem frame_reference (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2.2, sem_eq_zero_of_no_sems (by decide) r.2⟩) (Cert.OddRotaryReferenceIdeal.Value.run (F := Ideal) m ρ)

end Cert.OddRotaryReferenceIdeal.Proj

namespace Cert.OddRotaryIdeal.Proj

open Cert.OddRotaryIdeal Cert.OddRotaryIdeal.Gen
open Idealize.ShloMosaic Idealize.ShloMosaic.TcCoe Idealize.SL.Sem
open Cert.OddInIdeal.Proj (packed packed_in packed_out product src srcN at_src)
open Cert.OddInReferenceIdeal.Proj (projection prompts samples layout layout_in)
open Cert.OddRotaryReferenceIdeal.Proj

/-- The blocks of a point: a band of rows, a band of columns, and the tile where they meet. -/
theorem idx : ∀ t : Fin cfg0.N, win0_0.index t = ![t.val / 9, 0] ∧ win0_1.index t = ![0, t.val % 9] ∧ win0_2.index t = ![t.val / 9, t.val % 9] :=
  (by decide +kernel : ∀ t : Fin grid0.N, _)

/-- A tile's entry is the sum of a row's products with a column. -/
theorem tile_apply (a : Vec Ideal S512x4096 .bf16) (b : Vec Ideal S4096x768 .bf16) (r : Fin 512) (j : Fin 768) :
    out0_2 a b (ix2 r j) = ∑ d : Fin 4096, (a (ix2 r d) : EReal) * b (ix2 d j) := by
  unfold out0_2
  frame_out
  pointwise [k0_pay1]

section
variable (t : Fin cfg0.N)
theorem read_a (X : FVec Ideal S16896x4096 .bf16) (r : Fin 512) (d : Fin 4096) (R : Fin 16896) (hR : R.val = 512 * (t.val / 9) + r.val) :
    (((cfg0.win 0).blk t).view.read (Elt Ideal) X : Vec Ideal S512x4096 .bf16) (ix2 r d) = X (ix2 R d) := by
  have e := (idx t).1
  blk_simp [e]
  blk_ext [e]
theorem read_b (X : FVec Ideal S4096x6912 .bf16) (d : Fin 4096) (j : Fin 768) (J : Fin 6912) (hJ : J.val = 768 * (t.val % 9) + j.val) :
    (((cfg0.win 1).blk t).view.read (Elt Ideal) X : Vec Ideal S4096x768 .bf16) (ix2 d j) = X (ix2 d J) := by
  have e := (idx t).2.1
  blk_simp [e]
  blk_ext [e]
end

theorem tile_eq (a : Vec Ideal S512x4096 .bf16) (b : Vec Ideal S4096x768 .bf16) (h : FVec Ideal S16896x4096 .bf16) (w : FVec Ideal S4096x6816 .f32)
    (r : Fin 512) (j : Fin 768) (R : Fin 16896) (J : Fin 6912) (ha : ∀ d : Fin 4096, a (ix2 r d) = h (ix2 R d)) (hb : ∀ d : Fin 4096, b (ix2 d j) = packed w (ix2 d J)) :
    (out0_2 a b (ix2 r j) : EReal) = product h w (ix2 R J) := by
  rw [tile_apply]
  have e : ∑ d : Fin 4096, (a (ix2 r d) : EReal) * b (ix2 d j) = ∑ d : Fin 4096, (h (ix2 R d) : EReal) * packed w (ix2 d J) :=
    Finset.sum_congr rfl fun d _ => congrArg₂ (fun a b : EReal => a * b) (ha d) (hb d)
  refine e.trans ?_
  unfold product
  by_cases q : J.val < 6816
  · rw [dif_pos (show ((ix2 R J : S16896x6912.Idx) 1).val < 6816 from q)]
    exact Finset.sum_congr rfl fun d _ => congrArg (fun b : EReal => _ * b) (packed_in _ d J q)
  · rw [dif_neg (show ¬((ix2 R J : S16896x6912.Idx) 1).val < 6816 from q)]
    refine Finset.sum_eq_zero fun d _ => ?_
    rw [packed_out _ d J q, mul_zero]

variable (m : (ℓ : Loc nD τ sig) → Buf (Elt Ideal) ℓ) (c : Dev nD)

theorem V_w : V m c main_v11 = packed (m ((c : Thread nD τ).loc main_arg1)) := by
  show StableHlo.after (List.flatten [hostOps0, hostOps0_1]) _ (Proc.devRef .tc main_v11) = _
  simp only [hostOps0, hostOps0_1, List.flatten_cons, List.flatten_nil, List.append_nil, List.cons_append, List.nil_append]
  after_reads_simp
  rfl

theorem out_at (t : Fin cfg0.N) (r : Fin 512) (j : Fin 768) (R : Fin 16896) (J : Fin 6912) (hR : R.val = 512 * (t.val / 9) + r.val) (hJ : J.val = 768 * (t.val % 9) + j.val) :
    (out0_2 (iblk m c 0 t) (iblk m c 1 t) (ix2 r j) : EReal) = product (m ((c : Thread nD τ).loc main_arg0)) (m ((c : Thread nD τ).loc main_arg1)) (ix2 R J) := by
  refine tile_eq _ _ _ _ r j R J (fun d => ?_) fun d => ?_
  · show (((cfg0.win 0).blk t).view.read (Elt Ideal) (V m c main_arg0) : Vec Ideal S512x4096 .bf16) (ix2 r d) = _
    rw [V_main_arg0 m c]
    exact read_a t _ r d R hR
  · show (((cfg0.win 1).blk t).view.read (Elt Ideal) (V m c main_v11) : Vec Ideal S4096x768 .bf16) (ix2 d j) = _
    rw [V_w m c]
    exact read_b t _ d j J hJ

/-- The result array after the run is the whole product. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have e := (idx t).2.2
  generalize hG : product (m ((c : Thread nD τ).loc main_arg0)) (m ((c : Thread nD τ).loc main_arg1)) = G
  have key := fun r j R J hR hJ => (out_at m c t r j R J hR hJ).trans (congrFun hG _)
  blk_simp
  rw [after0_2]
  have e0 : ((win0_2.blk t).view.emb y 0 : ℕ) = 512 * (t.val / 9) + (y 0 : ℕ) := by
    blk_simp [e]
    exact congrArg (· + (y 0 : ℕ)) (Nat.mul_comm _ _)
  have e1 : ((win0_2.blk t).view.emb y 1 : ℕ) = 768 * (t.val % 9) + (y 1 : ℕ) := by
    blk_simp [e]
    exact congrArg (· + (y 1 : ℕ)) (Nat.mul_comm _ _)
  have k := key (y 0) (y 1) ((win0_2.blk t).view.emb y 0) ((win0_2.blk t).view.emb y 1) e0 e1
  exact (congrArg (out0_2 (iblk m c 0 t) (iblk m c 1 t)) (eq_ix2 y)).trans (k.trans (congrArg G (eq_ix2 ((win0_2.blk t).view.emb y)).symm))

theorem final_layout : (dats m 0 c).arrAt 2 cfg0.N = layout (projection (m ((c : Thread nD τ).loc main_arg0)) (m ((c : Thread nD τ).loc main_arg1))) :=
  (final m c).trans (Cert.OddInReferenceIdeal.Proj.reference_eq _ _).symm

/-! The kernel cuts its reordered columns first, the reference the tokens. -/

section
variable (Y : FVec Ideal Cert.OddRotaryReferenceIdeal.S16896x6816 .f32)

theorem rotaryP_eq : (shapeCast S2x8192x64 (extractStridedSlice S16384x64 ![0, 6656] (layout Y : FVec Ideal S16896x6912 .f32) slices_S16896x6912_S16384x64_0_6656 : FVec Ideal S16384x64 .f32) shapeCasts_S16384x64_S2x8192x64 : FVec Ideal S2x8192x64 .f32) = rotaryP Y := by
  funext i
  rw [eq_ix3 i]
  generalize (i 0 : Fin 2) = b, (i 1 : Fin 8192) = t, (i 2 : Fin 64) = j
  have hb : b.val < 2 := b.isLt
  have ht : t.val < 8192 := t.isLt
  have hj : j.val < 64 := j.isLt
  have hR : b.val * 8192 + t.val < 16896 := by omega
  have hJ : 6656 + j.val < 6816 := by omega
  refine Eq.trans (b := layout Y (ix2 ⟨b.val * 8192 + t.val, hR⟩ ⟨6656 + j.val, by omega⟩)) ?_ ?_
  · generalize layout Y = Z
    pointwise
  · refine (layout_in Y _ _ hJ).trans ((at_src Y _ ⟨6656 + j.val, hJ⟩ (1536 + j.val) (by omega) ?_).symm.trans ?_)
    · show _ = srcN (6656 + j.val)
      unfold srcN
      split_ifs <;> omega
    · symm
      pointwise [rotaryP, prompts]

theorem rotaryS_eq : (shapeCast S16x32x64 (extractStridedSlice S512x64 ![16384, 6656] (layout Y : FVec Ideal S16896x6912 .f32) slices_S16896x6912_S512x64_16384_6656 : FVec Ideal S512x64 .f32) shapeCasts_S512x64_S16x32x64 : FVec Ideal S16x32x64 .f32) = rotaryS Y := by
  funext i
  rw [eq_ix3 i]
  generalize (i 0 : Fin 16) = b, (i 1 : Fin 32) = t, (i 2 : Fin 64) = j
  have hb : b.val < 16 := b.isLt
  have ht : t.val < 32 := t.isLt
  have hj : j.val < 64 := j.isLt
  have hR : 16384 + (b.val * 32 + t.val) < 16896 := by omega
  have hJ : 6656 + j.val < 6816 := by omega
  refine Eq.trans (b := layout Y (ix2 ⟨16384 + (b.val * 32 + t.val), hR⟩ ⟨6656 + j.val, by omega⟩)) ?_ ?_
  · generalize layout Y = Z
    pointwise
  · refine (layout_in Y _ _ hJ).trans ((at_src Y _ ⟨6656 + j.val, hJ⟩ (1536 + j.val) (by omega) ?_).symm.trans ?_)
    · show _ = srcN (6656 + j.val)
      unfold srcN
      split_ifs <;> omega
    · symm
      pointwise [rotaryS, samples]

end

section
variable (X : Valuation τ sig (Elt Ideal)) (Y : FVec Ideal Cert.OddRotaryReferenceIdeal.S16896x6816 .f32) (hz : X (Proc.devRef .tc main_v12) = layout Y)
include hz

theorem tail_prompt : StableHlo.after hostOps1 X (Proc.devRef .tc main_v69) = promptRotary Y := by
  after_reads_simp
  refine congrArg₂ promptJoin ?_ ?_
  · after_reads_simp
    rw [hz]
    exact congrArg promptLow (rotaryP_eq Y)
  · after_reads_simp
    rw [hz]
    exact congrArg promptHigh (rotaryP_eq Y)

theorem tail_sample : StableHlo.after hostOps1 X (Proc.devRef .tc main_v122) = sampleRotary Y := by
  after_reads_simp
  refine congrArg₂ sampleJoin ?_ ?_
  · after_reads_simp
    rw [hz]
    exact congrArg sampleLow (rotaryS_eq Y)
  · after_reads_simp
    rw [hz]
    exact congrArg sampleHigh (rotaryS_eq Y)
end

/-- The buffers after the region. -/
abbrev exit : Valuation τ sig (Elt Ideal) := Pipeline.withArrays spec0 c (V0 m c) fun w => (dats m 0 c).arrAt w cfg0.N

theorem exit_z : exit m c (Proc.devRef .tc main_v12) = layout (projection (m ((c : Thread nD τ).loc main_arg0)) (m ((c : Thread nD τ).loc main_arg1))) :=
  (Pipeline.withArrays_arr spec0 (by decide) c (V0 m c) (fun w => (dats m 0 c).arrAt w cfg0.N) 2).trans (final_layout m c)

theorem final_prompt : Pipeline.afterTail₀ cfgs (dats m) 0 (V0 m) [hostOps1] c main_v69 = promptRotary (projection (m ((c : Thread nD τ).loc main_arg0)) (m ((c : Thread nD τ).loc main_arg1))) :=
  tail_prompt (exit m c) _ (exit_z m c)

theorem final_sample : Pipeline.afterTail₀ cfgs (dats m) 0 (V0 m) [hostOps1] c main_v122 = sampleRotary (projection (m ((c : Thread nD τ).loc main_arg0)) (m ((c : Thread nD τ).loc main_arg1))) :=
  tail_sample (exit m c) _ (exit_z m c)

/-- The run with both results named. -/
theorem run (ρ : Dev nD → PrngReg) : θ_run defs (onTc (τ := τ) (main (F := Ideal))) ⟨m, fun _ => 0, ρ⟩ fun r => ∀ c : Dev nD,
      r.2.mem ((c.tc : Thread nD τ).loc main_v69) = promptRotary (projection (m ((c : Thread nD τ).loc main_arg0)) (m ((c : Thread nD τ).loc main_arg1)))
      ∧ r.2.mem ((c.tc : Thread nD τ).loc main_v122) = sampleRotary (projection (m ((c : Thread nD τ).loc main_arg0)) (m ((c : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨
      ((h c).2 main_v69 (Pipeline.mem_restRefs_of main_v69 (by decide) (by decide))).trans (final_prompt m c),
      ((h c).2 main_v122 (Pipeline.mem_restRefs_of main_v122 (by decide) (by decide))).trans (final_sample m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.OddRotaryIdeal.Proj

namespace Cert.Proof

open Idealize.ShloMosaic Idealize.SL.Sem

theorem algebraic_odd_rotary : Cert.algebraic_OddRotaryIdeal_OddRotaryReferenceIdeal (hOddRotaryIdeal := Cert.OddRotaryIdeal.Gen.facts) (hOddRotaryReferenceIdeal := Cert.OddRotaryReferenceIdeal.Gen.facts) := by
  intro m g m' g' _ hargs
  refine ⟨fun c => Cert.OddRotaryReferenceIdeal.Proj.promptRotary (Cert.OddInReferenceIdeal.Proj.projection (m ((c.tc : Thread Cert.OddRotaryIdeal.nD Cert.OddRotaryIdeal.τ).loc Cert.OddRotaryIdeal.main_arg0)) (m ((c.tc : Thread Cert.OddRotaryIdeal.nD Cert.OddRotaryIdeal.τ).loc Cert.OddRotaryIdeal.main_arg1))),
    fun c => Cert.OddRotaryReferenceIdeal.Proj.sampleRotary (Cert.OddInReferenceIdeal.Proj.projection (m ((c.tc : Thread Cert.OddRotaryIdeal.nD Cert.OddRotaryIdeal.τ).loc Cert.OddRotaryIdeal.main_arg0)) (m ((c.tc : Thread Cert.OddRotaryIdeal.nD Cert.OddRotaryIdeal.τ).loc Cert.OddRotaryIdeal.main_arg1))),
    Cert.OddRotaryIdeal.Proj.run m g, ?_⟩
  refine (θ_run _ _ _).mono (fun r h c => ?_) (Cert.OddRotaryReferenceIdeal.Value.run (F := Ideal) m' g')
  obtain ⟨a0, a1⟩ := hargs c
  have hz := congrArg₂ Cert.OddInReferenceIdeal.Proj.projection a0 a1
  obtain ⟨h0, h1, hk⟩ := h c
  exact ⟨h0.trans ((Cert.OddRotaryReferenceIdeal.Proj.reference_prompt m' c).trans (congrArg Cert.OddRotaryReferenceIdeal.Proj.promptRotary hz)), h1.trans ((Cert.OddRotaryReferenceIdeal.Proj.reference_sample m' c).trans (congrArg Cert.OddRotaryReferenceIdeal.Proj.sampleRotary hz)), hk⟩

end Cert.Proof

end
-- ==== Proof.MixOut.lean ====
/- The mixer's output projection: the tiled product, gated and added to the residual, is the whole one. -/
module

public import proofs.«01_k».proof.Proof.Gen.MixOutIdeal.Value
public import proofs.«01_k».proof.Proof.Gen.MixOutReferenceIdeal.Run
public import proofs.«01_k».proof.Defs
public import Idealize.ShloMosaic.Lib.Quiescent
public import Idealize.ShloMosaic.PureOps.Ideal
public import Idealize.ShloMosaic.Lib.Pointwise
public import Idealize.ShloMosaic.Lib.StableHlo.RunRead
public import Idealize.ShloMosaic.Lib.Pipeline.ValueKit

@[expose] public section

set_option maxRecDepth 16384

noncomputable section

namespace Cert.MixOutIdeal.Proj

open Cert.MixOutIdeal Cert.MixOutIdeal.Gen
open Idealize.ShloMosaic Idealize.ShloMosaic.TcCoe Idealize.SL.Sem

/-- The blocks of a point: a band of rows, a band of columns, the residual's tile and the gates of the
    band's sixteen groups of rows, and the tile where they meet. -/
theorem idx : ∀ t : Fin cfg0.N, win0_0.index t = ![t.val / 8, 0] ∧ win0_1.index t = ![0, t.val % 8] ∧ win0_2.index t = ![t.val / 8, t.val % 8]
    ∧ win0_3.index t = ![t.val / 8, 0, t.val % 8] ∧ win0_4.index t = ![t.val / 8, t.val % 8] :=
  (by decide +kernel : ∀ t : Fin grid0.N, _)

/-- A tile's entry: the residual's, and the sum of a row's products with a column, by the gate of the row's group. -/
theorem tile_apply (a : Vec Ideal S512x4096 .bf16) (b : Vec Ideal S4096x512 .bf16) (x : Vec Ideal S512x512 .f32) (g : Vec Ideal S1x16x512 .f32)
    (r j : Fin 512) (q : Fin 16) (hq : q.val = r.val / 32) :
    out0_4 a b x g (ix2 r j) = (x (ix2 r j) : EReal) + (∑ d : Fin 4096, (a (ix2 r d) : EReal) * b (ix2 d j)) * g (ix3 0 q j) := by
  unfold out0_4
  frame_out
  obtain ⟨q, hl⟩ := q
  obtain rfl : q = r.val / 32 := hq
  pointwise [k0_pay1]

section
variable (t : Fin cfg0.N)
theorem read_a (X : FVec Ideal S16896x4096 .bf16) (r : Fin 512) (d : Fin 4096) (R : Fin 16896) (hR : R.val = 512 * (t.val / 8) + r.val) :
    (((cfg0.win 0).blk t).view.read (Elt Ideal) X : Vec Ideal S512x4096 .bf16) (ix2 r d) = X (ix2 R d) := by
  have e := (idx t).1
  blk_simp [e]
  blk_ext [e]
theorem read_b (X : FVec Ideal S4096x4096 .bf16) (d : Fin 4096) (j : Fin 512) (J : Fin 4096) (hJ : J.val = 512 * (t.val % 8) + j.val) :
    (((cfg0.win 1).blk t).view.read (Elt Ideal) X : Vec Ideal S4096x512 .bf16) (ix2 d j) = X (ix2 d J) := by
  have e := (idx t).2.1
  blk_simp [e]
  blk_ext [e]
theorem read_x (X : FVec Ideal S16896x4096 .f32) (r j : Fin 512) (R : Fin 16896) (J : Fin 4096) (hR : R.val = 512 * (t.val / 8) + r.val) (hJ : J.val = 512 * (t.val % 8) + j.val) :
    (((cfg0.win 2).blk t).view.read (Elt Ideal) X : Vec Ideal S512x512 .f32) (ix2 r j) = X (ix2 R J) := by
  have e := (idx t).2.2.1
  blk_simp [e]
  blk_ext [e]
theorem read_g (X : FVec Ideal S33x16x4096 .f32) (q : Fin 16) (j : Fin 512) (I : Fin 33) (J : Fin 4096) (hI : I.val = t.val / 8) (hJ : J.val = 512 * (t.val % 8) + j.val) :
    (((cfg0.win 3).blk t).view.read (Elt Ideal) X : Vec Ideal S1x16x512 .f32) (ix3 0 q j) = X (ix3 I q J) := by
  have e := (idx t).2.2.2.1
  blk_simp [e]
  blk_ext [e]
end

/-- The row of the gates a row takes: its prompt's, or its sample group's. -/
def gateRow (R : Fin 16896) : Fin 18 :=
  ⟨if R.val < 16384 then R.val / 8192 else 2 + (R.val - 16384) / 32, by split_ifs <;> omega⟩

/-- The gates as the call takes them: sixteen a band of 512 rows. -/
def gates (g : FVec Ideal S18x4096 .f32) : FVec Ideal S33x16x4096 .f32 :=
  concatenate S33x16x4096 0 [⟨S32x16x4096, (shapeCast S32x16x4096 (broadcastInDim S2x16x16x4096 ![0, 1, 2, 3] bcast_S2x1x1x4096_S2x16x16x4096_0_1_2_3
      (broadcastInDim S2x1x1x4096 ![0, 3] bcast_S2x4096_S2x1x1x4096_0_3 (extractStridedSlice S2x4096 ![0, 0] g slices_S18x4096_S2x4096_0_0))) shapeCasts_S2x16x16x4096_S32x16x4096 : FVec Ideal S32x16x4096 .f32)⟩,
    ⟨S1x16x4096, (shapeCast S1x16x4096 (extractStridedSlice S16x4096 ![2, 0] g slices_S18x4096_S16x4096_2_0) shapeCasts_S16x4096_S1x16x4096 : FVec Ideal S1x16x4096 .f32)⟩]
    concatenates_S32x16x4096_S1x16x4096_S33x16x4096_d0

theorem gates_apply (g : FVec Ideal S18x4096 .f32) (I : Fin 33) (q : Fin 16) (J : Fin 4096) (R : Fin 16896) (hI : I.val = R.val / 512) (hq : q.val = R.val % 512 / 32) :
    gates g (ix3 I q J) = g (ix2 (gateRow R) J) := by
  unfold gates
  pointwise
  split_ifs with h
  · exact congrArg g (congrArg (ix2 · J) (Fin.ext (show I.val / 16 = (ite _ _ _ : ℕ) by rw [if_pos (show R.val < 16384 by omega)]; omega)))
  · exact congrArg g (congrArg (ix2 · J) (Fin.ext (show 2 + q.val = (ite _ _ _ : ℕ) by rw [if_neg (show ¬R.val < 16384 by omega)]; omega)))

/-- The whole product, each row by its gate, added to the residual. -/
def product (h : FVec Ideal S16896x4096 .bf16) (w : FVec Ideal S4096x4096 .f32) (x : FVec Ideal S16896x4096 .f32) (g : FVec Ideal S18x4096 .f32) : FVec Ideal S16896x4096 .f32 :=
  fun i => (x i : EReal) + (∑ d : Fin 4096, (h (ix2 (i 0) d) : EReal) * w (ix2 d (i 1))) * g (ix2 (gateRow (i 0)) (i 1))

theorem tile_eq (a : Vec Ideal S512x4096 .bf16) (b : Vec Ideal S4096x512 .bf16) (x : Vec Ideal S512x512 .f32) (g : Vec Ideal S1x16x512 .f32)
    (H : FVec Ideal S16896x4096 .bf16) (W : FVec Ideal S4096x4096 .f32) (X : FVec Ideal S16896x4096 .f32) (G : FVec Ideal S18x4096 .f32)
    (r j : Fin 512) (q : Fin 16) (hq : q.val = r.val / 32) (R : Fin 16896) (J : Fin 4096)
    (ha : ∀ d : Fin 4096, a (ix2 r d) = H (ix2 R d)) (hb : ∀ d : Fin 4096, b (ix2 d j) = W (ix2 d J)) (hx : x (ix2 r j) = X (ix2 R J)) (hg : g (ix3 0 q j) = G (ix2 (gateRow R) J)) :
    (out0_4 a b x g (ix2 r j) : EReal) = product H W X G (ix2 R J) := by
  rw [tile_apply a b x g r j q hq]
  refine congrArg₂ (fun a b : EReal => a + b) hx (congrArg₂ (fun a b : EReal => a * b) ?_ hg)
  exact Finset.sum_congr rfl fun d _ => congrArg₂ (fun a b : EReal => a * b) (ha d) (hb d)

variable (m : (ℓ : Loc nD τ sig) → Buf (Elt Ideal) ℓ) (c : Dev nD)

theorem V_w : V m c main_v0 = (truncf .bf16 (m ((c : Thread nD τ).loc main_arg1)) bitsLt_bf16_f32 : FVec Ideal S4096x4096 .bf16) := by
  show StableHlo.after hostOps0 _ (Proc.devRef .tc main_v0) = _
  after_reads_simp

theorem V_g : V m c main_v7 = gates (m ((c : Thread nD τ).loc main_arg3)) := by
  show StableHlo.after hostOps0 _ (Proc.devRef .tc main_v7) = _
  after_reads_simp
  rfl

theorem out_at (t : Fin cfg0.N) (r j : Fin 512) (R : Fin 16896) (J : Fin 4096) (hR : R.val = 512 * (t.val / 8) + r.val) (hJ : J.val = 512 * (t.val % 8) + j.val) :
    (out0_4 (iblk m c 0 t) (iblk m c 1 t) (iblk m c 2 t) (iblk m c 3 t) (ix2 r j) : EReal)
      = product (m ((c : Thread nD τ).loc main_arg0)) (m ((c : Thread nD τ).loc main_arg1)) (m ((c : Thread nD τ).loc main_arg2)) (m ((c : Thread nD τ).loc main_arg3)) (ix2 R J) := by
  have hr := r.isLt
  have hRl := R.isLt
  refine tile_eq _ _ _ _ _ _ _ _ r j ⟨r.val / 32, by omega⟩ rfl R J (fun d => ?_) (fun d => ?_) ?_ ?_
  · show (((cfg0.win 0).blk t).view.read (Elt Ideal) (V m c main_arg0) : Vec Ideal S512x4096 .bf16) (ix2 r d) = _
    rw [V_main_arg0 m c]
    exact read_a t _ r d R hR
  · show (((cfg0.win 1).blk t).view.read (Elt Ideal) (V m c main_v0) : Vec Ideal S4096x512 .bf16) (ix2 d j) = _
    rw [V_w m c]
    exact read_b t _ d j J hJ
  · show (((cfg0.win 2).blk t).view.read (Elt Ideal) (V m c main_arg2) : Vec Ideal S512x512 .f32) (ix2 r j) = _
    rw [V_main_arg2 m c]
    exact read_x t _ r j R J hR hJ
  · show (((cfg0.win 3).blk t).view.read (Elt Ideal) (V m c main_v7) : Vec Ideal S1x16x512 .f32) (ix3 0 ⟨r.val / 32, _⟩ j) = _
    rw [V_g m c]
    refine (read_g t _ _ j ⟨R.val / 512, by omega⟩ J (by show R.val / 512 = _; omega) hJ).trans ?_
    exact gates_apply _ _ _ J R rfl (by show r.val / 32 = _; omega)

/-- The result array after the run. -/
theorem final : (dats m 0 c).arrAt 4 cfg0.N
    = product (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have e := (idx t).2.2.2.2
  generalize hG : product (m ((c : Thread nD τ).loc main_arg0)) (m ((c : Thread nD τ).loc main_arg1)) (m ((c : Thread nD τ).loc main_arg2)) (m ((c : Thread nD τ).loc main_arg3)) = G
  have key := fun r j R J hR hJ => (out_at m c t r j R J hR hJ).trans (congrFun hG _)
  blk_simp
  rw [after0_4]
  have e0 : ((win0_4.blk t).view.emb y 0 : ℕ) = 512 * (t.val / 8) + (y 0 : ℕ) := by
    blk_simp [e]
    exact congrArg (· + (y 0 : ℕ)) (Nat.mul_comm _ _)
  have e1 : ((win0_4.blk t).view.emb y 1 : ℕ) = 512 * (t.val % 8) + (y 1 : ℕ) := by
    blk_simp [e]
    exact congrArg (· + (y 1 : ℕ)) (Nat.mul_comm _ _)
  have k := key (y 0) (y 1) ((win0_4.blk t).view.emb y 0) ((win0_4.blk t).view.emb y 1) e0 e1
  exact (congrArg (out0_4 (iblk m c 0 t) (iblk m c 1 t) (iblk m c 2 t) (iblk m c 3 t)) (eq_ix2 y)).trans (k.trans (congrArg G (eq_ix2 ((win0_4.blk t).view.emb y)).symm))

end Cert.MixOutIdeal.Proj

namespace Cert.MixOutReferenceIdeal.Proj

open Cert.MixOutReferenceIdeal Cert.MixOutReferenceIdeal.Gen
open Idealize.ShloMosaic Idealize.ShloMosaic.TcCoe Idealize.SL.Sem
open Cert.MixOutIdeal.Proj (gateRow)

/-- The reference's result of its product, the residual and the gates: the prompts' rows, then the samples'. -/
def joined (Y x : FVec Ideal S16896x4096 .f32) (g : FVec Ideal S18x4096 .f32) : FVec Ideal S16896x4096 .f32 :=
  concatenate S16896x4096 0 [⟨S16384x4096, (shapeCast S16384x4096 (addf (shapeCast S2x8192x4096 (extractStridedSlice S16384x4096 ![0, 0] x slices_S16896x4096_S16384x4096_0_0) shapeCasts_S16384x4096_S2x8192x4096) (mulf (broadcastInDim S2x8192x4096 ![0, 1, 2] bcast_S2x1x4096_S2x8192x4096_0_1_2 (broadcastInDim S2x1x4096 ![0, 2] bcast_S2x4096_S2x1x4096_0_2 (extractStridedSlice S2x4096 ![0, 0] g slices_S18x4096_S2x4096_0_0))) (shapeCast S2x8192x4096 (extractStridedSlice S16384x4096 ![0, 0] Y slices_S16896x4096_S16384x4096_0_0) shapeCasts_S16384x4096_S2x8192x4096))) shapeCasts_S2x8192x4096_S16384x4096 : FVec Ideal S16384x4096 .f32)⟩,
    ⟨S512x4096, (shapeCast S512x4096 (addf (shapeCast S16x32x4096 (extractStridedSlice S512x4096 ![16384, 0] x slices_S16896x4096_S512x4096_16384_0) shapeCasts_S512x4096_S16x32x4096) (mulf (broadcastInDim S16x32x4096 ![0, 1, 2] bcast_S16x1x4096_S16x32x4096_0_1_2 (broadcastInDim S16x1x4096 ![0, 2] bcast_S16x4096_S16x1x4096_0_2 (extractStridedSlice S16x4096 ![2, 0] g slices_S18x4096_S16x4096_2_0))) (shapeCast S16x32x4096 (extractStridedSlice S512x4096 ![16384, 0] Y slices_S16896x4096_S512x4096_16384_0) shapeCasts_S512x4096_S16x32x4096))) shapeCasts_S16x32x4096_S512x4096 : FVec Ideal S512x4096 .f32)⟩] concatenates_S16384x4096_S512x4096_S16896x4096_d0

theorem joined_apply (Y x : FVec Ideal S16896x4096 .f32) (g : FVec Ideal S18x4096 .f32) (R : Fin 16896) (J : Fin 4096) :
    (joined Y x g (ix2 R J) : EReal) = (x (ix2 R J) : EReal) + Y (ix2 R J) * g (ix2 (gateRow R) J) := by
  unfold joined
  have at_row : ∀ {n : ℕ} (X : (⟨2, ![n, 4096]⟩ : Shape).Idx → EReal) (A : Fin n) (a : ℕ) (ha : a < n), a = A.val → X (ix2 ⟨a, ha⟩ J) = X (ix2 A J) :=
    fun X A a ha h => congrArg X (congrArg (ix2 · J) (Fin.ext h))
  pointwise
  split_ifs with h
  · refine congrArg₂ (fun a b : EReal => a + b) (at_row x R _ _ (by omega)) ((mul_comm _ _).trans ?_)
    refine congrArg₂ (fun a b : EReal => a * b) (at_row Y R _ _ (by omega)) (at_row g (gateRow R) _ _ ?_)
    exact (if_pos h).symm
  · refine congrArg₂ (fun a b : EReal => a + b) (at_row x R _ _ (by omega)) ((mul_comm _ _).trans ?_)
    refine congrArg₂ (fun a b : EReal => a * b) (at_row Y R _ _ (by omega)) (at_row g (gateRow R) _ _ ?_)
    exact (if_neg h).symm
  · rename_i h0
    exact absurd rfl h0

/-- The reference's result is it too. -/
theorem reference_eq (h : FVec Ideal S16896x4096 .bf16) (w : FVec Ideal S4096x4096 .f32) (x : FVec Ideal S16896x4096 .f32) (g : FVec Ideal S18x4096 .f32) :
    joined (Host.dotGeneral dot_S16896x4096_S4096x4096_S16896x4096_1_0_0_1_n_n none (extf .f32 h bitsLt_bf16_f32 : FVec Ideal S16896x4096 .f32) w) x g = Cert.MixOutIdeal.Proj.product h w x g := by
  funext i
  obtain ⟨R, J, rfl⟩ : ∃ (R : Fin 16896) (J : Fin 4096), i = ix2 R J := ⟨i 0, i 1, eq_ix2 i⟩
  refine (joined_apply _ x g R J).trans (congrArg (fun a : EReal => (x (ix2 R J) : EReal) + a * g (ix2 (gateRow R) J)) ?_)
  show _ = ∑ d : Fin 4096, (h (ix2 R d) : EReal) * w (ix2 d J)
  pointwise

/-- The frame: the reference declares no semaphore. -/
theorem frame_reference (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Cert.MixOutReferenceIdeal.Value.run (F := Ideal) m ρ)

end Cert.MixOutReferenceIdeal.Proj

namespace Cert.Proof

open Idealize.ShloMosaic Idealize.SL.Sem

theorem algebraic_mix : Cert.algebraic_MixOutIdeal_MixOutReferenceIdeal (hMixOutIdeal := Cert.MixOutIdeal.Gen.facts) (hMixOutReferenceIdeal := Cert.MixOutReferenceIdeal.Gen.facts) := by
  intro m g m' g' _ hargs
  refine ⟨fun c => Cert.MixOutIdeal.Proj.product (m ((c.tc : Thread Cert.MixOutIdeal.nD Cert.MixOutIdeal.τ).loc Cert.MixOutIdeal.main_arg0)) (m ((c.tc : Thread Cert.MixOutIdeal.nD Cert.MixOutIdeal.τ).loc Cert.MixOutIdeal.main_arg1)) (m ((c.tc : Thread Cert.MixOutIdeal.nD Cert.MixOutIdeal.τ).loc Cert.MixOutIdeal.main_arg2)) (m ((c.tc : Thread Cert.MixOutIdeal.nD Cert.MixOutIdeal.τ).loc Cert.MixOutIdeal.main_arg3)), ?_, ?_⟩
  · exact (θ_run _ _ _).mono (fun r h c => ⟨(h c).1.trans (Cert.MixOutIdeal.Proj.final m c), (h c).2⟩) (Cert.MixOutIdeal.Value.run_blocks (F := Ideal) m g)
  · refine (θ_run _ _ _).mono (fun r h c => ⟨(h c).1.trans ?_, (h c).2⟩) (Cert.MixOutReferenceIdeal.Value.run (F := Ideal) m' g')
    obtain ⟨a0, a1, a2, a3⟩ := hargs c
    exact (Cert.MixOutReferenceIdeal.Proj.reference_eq _ _ _ _).trans (congr (congr (congr (congrArg _ a0) a1) a2) a3)

end Cert.Proof

end
-- ==== Proof.Qb.lean ====
/- The prompt's queries from their latents: the tiled product is the whole one. -/
module

public import proofs.«01_k».proof.Proof.Gen.QbIdeal.Value
public import proofs.«01_k».proof.Proof.Gen.QbReferenceIdeal.Run
public import proofs.«01_k».proof.Defs
public import Idealize.ShloMosaic.Lib.Quiescent
public import Idealize.ShloMosaic.PureOps.Ideal
public import Idealize.ShloMosaic.Lib.Pointwise
public import Idealize.ShloMosaic.Lib.StableHlo.RunRead
public import Idealize.ShloMosaic.Lib.Pipeline.ValueKit

@[expose] public section

set_option maxRecDepth 16384

noncomputable section

namespace Cert.QbIdeal.Proj

open Cert.QbIdeal Cert.QbIdeal.Gen
open Idealize.ShloMosaic Idealize.ShloMosaic.TcCoe Idealize.SL.Sem

/-- The blocks of a point: a band of rows, a band of columns, and the tile where they meet. -/
theorem idx : ∀ t : Fin cfg0.N, win0_0.index t = ![t.val / 6, 0] ∧ win0_1.index t = ![0, t.val % 6] ∧ win0_2.index t = ![t.val / 6, t.val % 6] :=
  (by decide +kernel : ∀ t : Fin grid0.N, _)

/-- A tile's entry is the sum of a row's products with a column. -/
theorem tile_apply (a : Vec Ideal S512x1024 .f32) (b : Vec Ideal S1024x512 .bf16) (r j : Fin 512) :
    out0_2 a b (ix2 r j) = ∑ d : Fin 1024, (a (ix2 r d) : EReal) * b (ix2 d j) := by
  unfold out0_2
  frame_out
  pointwise [k0_pay1]

section
variable (t : Fin cfg0.N)
theorem read_a (X : FVec Ideal S16384x1024 .f32) (r : Fin 512) (d : Fin 1024) (R : Fin 16384) (hR : R.val = 512 * (t.val / 6) + r.val) :
    (((cfg0.win 0).blk t).view.read (Elt Ideal) X : Vec Ideal S512x1024 .f32) (ix2 r d) = X (ix2 R d) := by
  have e := (idx t).1
  blk_simp [e]
  blk_ext [e]
theorem read_b (X : FVec Ideal S1024x3072 .bf16) (d : Fin 1024) (j : Fin 512) (J : Fin 3072) (hJ : J.val = 512 * (t.val % 6) + j.val) :
    (((cfg0.win 1).blk t).view.read (Elt Ideal) X : Vec Ideal S1024x512 .bf16) (ix2 d j) = X (ix2 d J) := by
  have e := (idx t).2.1
  blk_simp [e]
  blk_ext [e]
end

/-- The whole product. -/
def product (h : FVec Ideal S16384x1024 .f32) (w : FVec Ideal S1024x3072 .f32) : FVec Ideal S16384x3072 .f32 :=
  fun i => ∑ d : Fin 1024, (h (ix2 (i 0) d) : EReal) * w (ix2 d (i 1))

variable (m : (ℓ : Loc nD τ sig) → Buf (Elt Ideal) ℓ) (c : Dev nD)

theorem V_w : V m c main_v0 = (truncf .bf16 (m ((c : Thread nD τ).loc main_arg1)) bitsLt_bf16_f32 : FVec Ideal S1024x3072 .bf16) := by
  show StableHlo.after hostOps0 _ (Proc.devRef .tc main_v0) = _
  after_reads_simp

theorem out_at (t : Fin cfg0.N) (r j : Fin 512) (R : Fin 16384) (J : Fin 3072) (hR : R.val = 512 * (t.val / 6) + r.val) (hJ : J.val = 512 * (t.val % 6) + j.val) :
    (out0_2 (iblk m c 0 t) (iblk m c 1 t) (ix2 r j) : EReal) = product (m ((c : Thread nD τ).loc main_arg0)) (m ((c : Thread nD τ).loc main_arg1)) (ix2 R J) := by
  rw [tile_apply]
  refine Finset.sum_congr rfl fun d _ => congrArg₂ (fun a b : EReal => a * b) ?_ ?_
  · show (((cfg0.win 0).blk t).view.read (Elt Ideal) (V m c main_arg0) : Vec Ideal S512x1024 .f32) (ix2 r d) = _
    rw [V_main_arg0 m c]
    exact read_a t _ r d R hR
  · show (((cfg0.win 1).blk t).view.read (Elt Ideal) (V m c main_v0) : Vec Ideal S1024x512 .bf16) (ix2 d j) = _
    rw [V_w m c]
    exact read_b t _ d j J hJ

/-- The result array after the run is the whole product. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have e := (idx t).2.2
  generalize hG : product (m ((c : Thread nD τ).loc main_arg0)) (m ((c : Thread nD τ).loc main_arg1)) = G
  have key := fun r j R J hR hJ => (out_at m c t r j R J hR hJ).trans (congrFun hG _)
  blk_simp
  rw [after0_2]
  have e0 : ((win0_2.blk t).view.emb y 0 : ℕ) = 512 * (t.val / 6) + (y 0 : ℕ) := by
    blk_simp [e]
    exact congrArg (· + (y 0 : ℕ)) (Nat.mul_comm _ _)
  have e1 : ((win0_2.blk t).view.emb y 1 : ℕ) = 512 * (t.val % 6) + (y 1 : ℕ) := by
    blk_simp [e]
    exact congrArg (· + (y 1 : ℕ)) (Nat.mul_comm _ _)
  have k := key (y 0) (y 1) ((win0_2.blk t).view.emb y 0) ((win0_2.blk t).view.emb y 1) e0 e1
  exact (congrArg (out0_2 (iblk m c 0 t) (iblk m c 1 t)) (eq_ix2 y)).trans (k.trans (congrArg G (eq_ix2 ((win0_2.blk t).view.emb y)).symm))

/-- The reference's product is it too. -/
theorem reference_eq (h : FVec Ideal S16384x1024 .f32) (w : FVec Ideal S1024x3072 .f32) :
    Host.dotGeneral Cert.QbReferenceIdeal.dot_S16384x1024_S1024x3072_S16384x3072_1_0_0_1_n_n none h w = product h w := by
  funext i
  rw [eq_ix2 i]
  unfold product
  pointwise

end Cert.QbIdeal.Proj

namespace Cert.QbReferenceIdeal.Proj

open Cert.QbReferenceIdeal Cert.QbReferenceIdeal.Gen
open Idealize.ShloMosaic Idealize.ShloMosaic.TcCoe Idealize.SL.Sem

/-- The frame: the reference declares no semaphore. -/
theorem frame_reference (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Cert.QbReferenceIdeal.Value.run (F := Ideal) m ρ)

end Cert.QbReferenceIdeal.Proj

namespace Cert.Proof

open Idealize.ShloMosaic Idealize.SL.Sem

theorem algebraic_qb : Cert.algebraic_QbIdeal_QbReferenceIdeal (hQbIdeal := Cert.QbIdeal.Gen.facts) (hQbReferenceIdeal := Cert.QbReferenceIdeal.Gen.facts) := by
  intro m g m' g' _ hargs
  refine ⟨fun c => Cert.QbIdeal.Proj.product (m ((c.tc : Thread Cert.QbIdeal.nD Cert.QbIdeal.τ).loc Cert.QbIdeal.main_arg0)) (m ((c.tc : Thread Cert.QbIdeal.nD Cert.QbIdeal.τ).loc Cert.QbIdeal.main_arg1)), ?_, ?_⟩
  · exact (θ_run _ _ _).mono (fun r h c => ⟨(h c).1.trans (Cert.QbIdeal.Proj.final m c), (h c).2⟩) (Cert.QbIdeal.Value.run_blocks (F := Ideal) m g)
  · refine (θ_run _ _ _).mono (fun r h c => ⟨(h c).1.trans ?_, (h c).2⟩) (Cert.QbReferenceIdeal.Value.run (F := Ideal) m' g')
    obtain ⟨a0, a1⟩ := hargs c
    exact (Cert.QbIdeal.Proj.reference_eq _ _).trans (congr (congrArg _ a0) a1)

end Cert.Proof

end
-- ==== Proof.Kvb.lean ====
/- The prompt's keys and values from their latents: the tiled product is the whole one. -/
module

public import proofs.«01_k».proof.Proof.Gen.KvbIdeal.Value
public import proofs.«01_k».proof.Proof.Gen.KvbReferenceIdeal.Run
public import proofs.«01_k».proof.Defs
public import Idealize.ShloMosaic.Lib.Quiescent
public import Idealize.ShloMosaic.PureOps.Ideal
public import Idealize.ShloMosaic.Lib.Pointwise
public import Idealize.ShloMosaic.Lib.StableHlo.RunRead
public import Idealize.ShloMosaic.Lib.Pipeline.ValueKit

@[expose] public section

set_option maxRecDepth 16384

noncomputable section

namespace Cert.KvbIdeal.Proj

open Cert.KvbIdeal Cert.KvbIdeal.Gen
open Idealize.ShloMosaic Idealize.ShloMosaic.TcCoe Idealize.SL.Sem

/-- The blocks of a point: a band of rows, a band of columns, and the tile where they meet. -/
theorem idx : ∀ t : Fin cfg0.N, win0_0.index t = ![t.val / 8, 0] ∧ win0_1.index t = ![0, t.val % 8] ∧ win0_2.index t = ![t.val / 8, t.val % 8] :=
  (by decide +kernel : ∀ t : Fin grid0.N, _)

/-- A tile's entry is the sum of a row's products with a column. -/
theorem tile_apply (a : Vec Ideal S512x512 .f32) (b : Vec Ideal S512x512 .bf16) (r j : Fin 512) :
    out0_2 a b (ix2 r j) = ∑ d : Fin 512, (a (ix2 r d) : EReal) * b (ix2 d j) := by
  unfold out0_2
  frame_out
  pointwise [k0_pay1]

section
variable (t : Fin cfg0.N)
theorem read_a (X : FVec Ideal S16384x512 .f32) (r : Fin 512) (d : Fin 512) (R : Fin 16384) (hR : R.val = 512 * (t.val / 8) + r.val) :
    (((cfg0.win 0).blk t).view.read (Elt Ideal) X : Vec Ideal S512x512 .f32) (ix2 r d) = X (ix2 R d) := by
  have e := (idx t).1
  blk_simp [e]
  blk_ext [e]
theorem read_b (X : FVec Ideal S512x4096 .bf16) (d : Fin 512) (j : Fin 512) (J : Fin 4096) (hJ : J.val = 512 * (t.val % 8) + j.val) :
    (((cfg0.win 1).blk t).view.read (Elt Ideal) X : Vec Ideal S512x512 .bf16) (ix2 d j) = X (ix2 d J) := by
  have e := (idx t).2.1
  blk_simp [e]
  blk_ext [e]
end

/-- The whole product. -/
def product (h : FVec Ideal S16384x512 .f32) (w : FVec Ideal S512x4096 .f32) : FVec Ideal S16384x4096 .f32 :=
  fun i => ∑ d : Fin 512, (h (ix2 (i 0) d) : EReal) * w (ix2 d (i 1))

variable (m : (ℓ : Loc nD τ sig) → Buf (Elt Ideal) ℓ) (c : Dev nD)

theorem V_w : V m c main_v0 = (truncf .bf16 (m ((c : Thread nD τ).loc main_arg1)) bitsLt_bf16_f32 : FVec Ideal S512x4096 .bf16) := by
  show StableHlo.after hostOps0 _ (Proc.devRef .tc main_v0) = _
  after_reads_simp

theorem out_at (t : Fin cfg0.N) (r j : Fin 512) (R : Fin 16384) (J : Fin 4096) (hR : R.val = 512 * (t.val / 8) + r.val) (hJ : J.val = 512 * (t.val % 8) + j.val) :
    (out0_2 (iblk m c 0 t) (iblk m c 1 t) (ix2 r j) : EReal) = product (m ((c : Thread nD τ).loc main_arg0)) (m ((c : Thread nD τ).loc main_arg1)) (ix2 R J) := by
  rw [tile_apply]
  refine Finset.sum_congr rfl fun d _ => congrArg₂ (fun a b : EReal => a * b) ?_ ?_
  · show (((cfg0.win 0).blk t).view.read (Elt Ideal) (V m c main_arg0) : Vec Ideal S512x512 .f32) (ix2 r d) = _
    rw [V_main_arg0 m c]
    exact read_a t _ r d R hR
  · show (((cfg0.win 1).blk t).view.read (Elt Ideal) (V m c main_v0) : Vec Ideal S512x512 .bf16) (ix2 d j) = _
    rw [V_w m c]
    exact read_b t _ d j J hJ

/-- The result array after the run is the whole product. -/
theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  have e := (idx t).2.2
  generalize hG : product (m ((c : Thread nD τ).loc main_arg0)) (m ((c : Thread nD τ).loc main_arg1)) = G
  have key := fun r j R J hR hJ => (out_at m c t r j R J hR hJ).trans (congrFun hG _)
  blk_simp
  rw [after0_2]
  have e0 : ((win0_2.blk t).view.emb y 0 : ℕ) = 512 * (t.val / 8) + (y 0 : ℕ) := by
    blk_simp [e]
    exact congrArg (· + (y 0 : ℕ)) (Nat.mul_comm _ _)
  have e1 : ((win0_2.blk t).view.emb y 1 : ℕ) = 512 * (t.val % 8) + (y 1 : ℕ) := by
    blk_simp [e]
    exact congrArg (· + (y 1 : ℕ)) (Nat.mul_comm _ _)
  have k := key (y 0) (y 1) ((win0_2.blk t).view.emb y 0) ((win0_2.blk t).view.emb y 1) e0 e1
  exact (congrArg (out0_2 (iblk m c 0 t) (iblk m c 1 t)) (eq_ix2 y)).trans (k.trans (congrArg G (eq_ix2 ((win0_2.blk t).view.emb y)).symm))

/-- The reference's product is it too. -/
theorem reference_eq (h : FVec Ideal S16384x512 .f32) (w : FVec Ideal S512x4096 .f32) :
    Host.dotGeneral Cert.KvbReferenceIdeal.dot_S16384x512_S512x4096_S16384x4096_1_0_0_1_n_n none h w = product h w := by
  funext i
  rw [eq_ix2 i]
  unfold product
  pointwise

end Cert.KvbIdeal.Proj

namespace Cert.KvbReferenceIdeal.Proj

open Cert.KvbReferenceIdeal Cert.KvbReferenceIdeal.Gen
open Idealize.ShloMosaic Idealize.ShloMosaic.TcCoe Idealize.SL.Sem

/-- The frame: the reference declares no semaphore. -/
theorem frame_reference (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Cert.KvbReferenceIdeal.Value.run (F := Ideal) m ρ)

end Cert.KvbReferenceIdeal.Proj

namespace Cert.Proof

open Idealize.ShloMosaic Idealize.SL.Sem

theorem algebraic_kvb : Cert.algebraic_KvbIdeal_KvbReferenceIdeal (hKvbIdeal := Cert.KvbIdeal.Gen.facts) (hKvbReferenceIdeal := Cert.KvbReferenceIdeal.Gen.facts) := by
  intro m g m' g' _ hargs
  refine ⟨fun c => Cert.KvbIdeal.Proj.product (m ((c.tc : Thread Cert.KvbIdeal.nD Cert.KvbIdeal.τ).loc Cert.KvbIdeal.main_arg0)) (m ((c.tc : Thread Cert.KvbIdeal.nD Cert.KvbIdeal.τ).loc Cert.KvbIdeal.main_arg1)), ?_, ?_⟩
  · exact (θ_run _ _ _).mono (fun r h c => ⟨(h c).1.trans (Cert.KvbIdeal.Proj.final m c), (h c).2⟩) (Cert.KvbIdeal.Value.run_blocks (F := Ideal) m g)
  · refine (θ_run _ _ _).mono (fun r h c => ⟨(h c).1.trans ?_, (h c).2⟩) (Cert.KvbReferenceIdeal.Value.run (F := Ideal) m' g')
    obtain ⟨a0, a1⟩ := hargs c
    exact (Cert.KvbIdeal.Proj.reference_eq _ _).trans (congr (congrArg _ a0) a1)

end Cert.Proof

end
-- ==== Proof.FinalNorm.lean ====
/- The last norm: the norm of a band of rows is the norm of the rows. -/
module

public import proofs.«01_k».proof.Proof.Gen.FinalNormIdeal.Value
public import proofs.«01_k».proof.Proof.Gen.FinalNormReferenceIdeal.Run
public import proofs.«01_k».proof.Defs
public import Idealize.ShloMosaic.Lib.Quiescent
public import Idealize.ShloMosaic.PureOps.Ideal
public import Idealize.ShloMosaic.Lib.Pointwise
public import Idealize.ShloMosaic.Lib.StableHlo.RunRead
public import Idealize.ShloMosaic.Lib.Pipeline.ValueKit

@[expose] public section

set_option maxRecDepth 16384

noncomputable section

namespace Cert.FinalNormIdeal.Proj

open Cert.FinalNormIdeal Cert.FinalNormIdeal.Gen
open Idealize.ShloMosaic Idealize.ShloMosaic.TcCoe Idealize.SL.Sem

/-- The blocks of a point: a band of rows, the gains, and the band again. -/
theorem idx : ∀ t : Fin cfg0.N, win0_0.index t = ![t.val, 0] ∧ win0_1.index t = ![0, 0] ∧ win0_2.index t = ![t.val, 0] :=
  (by decide +kernel : ∀ t : Fin grid0.N, _)

/-- A row's entry by the reciprocal root of the row's mean square, and by its gain. -/
def normed (x g : Fin 4096 → EReal) (j : Fin 4096) : EReal :=
  x j * Ideal.rsqrt (Ideal.div (∑ k, x k * x k) (Ideal.ofBits .f32 0x45800000#32) + Ideal.ofBits .f32 0x358637BD#32) * g j

/-- An entry of a band. -/
theorem tile_apply (x : Vec Ideal S512x4096 .f32) (g : Vec Ideal S1x4096 .f32) (r : Fin 512) (j : Fin 4096) :
    (out0_2 x g (ix2 r j) : EReal) = normed (fun k => x (ix2 r k)) (fun k => g (ix2 0 k)) j := by
  unfold out0_2 normed
  frame_out
  pointwise [k0_pay1]

section
variable (t : Fin cfg0.N)
theorem read_x (X : FVec Ideal S16896x4096 .f32) (r : Fin 512) (k : Fin 4096) (R : Fin 16896) (hR : R.val = 512 * t.val + r.val) :
    (((cfg0.win 0).blk t).view.read (Elt Ideal) X : Vec Ideal S512x4096 .f32) (ix2 r k) = X (ix2 R k) := by
  have e := (idx t).1
  blk_simp [e]
  blk_ext [e]
theorem read_g (X : FVec Ideal S1x4096 .f32) (k : Fin 4096) :
    (((cfg0.win 1).blk t).view.read (Elt Ideal) X : Vec Ideal S1x4096 .f32) (ix2 0 k) = X (ix2 0 k) := by
  have e := (idx t).2.1
  blk_simp [e]
  blk_ext [e]
end

/-- Every row's norm. -/
def result (x : FVec Ideal S16896x4096 .f32) (g : FVec Ideal S4096 .f32) : FVec Ideal S16896x4096 .f32 :=
  fun i => normed (fun k => x (ix2 (i 0) k)) (fun k => g (ix1 k)) (i 1)

variable (m : (ℓ : Loc nD τ sig) → Buf (Elt Ideal) ℓ) (c : Dev nD)

theorem V_g : V m c main_v0 = (shapeCast S1x4096 (m ((c : Thread nD τ).loc main_arg1) : FVec Ideal S4096 .f32) shapeCasts_S4096_S1x4096 : FVec Ideal S1x4096 .f32) := by
  show StableHlo.after hostOps0 _ (Proc.devRef .tc main_v0) = _
  after_reads_simp
  rfl

theorem gain_apply (g : FVec Ideal S4096 .f32) (k : Fin 4096) : (shapeCast S1x4096 g shapeCasts_S4096_S1x4096 : FVec Ideal S1x4096 .f32) (ix2 0 k) = g (ix1 k) := by
  pointwise

theorem out_at (t : Fin cfg0.N) (r : Fin 512) (j : Fin 4096) (R : Fin 16896) (hR : R.val = 512 * t.val + r.val) :
    (out0_2 (iblk m c 0 t) (iblk m c 1 t) (ix2 r j) : EReal) = result (m ((c : Thread nD τ).loc main_arg0)) (m ((c : Thread nD τ).loc main_arg1)) (ix2 R j) := by
  rw [tile_apply]
  refine congrArg₂ (fun a b => normed a b j) (funext fun k => ?_) (funext fun k => ?_)
  · show (((cfg0.win 0).blk t).view.read (Elt Ideal) (V m c main_arg0) : Vec Ideal S512x4096 .f32) (ix2 r k) = _
    rw [V_main_arg0 m c]
    exact read_x t _ r k R hR
  · show (((cfg0.win 1).blk t).view.read (Elt Ideal) (V m c main_v0) : Vec Ideal S1x4096 .f32) (ix2 0 k) = _
    rw [V_g m c]
    exact (read_g t _ k).trans (gain_apply _ k)

/-- The result array after the run. -/
theorem final : (dats m 0 c).arrAt 2 cfg0.N = result (m ((c : Thread nD τ).loc main_arg0)) (m ((c : Thread nD τ).loc main_arg1)) := by
  refine (dats m 0 c).arrAt_eq_of_covers 2 _ (by decide +kernel) fun t hf y => ?_
  have e := (idx t).2.2
  generalize hG : result (m ((c : Thread nD τ).loc main_arg0)) (m ((c : Thread nD τ).loc main_arg1)) = G
  have key := fun r j R hR => (out_at m c t r j R hR).trans (congrFun hG _)
  blk_simp
  rw [after0_2]
  have e0 : ((win0_2.blk t).view.emb y 0 : ℕ) = 512 * t.val + (y 0 : ℕ) := by
    blk_simp [e]
    exact congrArg (· + (y 0 : ℕ)) (Nat.mul_comm _ _)
  have e1 : y 1 = (win0_2.blk t).view.emb y 1 := Fin.ext (by blk_simp [e])
  have k := key (y 0) (y 1) ((win0_2.blk t).view.emb y 0) e0
  exact (congrArg (out0_2 (iblk m c 0 t) (iblk m c 1 t)) (eq_ix2 y)).trans (k.trans (congrArg G ((congrArg (ix2 _ ·) e1).trans (eq_ix2 ((win0_2.blk t).view.emb y)).symm)))

end Cert.FinalNormIdeal.Proj

namespace Cert.FinalNormReferenceIdeal.Proj

open Cert.FinalNormReferenceIdeal Cert.FinalNormReferenceIdeal.Gen
open Idealize.ShloMosaic Idealize.ShloMosaic.TcCoe Idealize.SL.Sem

/-- The reference's result of its arguments. -/
def res (x : FVec Ideal S16896x4096 .f32) (g : FVec Ideal S4096 .f32) : FVec Ideal S16896x4096 .f32 :=
  mulf (mulf x (broadcastInDim S16896x4096 ![0, 1] bcast_S16896x1_S16896x4096_0_1 (Host.rsqrt (addf (Host.divf (broadcastInDim S16896x1 ![0] bcast_S16896_S16896x1_0 (Host.reduceAdd (mulf x x) (constant S_ .f32 0x00000000#32) reducesTo_S16896x4096_S16896_d1 h_S_)) (broadcastInDim S16896x1 ![] bcast_S_S16896x1 (constant S_ .f32 0x45800000#32))) (broadcastInDim S16896x1 ![] bcast_S_S16896x1 (constant S_ .f32 0x358637BD#32)))))) (broadcastInDim S16896x4096 ![0, 1] bcast_S1x4096_S16896x4096_0_1 (broadcastInDim S1x4096 ![1] bcast_S4096_S1x4096_1 g))

theorem res_eq (x : FVec Ideal S16896x4096 .f32) (g : FVec Ideal S4096 .f32) : res x g = Cert.FinalNormIdeal.Proj.result x g := by
  funext i
  rw [eq_ix2 i]
  show _ = Cert.FinalNormIdeal.Proj.normed (fun k => x (ix2 (i 0) k)) (fun k => g (ix1 k)) (i 1)
  unfold res Cert.FinalNormIdeal.Proj.normed
  pointwise

/-- The frame: the reference declares no semaphore. -/
theorem frame_reference (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => (h c).2, sem_eq_zero_of_no_sems (by decide) r.2⟩) (Cert.FinalNormReferenceIdeal.Value.run (F := Ideal) m ρ)

end Cert.FinalNormReferenceIdeal.Proj

namespace Cert.Proof

open Idealize.ShloMosaic Idealize.SL.Sem

theorem algebraic_final_norm : Cert.algebraic_FinalNormIdeal_FinalNormReferenceIdeal (hFinalNormIdeal := Cert.FinalNormIdeal.Gen.facts) (hFinalNormReferenceIdeal := Cert.FinalNormReferenceIdeal.Gen.facts) := by
  intro m g m' g' _ hargs
  refine ⟨fun c => Cert.FinalNormIdeal.Proj.result (m ((c.tc : Thread Cert.FinalNormIdeal.nD Cert.FinalNormIdeal.τ).loc Cert.FinalNormIdeal.main_arg0)) (m ((c.tc : Thread Cert.FinalNormIdeal.nD Cert.FinalNormIdeal.τ).loc Cert.FinalNormIdeal.main_arg1)), ?_, ?_⟩
  · exact (θ_run _ _ _).mono (fun r h c => ⟨(h c).1.trans (Cert.FinalNormIdeal.Proj.final m c), (h c).2⟩) (Cert.FinalNormIdeal.Value.run_blocks (F := Ideal) m g)
  · refine (θ_run _ _ _).mono (fun r h c => ⟨(h c).1.trans ?_, (h c).2⟩) (Cert.FinalNormReferenceIdeal.Value.run (F := Ideal) m' g')
    obtain ⟨a0, a1⟩ := hargs c
    exact (Cert.FinalNormReferenceIdeal.Proj.res_eq _ _).trans (congr (congrArg _ a0) a1)

end Cert.Proof

end
-- ==== Proof.NormMod.lean ====
/- A mixer's norm, scaled and shifted: a band of rows has the rows' own scales and shifts. -/
module

public import proofs.«01_k».proof.Proof.Gen.NormModIdeal.Value
public import proofs.«01_k».proof.Proof.Gen.NormModReferenceIdeal.Run
public import proofs.«01_k».proof.Proof.MixOut
public import proofs.«01_k».proof.Proof.FinalNorm
public import proofs.«01_k».proof.Defs
public import Idealize.ShloMosaic.Lib.Quiescent
public import Idealize.ShloMosaic.PureOps.Ideal
public import Idealize.ShloMosaic.Lib.Pointwise
public import Idealize.ShloMosaic.Lib.StableHlo.RunRead
public import Idealize.ShloMosaic.Lib.Pipeline.ValueKit

@[expose] public section

set_option maxRecDepth 16384

noncomputable section

namespace Cert.NormModIdeal.Proj

open Cert.NormModIdeal Cert.NormModIdeal.Gen
open Idealize.ShloMosaic Idealize.ShloMosaic.TcCoe Idealize.SL.Sem
open Cert.FinalNormIdeal.Proj (normed)
open Cert.MixOutIdeal.Proj (gateRow gates gates_apply)

/-- The blocks of a point: a band of rows, the gains, the scales and the shifts of the band's sixteen
    groups of rows, and the band again. -/
theorem idx : ∀ t : Fin cfg0.N, win0_0.index t = ![t.val, 0] ∧ win0_1.index t = ![0, 0] ∧ win0_2.index t = ![t.val, 0, 0]
    ∧ win0_3.index t = ![t.val, 0, 0] ∧ win0_4.index t = ![t.val, 0] :=
  (by decide +kernel : ∀ t : Fin grid0.N, _)

/-- A row's normed entry, by one and its scale, and its shift. -/
def modulated (x g s h : Fin 4096 → EReal) (j : Fin 4096) : EReal :=
  normed x g j * (Ideal.ofBits .f32 0x3F800000#32 + s j) + h j

/-- An entry of a band. -/
theorem tile_apply (x : Vec Ideal S512x4096 .f32) (g : Vec Ideal S1x4096 .f32) (s h : Vec Ideal S1x16x4096 .f32) (r : Fin 512) (j : Fin 4096)
    (q : Fin 16) (hq : q.val = r.val / 32) :
    (out0_4 x g s h (ix2 r j) : EReal) = modulated (fun k => x (ix2 r k)) (fun k => g (ix2 0 k)) (fun k => s (ix3 0 q k)) (fun k => h (ix3 0 q k)) j := by
  unfold out0_4 modulated normed
  frame_out
  obtain ⟨q, hl⟩ := q
  obtain rfl : q = r.val / 32 := hq
  pointwise [k0_pay1]

section
variable (t : Fin cfg0.N)
theorem read_x (X : FVec Ideal S16896x4096 .f32) (r : Fin 512) (k : Fin 4096) (R : Fin 16896) (hR : R.val = 512 * t.val + r.val) :
    (((cfg0.win 0).blk t).view.read (Elt Ideal) X : Vec Ideal S512x4096 .f32) (ix2 r k) = X (ix2 R k) := by
  have e := (idx t).1
  blk_simp [e]
  blk_ext [e]
theorem read_g (X : FVec Ideal S1x4096 .f32) (k : Fin 4096) :
    (((cfg0.win 1).blk t).view.read (Elt Ideal) X : Vec Ideal S1x4096 .f32) (ix2 0 k) = X (ix2 0 k) := by
  have e := (idx t).2.1
  blk_simp [e]
  blk_ext [e]
theorem read_s (X : FVec Ideal S33x16x4096 .f32) (q : Fin 16) (k : Fin 4096) (I : Fin 33) (hI : I.val = t.val) :
    (((cfg0.win 2).blk t).view.read (Elt Ideal) X : Vec Ideal S1x16x4096 .f32) (ix3 0 q k) = X (ix3 I q k) := by
  have e := (idx t).2.2.1
  blk_simp [e]
  blk_ext [e]
theorem read_h (X : FVec Ideal S33x16x4096 .f32) (q : Fin 16) (k : Fin 4096) (I : Fin 33) (hI : I.val = t.val) :
    (((cfg0.win 3).blk t).view.read (Elt Ideal) X : Vec Ideal S1x16x4096 .f32) (ix3 0 q k) = X (ix3 I q k) := by
  have e := (idx t).2.2.2.1
  blk_simp [e]
  blk_ext [e]
end

/-- Every row's norm, by the scale of its prompt or sample, and its shift. -/
def result (x : FVec Ideal S16896x4096 .f32) (g : FVec Ideal S4096 .f32) (s h : FVec Ideal S18x4096 .f32) : FVec Ideal S16896x4096 .bf16 :=
  fun i => modulated (fun k => x (ix2 (i 0) k)) (fun k => g (ix1 k)) (fun k => s (ix2 (gateRow (i 0)) k)) (fun k => h (ix2 (gateRow (i 0)) k)) (i 1)

variable (m : (ℓ : Loc nD τ sig) → Buf (Elt Ideal) ℓ) (c : Dev nD)

theorem V_g : V m c main_v0 = (shapeCast S1x4096 (m ((c : Thread nD τ).loc main_arg1) : FVec Ideal S4096 .f32) shapeCasts_S4096_S1x4096 : FVec Ideal S1x4096 .f32) := by
  show StableHlo.after hostOps0 _ (Proc.devRef .tc main_v0) = _
  after_reads_simp
  rfl

theorem V_s : V m c main_v7 = gates (m ((c : Thread nD τ).loc main_arg2)) := by
  show StableHlo.after hostOps0 _ (Proc.devRef .tc main_v7) = _
  after_reads_simp
  rfl

theorem V_h : V m c main_v14 = gates (m ((c : Thread nD τ).loc main_arg3)) := by
  show StableHlo.after hostOps0 _ (Proc.devRef .tc main_v14) = _
  after_reads_simp
  rfl

theorem gain_apply (g : FVec Ideal S4096 .f32) (k : Fin 4096) : (shapeCast S1x4096 g shapeCasts_S4096_S1x4096 : FVec Ideal S1x4096 .f32) (ix2 0 k) = g (ix1 k) := by
  pointwise

/-- Rows that agree have the same modulated norms. -/
theorem modulated_congr {x x' g g' s s' h h' : Fin 4096 → EReal} (hx : ∀ k, x k = x' k) (hg : ∀ k, g k = g' k) (hs : ∀ k, s k = s' k) (hh : ∀ k, h k = h' k)
    (j : Fin 4096) : modulated x g s h j = modulated x' g' s' h' j := by
  rw [funext hx, funext hg, funext hs, funext hh]

theorem out_at (t : Fin cfg0.N) (r : Fin 512) (j : Fin 4096) (R : Fin 16896) (hR : R.val = 512 * t.val + r.val) :
    (out0_4 (iblk m c 0 t) (iblk m c 1 t) (iblk m c 2 t) (iblk m c 3 t) (ix2 r j) : EReal)
      = result (m ((c : Thread nD τ).loc main_arg0)) (m ((c : Thread nD τ).loc main_arg1)) (m ((c : Thread nD τ).loc main_arg2)) (m ((c : Thread nD τ).loc main_arg3)) (ix2 R j) := by
  have hr := r.isLt
  have hRl := R.isLt
  rw [tile_apply _ _ _ _ r j ⟨r.val / 32, by omega⟩ rfl]
  refine modulated_congr (fun k => ?_) (fun k => ?_) (fun k => ?_) (fun k => ?_) j
  · show (((cfg0.win 0).blk t).view.read (Elt Ideal) (V m c main_arg0) : Vec Ideal S512x4096 .f32) (ix2 r k) = _
    rw [V_main_arg0 m c]
    exact read_x t _ r k R hR
  · show (((cfg0.win 1).blk t).view.read (Elt Ideal) (V m c main_v0) : Vec Ideal S1x4096 .f32) (ix2 0 k) = _
    rw [V_g m c]
    exact (read_g t _ k).trans (gain_apply _ k)
  · show (((cfg0.win 2).blk t).view.read (Elt Ideal) (V m c main_v7) : Vec Ideal S1x16x4096 .f32) (ix3 0 ⟨r.val / 32, _⟩ k) = _
    rw [V_s m c]
    refine (read_s t _ _ k ⟨R.val / 512, by omega⟩ (by show R.val / 512 = _; omega)).trans ?_
    exact gates_apply _ _ _ k R rfl (by show r.val / 32 = _; omega)
  · show (((cfg0.win 3).blk t).view.read (Elt Ideal) (V m c main_v14) : Vec Ideal S1x16x4096 .f32) (ix3 0 ⟨r.val / 32, _⟩ k) = _
    rw [V_h m c]
    refine (read_h t _ _ k ⟨R.val / 512, by omega⟩ (by show R.val / 512 = _; omega)).trans ?_
    exact gates_apply _ _ _ k R rfl (by show r.val / 32 = _; omega)

/-- The result array after the run. -/
theorem final : (dats m 0 c).arrAt 4 cfg0.N
    = result (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have e := (idx t).2.2.2.2
  generalize hG : result (m ((c : Thread nD τ).loc main_arg0)) (m ((c : Thread nD τ).loc main_arg1)) (m ((c : Thread nD τ).loc main_arg2)) (m ((c : Thread nD τ).loc main_arg3)) = G
  have key := fun r j R hR => (out_at m c t r j R hR).trans (congrFun hG _)
  blk_simp
  rw [after0_4]
  have e0 : ((win0_4.blk t).view.emb y 0 : ℕ) = 512 * t.val + (y 0 : ℕ) := by
    blk_simp [e]
    exact congrArg (· + (y 0 : ℕ)) (Nat.mul_comm _ _)
  have e1 : y 1 = (win0_4.blk t).view.emb y 1 := Fin.ext (by blk_simp [e])
  have k := key (y 0) (y 1) ((win0_4.blk t).view.emb y 0) e0
  exact (congrArg (out0_4 (iblk m c 0 t) (iblk m c 1 t) (iblk m c 2 t) (iblk m c 3 t)) (eq_ix2 y)).trans (k.trans (congrArg G ((congrArg (ix2 _ ·) e1).trans (eq_ix2 ((win0_4.blk t).view.emb y)).symm)))

end Cert.NormModIdeal.Proj

namespace Cert.NormModReferenceIdeal.Proj

open Cert.NormModReferenceIdeal Cert.NormModReferenceIdeal.Gen
open Idealize.ShloMosaic Idealize.ShloMosaic.TcCoe Idealize.SL.Sem
open Cert.FinalNormIdeal.Proj (normed)
open Cert.MixOutIdeal.Proj (gateRow)
open Cert.NormModIdeal.Proj (modulated modulated_congr)

/-- The reference's norm of the prompts' rows, with their scales and shifts. -/
def prompts (X : FVec Ideal S2x8192x4096 .f32) (g : FVec Ideal S4096 .f32) (s h : FVec Ideal S2x4096 .f32) : FVec Ideal S2x8192x4096 .f32 :=
  addf (mulf (mulf (mulf X (broadcastInDim S2x8192x4096 ![0, 1, 2] bcast_S2x8192x1_S2x8192x4096_0_1_2 (Host.rsqrt (addf (Host.divf (broadcastInDim S2x8192x1 ![0, 1] bcast_S2x8192_S2x8192x1_0_1 (Host.reduceAdd (mulf X X) (constant S_ .f32 0x00000000#32) reducesTo_S2x8192x4096_S2x8192_d2 h_S_)) (broadcastInDim S2x8192x1 ![] bcast_S_S2x8192x1 (constant S_ .f32 0x45800000#32))) (broadcastInDim S2x8192x1 ![] bcast_S_S2x8192x1 (constant S_ .f32 0x358637BD#32)))))) (broadcastInDim S2x8192x4096 ![0, 1, 2] bcast_S1x1x4096_S2x8192x4096_0_1_2 (broadcastInDim S1x1x4096 ![2] bcast_S4096_S1x1x4096_2 g))) (broadcastInDim S2x8192x4096 ![0, 1, 2] bcast_S2x1x4096_S2x8192x4096_0_1_2 (addf (broadcastInDim S2x1x4096 ![] bcast_S_S2x1x4096 (constant S_ .f32 0x3F800000#32)) (broadcastInDim S2x1x4096 ![0, 2] bcast_S2x4096_S2x1x4096_0_2 s)))) (broadcastInDim S2x8192x4096 ![0, 1, 2] bcast_S2x1x4096_S2x8192x4096_0_1_2 (broadcastInDim S2x1x4096 ![0, 2] bcast_S2x4096_S2x1x4096_0_2 h))

theorem prompts_apply (X : FVec Ideal S2x8192x4096 .f32) (g : FVec Ideal S4096 .f32) (s h : FVec Ideal S2x4096 .f32) (b : Fin 2) (p : Fin 8192) (j : Fin 4096) :
    (prompts X g s h (ix3 b p j) : EReal) = modulated (fun k => X (ix3 b p k)) (fun k => g (ix1 k)) (fun k => s (ix2 b k)) (fun k => h (ix2 b k)) j := by
  unfold prompts modulated normed
  pointwise

/-- The reference's norm of the samples' rows, with their scales and shifts. -/
def samples (X : FVec Ideal S16x32x4096 .f32) (g : FVec Ideal S4096 .f32) (s h : FVec Ideal S16x4096 .f32) : FVec Ideal S16x32x4096 .f32 :=
  addf (mulf (mulf (mulf X (broadcastInDim S16x32x4096 ![0, 1, 2] bcast_S16x32x1_S16x32x4096_0_1_2 (Host.rsqrt (addf (Host.divf (broadcastInDim S16x32x1 ![0, 1] bcast_S16x32_S16x32x1_0_1 (Host.reduceAdd (mulf X X) (constant S_ .f32 0x00000000#32) reducesTo_S16x32x4096_S16x32_d2 h_S_)) (broadcastInDim S16x32x1 ![] bcast_S_S16x32x1 (constant S_ .f32 0x45800000#32))) (broadcastInDim S16x32x1 ![] bcast_S_S16x32x1 (constant S_ .f32 0x358637BD#32)))))) (broadcastInDim S16x32x4096 ![0, 1, 2] bcast_S1x1x4096_S16x32x4096_0_1_2 (broadcastInDim S1x1x4096 ![2] bcast_S4096_S1x1x4096_2 g))) (broadcastInDim S16x32x4096 ![0, 1, 2] bcast_S16x1x4096_S16x32x4096_0_1_2 (addf (broadcastInDim S16x1x4096 ![] bcast_S_S16x1x4096 (constant S_ .f32 0x3F800000#32)) (broadcastInDim S16x1x4096 ![0, 2] bcast_S16x4096_S16x1x4096_0_2 s)))) (broadcastInDim S16x32x4096 ![0, 1, 2] bcast_S16x1x4096_S16x32x4096_0_1_2 (broadcastInDim S16x1x4096 ![0, 2] bcast_S16x4096_S16x1x4096_0_2 h))

theorem samples_apply (X : FVec Ideal S16x32x4096 .f32) (g : FVec Ideal S4096 .f32) (s h : FVec Ideal S16x4096 .f32) (b : Fin 16) (p : Fin 32) (j : Fin 4096) :
    (samples X g s h (ix3 b p j) : EReal) = modulated (fun k => X (ix3 b p k)) (fun k => g (ix1 k)) (fun k => s (ix2 b k)) (fun k => h (ix2 b k)) j := by
  unfold samples modulated normed
  pointwise

/-- The prompts' rows, then the samples'. -/
def joined (A : FVec Ideal S2x8192x4096 .f32) (B : FVec Ideal S16x32x4096 .f32) : FVec Ideal S16896x4096 .bf16 :=
  truncf .bf16 (concatenate S16896x4096 0 [⟨S16384x4096, (shapeCast S16384x4096 A shapeCasts_S2x8192x4096_S16384x4096 : FVec Ideal S16384x4096 .f32)⟩,
    ⟨S512x4096, (shapeCast S512x4096 B shapeCasts_S16x32x4096_S512x4096 : FVec Ideal S512x4096 .f32)⟩] concatenates_S16384x4096_S512x4096_S16896x4096_d0 : FVec Ideal S16896x4096 .f32) bitsLt_bf16_f32

theorem joined_prompt (A : FVec Ideal S2x8192x4096 .f32) (B : FVec Ideal S16x32x4096 .f32) (R : Fin 16896) (J : Fin 4096) (h : R.val < 16384) :
    (joined A B (ix2 R J) : EReal) = A (ix3 ⟨R.val / 8192, by omega⟩ ⟨R.val % 8192, by omega⟩ J) := by
  unfold joined
  pointwise
  split_ifs <;> first | rfl | omega

theorem joined_sample (A : FVec Ideal S2x8192x4096 .f32) (B : FVec Ideal S16x32x4096 .f32) (R : Fin 16896) (J : Fin 4096) (h : ¬R.val < 16384) :
    (joined A B (ix2 R J) : EReal) = B (ix3 ⟨(R.val - 16384) / 32, by omega⟩ ⟨(R.val - 16384) % 32, by omega⟩ J) := by
  unfold joined
  pointwise
  split_ifs <;> first | rfl | omega

/-- The reference's result of its arguments. -/
def res (x : FVec Ideal S16896x4096 .f32) (g : FVec Ideal S4096 .f32) (s h : FVec Ideal S18x4096 .f32) : FVec Ideal S16896x4096 .bf16 :=
  joined (prompts (shapeCast S2x8192x4096 (extractStridedSlice S16384x4096 ![0, 0] x slices_S16896x4096_S16384x4096_0_0 : FVec Ideal S16384x4096 .f32) shapeCasts_S16384x4096_S2x8192x4096) g
      (extractStridedSlice S2x4096 ![0, 0] s slices_S18x4096_S2x4096_0_0) (extractStridedSlice S2x4096 ![0, 0] h slices_S18x4096_S2x4096_0_0))
    (samples (shapeCast S16x32x4096 (extractStridedSlice S512x4096 ![16384, 0] x slices_S16896x4096_S512x4096_16384_0 : FVec Ideal S512x4096 .f32) shapeCasts_S512x4096_S16x32x4096) g
      (extractStridedSlice S16x4096 ![2, 0] s slices_S18x4096_S16x4096_2_0) (extractStridedSlice S16x4096 ![2, 0] h slices_S18x4096_S16x4096_2_0))

theorem res_eq (x : FVec Ideal S16896x4096 .f32) (g : FVec Ideal S4096 .f32) (s h : FVec Ideal S18x4096 .f32) : res x g s h = Cert.NormModIdeal.Proj.result x g s h := by
  funext i
  obtain ⟨R, J, rfl⟩ : ∃ (R : Fin 16896) (J : Fin 4096), i = ix2 R J := ⟨i 0, i 1, eq_ix2 i⟩
  show _ = modulated (fun k => x (ix2 R k)) (fun k => g (ix1 k)) (fun k => s (ix2 (gateRow R) k)) (fun k => h (ix2 (gateRow R) k)) J
  have at_row : ∀ {n : ℕ} (X : (⟨2, ![n, 4096]⟩ : Shape).Idx → EReal) (A : Fin n) (a : ℕ) (ha : a < n) (k : Fin 4096), a = A.val → X (ix2 ⟨a, ha⟩ k) = X (ix2 A k) :=
    fun X A a ha k h => congrArg X (congrArg (ix2 · k) (Fin.ext h))
  unfold res
  by_cases hR : R.val < 16384
  · rw [joined_prompt _ _ R J hR, prompts_apply]
    refine modulated_congr (fun k => ?_) (fun k => rfl) (fun k => ?_) (fun k => ?_) J
    · pointwise
      exact at_row x R _ _ k (by omega)
    · pointwise
      exact at_row s (gateRow R) _ _ k (if_pos hR).symm
    · pointwise
      exact at_row h (gateRow R) _ _ k (if_pos hR).symm
  · rw [joined_sample _ _ R J hR, samples_apply]
    refine modulated_congr (fun k => ?_) (fun k => rfl) (fun k => ?_) (fun k => ?_) J
    · pointwise
      exact at_row x R _ _ k (by omega)
    · pointwise
      exact at_row s (gateRow R) _ _ k (if_neg hR).symm
    · pointwise
      exact at_row h (gateRow R) _ _ k (if_neg hR).symm

/-- The frame: the reference declares no semaphore. -/
theorem frame_reference (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => (h c).2, sem_eq_zero_of_no_sems (by decide) r.2⟩) (Cert.NormModReferenceIdeal.Value.run (F := Ideal) m ρ)

end Cert.NormModReferenceIdeal.Proj

namespace Cert.Proof

open Idealize.ShloMosaic Idealize.SL.Sem

theorem algebraic_norm_mod : Cert.algebraic_NormModIdeal_NormModReferenceIdeal (hNormModIdeal := Cert.NormModIdeal.Gen.facts) (hNormModReferenceIdeal := Cert.NormModReferenceIdeal.Gen.facts) := by
  intro m g m' g' _ hargs
  refine ⟨fun c => Cert.NormModIdeal.Proj.result (m ((c.tc : Thread Cert.NormModIdeal.nD Cert.NormModIdeal.τ).loc Cert.NormModIdeal.main_arg0)) (m ((c.tc : Thread Cert.NormModIdeal.nD Cert.NormModIdeal.τ).loc Cert.NormModIdeal.main_arg1)) (m ((c.tc : Thread Cert.NormModIdeal.nD Cert.NormModIdeal.τ).loc Cert.NormModIdeal.main_arg2)) (m ((c.tc : Thread Cert.NormModIdeal.nD Cert.NormModIdeal.τ).loc Cert.NormModIdeal.main_arg3)), ?_, ?_⟩
  · exact (θ_run _ _ _).mono (fun r h c => ⟨(h c).1.trans (Cert.NormModIdeal.Proj.final m c), (h c).2⟩) (Cert.NormModIdeal.Value.run_blocks (F := Ideal) m g)
  · refine (θ_run _ _ _).mono (fun r h c => ⟨(h c).1.trans ?_, (h c).2⟩) (Cert.NormModReferenceIdeal.Value.run (F := Ideal) m' g')
    obtain ⟨a0, a1, a2, a3⟩ := hargs c
    exact (Cert.NormModReferenceIdeal.Proj.res_eq _ _ _ _).trans (congr (congr (congr (congrArg _ a0) a1) a2) a3)

end Cert.Proof

end
-- ==== Proof.Modulation.lean ====
/- The modulation: the tiles of every layer's product are the layers' products. -/
module

public import proofs.«01_k».proof.Proof.Gen.ModulationIdeal.Value
public import proofs.«01_k».proof.Proof.Gen.ModulationReferenceIdeal.Run
public import proofs.«01_k».proof.Defs
public import Idealize.ShloMosaic.Lib.Quiescent
public import Idealize.ShloMosaic.PureOps.Ideal
public import Idealize.ShloMosaic.Lib.Pointwise
public import Idealize.ShloMosaic.Lib.StableHlo.RunRead
public import Idealize.ShloMosaic.Lib.Pipeline.ValueKit

@[expose] public section

set_option maxRecDepth 16384

noncomputable section

namespace Cert.ModulationIdeal.Proj

open Cert.ModulationIdeal Cert.ModulationIdeal.Gen
open Idealize.ShloMosaic Idealize.ShloMosaic.TcCoe Idealize.SL.Sem

/-- The blocks of a point: the conditions, a layer's band of columns and its biases, and the band of the result. -/
theorem idx : ∀ t : Fin cfg0.N, win0_0.index t = ![0, 0] ∧ win0_1.index t = ![t.val / 12, 0, t.val % 12] ∧ win0_2.index t = ![t.val / 12, 0, t.val % 12]
    ∧ win0_3.index t = ![t.val / 12, 0, t.val % 12] :=
  (by decide +kernel : ∀ t : Fin grid0.N, _)

/-- A row's activated product with a column, and the column's bias. -/
def entry (c w : Fin 4096 → EReal) (b : EReal) : EReal :=
  (∑ d, c d * Ideal.logistic (c d) * w d) + b

theorem tile_apply (x : Vec Ideal S18x4096 .f32) (w : Vec Ideal S1x4096x1024 .f32) (b : Vec Ideal S1x1x1024 .f32) (r : Fin 18) (j : Fin 1024) :
    (out0_3 x w b (ix3 0 r j) : EReal) = entry (fun d => x (ix2 r d)) (fun d => w (ix3 0 d j)) (b (ix3 0 0 j)) := by
  unfold out0_3 entry
  frame_out
  pointwise [k0_pay1]

section
variable (t : Fin cfg0.N)
theorem read_c (X : FVec Ideal S18x4096 .f32) (r : Fin 18) (d : Fin 4096) :
    (((cfg0.win 0).blk t).view.read (Elt Ideal) X : Vec Ideal S18x4096 .f32) (ix2 r d) = X (ix2 r d) := by
  have e := (idx t).1
  blk_simp [e]
  blk_ext [e]
theorem read_w (X : FVec Ideal S4x4096x12288 .f32) (d : Fin 4096) (j : Fin 1024) (L : Fin 4) (J : Fin 12288) (hL : L.val = t.val / 12) (hJ : J.val = 1024 * (t.val % 12) + j.val) :
    (((cfg0.win 1).blk t).view.read (Elt Ideal) X : Vec Ideal S1x4096x1024 .f32) (ix3 0 d j) = X (ix3 L d J) := by
  have e := (idx t).2.1
  blk_simp [e]
  blk_ext [e]
theorem read_b (X : FVec Ideal S4x1x12288 .f32) (j : Fin 1024) (L : Fin 4) (J : Fin 12288) (hL : L.val = t.val / 12) (hJ : J.val = 1024 * (t.val % 12) + j.val) :
    (((cfg0.win 2).blk t).view.read (Elt Ideal) X : Vec Ideal S1x1x1024 .f32) (ix3 0 0 j) = X (ix3 L 0 J) := by
  have e := (idx t).2.2.1
  blk_simp [e]
  blk_ext [e]
end

/-- Every layer's shifts, scales and gates. -/
def result (x : FVec Ideal S18x4096 .f32) (w : FVec Ideal S4x4096x12288 .f32) (b : FVec Ideal S4x12288 .f32) : FVec Ideal S4x18x12288 .f32 :=
  fun i => entry (fun d => x (ix2 (i 1) d)) (fun d => w (ix3 (i 0) d (i 2))) (b (ix2 (i 0) (i 2)))

variable (m : (ℓ : Loc nD τ sig) → Buf (Elt Ideal) ℓ) (c : Dev nD)

theorem V_b : V m c main_v0 = (shapeCast S4x1x12288 (m ((c : Thread nD τ).loc main_arg2) : FVec Ideal S4x12288 .f32) shapeCasts_S4x12288_S4x1x12288 : FVec Ideal S4x1x12288 .f32) := by
  show StableHlo.after hostOps0 _ (Proc.devRef .tc main_v0) = _
  after_reads_simp
  rfl

theorem bias_apply (b : FVec Ideal S4x12288 .f32) (L : Fin 4) (J : Fin 12288) : (shapeCast S4x1x12288 b shapeCasts_S4x12288_S4x1x12288 : FVec Ideal S4x1x12288 .f32) (ix3 L 0 J) = b (ix2 L J) := by
  pointwise

theorem out_at (t : Fin cfg0.N) (r : Fin 18) (j : Fin 1024) (L : Fin 4) (J : Fin 12288) (hL : L.val = t.val / 12) (hJ : J.val = 1024 * (t.val % 12) + j.val) :
    (out0_3 (iblk m c 0 t) (iblk m c 1 t) (iblk m c 2 t) (ix3 0 r j) : EReal)
      = result (m ((c : Thread nD τ).loc main_arg0)) (m ((c : Thread nD τ).loc main_arg1)) (m ((c : Thread nD τ).loc main_arg2)) (ix3 L r J) := by
  rw [tile_apply]
  refine congr (congrArg₂ entry (funext fun d => ?_) (funext fun d => ?_)) ?_
  · show (((cfg0.win 0).blk t).view.read (Elt Ideal) (V m c main_arg0) : Vec Ideal S18x4096 .f32) (ix2 r d) = _
    rw [V_main_arg0 m c]
    exact read_c t _ r d
  · show (((cfg0.win 1).blk t).view.read (Elt Ideal) (V m c main_arg1) : Vec Ideal S1x4096x1024 .f32) (ix3 0 d j) = _
    rw [V_main_arg1 m c]
    exact read_w t _ d j L J hL hJ
  · show (((cfg0.win 2).blk t).view.read (Elt Ideal) (V m c main_v0) : Vec Ideal S1x1x1024 .f32) (ix3 0 0 j) = _
    rw [V_b m c]
    exact (read_b t _ j L J hL hJ).trans (bias_apply _ L J)

/-- The result array after the run. -/
theorem final : (dats m 0 c).arrAt 3 cfg0.N = result (m ((c : Thread nD τ).loc main_arg0)) (m ((c : Thread nD τ).loc main_arg1)) (m ((c : Thread nD τ).loc main_arg2)) := by
  refine (dats m 0 c).arrAt_eq_of_covers 3 _ (by decide +kernel) fun t hf y => ?_
  have e := (idx t).2.2.2
  generalize hG : result (m ((c : Thread nD τ).loc main_arg0)) (m ((c : Thread nD τ).loc main_arg1)) (m ((c : Thread nD τ).loc main_arg2)) = G
  have key := fun r j L J hL hJ => (out_at m c t r j L J hL hJ).trans (congrFun hG _)
  blk_simp
  rw [after0_3]
  have y0 : y 0 = (0 : Fin 1) := Subsingleton.elim (α := Fin 1) _ _
  have e0 : ((win0_3.blk t).view.emb y 0 : ℕ) = t.val / 12 := by
    have : (y 0 : ℕ) = 0 := congrArg Fin.val y0
    blk_simp [e, this]
  have e1 : y 1 = (win0_3.blk t).view.emb y 1 := Fin.ext (by blk_simp [e])
  have e2 : ((win0_3.blk t).view.emb y 2 : ℕ) = 1024 * (t.val % 12) + (y 2 : ℕ) := by
    blk_simp [e]
    exact congrArg (· + (y 2 : ℕ)) (Nat.mul_comm _ _)
  have k := key (y 1) (y 2) ((win0_3.blk t).view.emb y 0) ((win0_3.blk t).view.emb y 2) e0 e2
  refine (congrArg (out0_3 (iblk m c 0 t) (iblk m c 1 t) (iblk m c 2 t)) ((eq_ix3 y).trans (congrArg (ix3 · (y 1) (y 2)) y0))).trans (k.trans (congrArg G ?_))
  exact (congrArg (ix3 _ · _) e1).trans (eq_ix3 ((win0_3.blk t).view.emb y)).symm

end Cert.ModulationIdeal.Proj

namespace Cert.ModulationReferenceIdeal.Proj

open Cert.ModulationReferenceIdeal Cert.ModulationReferenceIdeal.Gen
open Idealize.ShloMosaic Idealize.ShloMosaic.TcCoe Idealize.SL.Sem
open Cert.ModulationIdeal.Proj (entry)

/-- The reference's product of a layer's weights and biases. -/
def layer (x : FVec Ideal S18x4096 .f32) (w : FVec Ideal S1x4096x12288 .f32) (b : FVec Ideal S1x12288 .f32) : FVec Ideal S1x18x12288 .f32 :=
  broadcastInDim S1x18x12288 ![1, 2] bcast_S18x12288_S1x18x12288_1_2 (addf (Host.dotGeneral dot_S18x4096_S4096x12288_S18x12288_1_0_0_1_n_n none (mulf x (Host.divf (broadcastInDim S18x4096 ![] bcast_S_S18x4096 (constant S_ .f32 0x3F800000#32)) (addf (broadcastInDim S18x4096 ![] bcast_S_S18x4096 (constant S_ .f32 0x3F800000#32)) (Host.exp (Host.negf x))))) (shapeCast S4096x12288 w shapeCasts_S1x4096x12288_S4096x12288)) (broadcastInDim S18x12288 ![0, 1] bcast_S1x12288_S18x12288_0_1 (broadcastInDim S1x12288 ![1] bcast_S12288_S1x12288_1 (shapeCast S12288 b shapeCasts_S1x12288_S12288))))

theorem layer_apply (x : FVec Ideal S18x4096 .f32) (w : FVec Ideal S1x4096x12288 .f32) (b : FVec Ideal S1x12288 .f32) (r : Fin 18) (J : Fin 12288) :
    (layer x w b (ix3 0 r J) : EReal) = entry (fun d => x (ix2 r d)) (fun d => w (ix3 0 d J)) (b (ix2 0 J)) := by
  unfold layer entry Ideal.logistic
  pointwise

/-- The reference's result of its arguments. -/
def res (x : FVec Ideal S18x4096 .f32) (w : FVec Ideal S4x4096x12288 .f32) (b : FVec Ideal S4x12288 .f32) : FVec Ideal S4x18x12288 .f32 :=
  concatenate S4x18x12288 0 [
    ⟨S1x18x12288, (layer x (extractStridedSlice S1x4096x12288 ![0, 0, 0] w slices_S4x4096x12288_S1x4096x12288_0_0_0) (extractStridedSlice S1x12288 ![0, 0] b slices_S4x12288_S1x12288_0_0) : FVec Ideal S1x18x12288 .f32)⟩,
    ⟨S1x18x12288, (layer x (extractStridedSlice S1x4096x12288 ![1, 0, 0] w slices_S4x4096x12288_S1x4096x12288_1_0_0) (extractStridedSlice S1x12288 ![1, 0] b slices_S4x12288_S1x12288_1_0) : FVec Ideal S1x18x12288 .f32)⟩,
    ⟨S1x18x12288, (layer x (extractStridedSlice S1x4096x12288 ![2, 0, 0] w slices_S4x4096x12288_S1x4096x12288_2_0_0) (extractStridedSlice S1x12288 ![2, 0] b slices_S4x12288_S1x12288_2_0) : FVec Ideal S1x18x12288 .f32)⟩,
    ⟨S1x18x12288, (layer x (extractStridedSlice S1x4096x12288 ![3, 0, 0] w slices_S4x4096x12288_S1x4096x12288_3_0_0) (extractStridedSlice S1x12288 ![3, 0] b slices_S4x12288_S1x12288_3_0) : FVec Ideal S1x18x12288 .f32)⟩]
    concatenates_S1x18x12288_S1x18x12288_S1x18x12288_S1x18x12288_S4x18x12288_d0

theorem res_eq (x : FVec Ideal S18x4096 .f32) (w : FVec Ideal S4x4096x12288 .f32) (b : FVec Ideal S4x12288 .f32) : res x w b = Cert.ModulationIdeal.Proj.result x w b := by
  funext i
  obtain ⟨L, r, J, rfl⟩ : ∃ (L : Fin 4) (r : Fin 18) (J : Fin 12288), i = ix3 L r J := ⟨i 0, i 1, i 2, eq_ix3 i⟩
  show _ = entry (fun d => x (ix2 r d)) (fun d => w (ix3 L d J)) (b (ix2 L J))
  unfold res
  match L with
  | 0 | 1 | 2 | 3 =>
    pointwise
    refine (layer_apply _ _ _ r J).trans ?_
    refine congr (congrArg₂ entry rfl (funext fun d => ?_)) ?_ <;> pointwise

/-- The frame: the reference declares no semaphore. -/
theorem frame_reference (m : (ℓ : Loc nD τ sig) → Buf (Elt Ideal) ℓ) (ρ : Dev nD → PrngReg) :
    θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => (h c).2, sem_eq_zero_of_no_sems (by decide) r.2⟩) (Cert.ModulationReferenceIdeal.Value.run (F := Ideal) m ρ)

end Cert.ModulationReferenceIdeal.Proj

namespace Cert.Proof

open Idealize.ShloMosaic Idealize.SL.Sem

theorem algebraic_modulation : Cert.algebraic_ModulationIdeal_ModulationReferenceIdeal (hModulationIdeal := Cert.ModulationIdeal.Gen.facts) (hModulationReferenceIdeal := Cert.ModulationReferenceIdeal.Gen.facts) := by
  intro m g m' g' _ hargs
  refine ⟨fun c => Cert.ModulationIdeal.Proj.result (m ((c.tc : Thread Cert.ModulationIdeal.nD Cert.ModulationIdeal.τ).loc Cert.ModulationIdeal.main_arg0)) (m ((c.tc : Thread Cert.ModulationIdeal.nD Cert.ModulationIdeal.τ).loc Cert.ModulationIdeal.main_arg1)) (m ((c.tc : Thread Cert.ModulationIdeal.nD Cert.ModulationIdeal.τ).loc Cert.ModulationIdeal.main_arg2)), ?_, ?_⟩
  · exact (θ_run _ _ _).mono (fun r h c => ⟨(h c).1.trans (Cert.ModulationIdeal.Proj.final m c), (h c).2⟩) (Cert.ModulationIdeal.Value.run_blocks (F := Ideal) m g)
  · refine (θ_run _ _ _).mono (fun r h c => ⟨(h c).1.trans ?_, (h c).2⟩) (Cert.ModulationReferenceIdeal.Value.run (F := Ideal) m' g')
    obtain ⟨a0, a1, a2⟩ := hargs c
    exact (Cert.ModulationReferenceIdeal.Proj.res_eq _ _ _).trans (congr (congr (congrArg _ a0) a1) a2)

end Cert.Proof

end
-- ==== Proof.lean ====
/- The certificate's claims, each from the module that proves it. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.EvenIn
public import proofs.«01_k».proof.Proof.Gen.EvenIn.Frame
public import proofs.«01_k».proof.Proof.Gen.EvenInIdeal
public import proofs.«01_k».proof.Proof.Gen.EvenInIdeal.Frame
public import proofs.«01_k».proof.Proof.Gen.EvenInReferenceIdeal
public import proofs.«01_k».proof.Proof.Gen.EvenInReferenceIdeal.Run
public import proofs.«01_k».proof.Proof.Gen.OddIn
public import proofs.«01_k».proof.Proof.Gen.OddIn.Frame
public import proofs.«01_k».proof.Proof.Gen.OddInIdeal
public import proofs.«01_k».proof.Proof.Gen.OddInIdeal.Frame
public import proofs.«01_k».proof.Proof.Gen.OddInReferenceIdeal
public import proofs.«01_k».proof.Proof.Gen.OddInReferenceIdeal.Run
public import proofs.«01_k».proof.Proof.Gen.OddRotary
public import proofs.«01_k».proof.Proof.Gen.OddRotary.Frame
public import proofs.«01_k».proof.Proof.Gen.OddRotaryIdeal
public import proofs.«01_k».proof.Proof.Gen.OddRotaryIdeal.Frame
public import proofs.«01_k».proof.Proof.Gen.OddRotaryReferenceIdeal
public import proofs.«01_k».proof.Proof.Gen.OddRotaryReferenceIdeal.Run
public import proofs.«01_k».proof.Proof.Gen.MixOut
public import proofs.«01_k».proof.Proof.Gen.MixOut.Frame
public import proofs.«01_k».proof.Proof.Gen.MixOutIdeal
public import proofs.«01_k».proof.Proof.Gen.MixOutIdeal.Frame
public import proofs.«01_k».proof.Proof.Gen.MixOutIdeal.Value
public import proofs.«01_k».proof.Proof.Gen.MixOutReferenceIdeal
public import proofs.«01_k».proof.Proof.Gen.MixOutReferenceIdeal.Run
public import proofs.«01_k».proof.Proof.KernelFrame
public import proofs.«01_k».proof.Proof.Data
public import proofs.«01_k».proof.Proof.ReferenceFrame
public import proofs.«01_k».proof.Proof.Final
public import proofs.«01_k».proof.Proof.EvenIn
public import proofs.«01_k».proof.Proof.OddIn
public import proofs.«01_k».proof.Proof.OddNew
public import proofs.«01_k».proof.Proof.OddRotary
public import proofs.«01_k».proof.Proof.MixOut
public import proofs.«01_k».proof.Proof.Gen.Qb
public import proofs.«01_k».proof.Proof.Gen.Qb.Frame
public import proofs.«01_k».proof.Proof.Gen.QbIdeal
public import proofs.«01_k».proof.Proof.Gen.QbIdeal.Frame
public import proofs.«01_k».proof.Proof.Gen.QbIdeal.Value
public import proofs.«01_k».proof.Proof.Gen.QbReferenceIdeal
public import proofs.«01_k».proof.Proof.Gen.QbReferenceIdeal.Run
public import proofs.«01_k».proof.Proof.Qb
public import proofs.«01_k».proof.Proof.Gen.Kvb
public import proofs.«01_k».proof.Proof.Gen.Kvb.Frame
public import proofs.«01_k».proof.Proof.Gen.KvbIdeal
public import proofs.«01_k».proof.Proof.Gen.KvbIdeal.Frame
public import proofs.«01_k».proof.Proof.Gen.KvbIdeal.Value
public import proofs.«01_k».proof.Proof.Gen.KvbReferenceIdeal
public import proofs.«01_k».proof.Proof.Gen.KvbReferenceIdeal.Run
public import proofs.«01_k».proof.Proof.Kvb
public import proofs.«01_k».proof.Proof.Gen.FinalNorm
public import proofs.«01_k».proof.Proof.Gen.FinalNorm.Frame
public import proofs.«01_k».proof.Proof.Gen.FinalNormIdeal
public import proofs.«01_k».proof.Proof.Gen.FinalNormIdeal.Frame
public import proofs.«01_k».proof.Proof.Gen.FinalNormIdeal.Value
public import proofs.«01_k».proof.Proof.Gen.FinalNormReferenceIdeal
public import proofs.«01_k».proof.Proof.Gen.FinalNormReferenceIdeal.Run
public import proofs.«01_k».proof.Proof.Gen.NormMod
public import proofs.«01_k».proof.Proof.Gen.NormMod.Frame
public import proofs.«01_k».proof.Proof.Gen.NormModIdeal
public import proofs.«01_k».proof.Proof.Gen.NormModIdeal.Frame
public import proofs.«01_k».proof.Proof.Gen.NormModIdeal.Value
public import proofs.«01_k».proof.Proof.Gen.NormModReferenceIdeal
public import proofs.«01_k».proof.Proof.Gen.NormModReferenceIdeal.Run
public import proofs.«01_k».proof.Proof.Gen.Modulation
public import proofs.«01_k».proof.Proof.Gen.Modulation.Frame
public import proofs.«01_k».proof.Proof.Gen.ModulationIdeal
public import proofs.«01_k».proof.Proof.Gen.ModulationIdeal.Frame
public import proofs.«01_k».proof.Proof.Gen.ModulationIdeal.Value
public import proofs.«01_k».proof.Proof.Gen.ModulationReferenceIdeal
public import proofs.«01_k».proof.Proof.Gen.ModulationReferenceIdeal.Run
public import proofs.«01_k».proof.Proof.FinalNorm
public import proofs.«01_k».proof.Proof.NormMod
public import proofs.«01_k».proof.Proof.Modulation
public import Idealize.ShloMosaic.Adequacy
public import Idealize.ShloMosaic.Init

@[expose] public section

noncomputable section

namespace Cert.Proof

open Idealize.ShloMosaic Idealize.SL.Sem Cert.Kernel

/-- The named mask is what the kernel's literal of -1e30 stands for. -/
theorem preserves : Cert.preserves_Kernel_KernelIdeal :=
  IdealRules.named_const.statement Cert.KernelIdeal.κ "mask" .f32 0xF149F2CA#32 ⊥ rfl

/-- The kernel's result is the reference's where queries, keys and position parts are real. -/
theorem algebraic : Cert.algebraic_KernelIdeal_ReferenceIdeal_pre_finite_scores (hKernelIdeal := Cert.KernelIdeal.Gen.facts)
    (hReferenceIdeal := Cert.ReferenceIdeal.Gen.facts) (hPre_finite_scores := Cert.Pre_finite_scores.Mla.facts) := by
  intro m g m' g' hpre hargs
  letI := Cert.Pre_finite_scores.Mla.facts
  refine ⟨fun c => Cert.KernelIdeal.Mla.goal m c, ?_, ?_⟩
  · refine (θ_run _ _ _).mono (fun r h c => ⟨?_, h.2.1 c⟩) (θ_run_and (Cert.KernelIdeal.Mla.run_main m g) (Cert.KernelIdeal.Mla.frame_ideal m g))
    refine (h.1.1.out_eq c 3).trans (Cert.KernelIdeal.Mla.final m c fun b g R => ?_)
    obtain ⟨h0, h1, h2, h3⟩ := Cert.Pre_finite_scores.Mla.real_of_pre _ _ _ _ _ (hpre c)
    exact Cert.Pre_finite_scores.Mla.score_real _ _ _ _ h0 h1 h2 h3 b g R
  · refine (θ_run _ _ _).mono (fun r h c => ⟨(h c).1.trans ?_, (h c).2⟩) (Cert.ReferenceIdeal.Value.run (F := Ideal) m' g')
    obtain ⟨a0, a1, a2, a3, a4⟩ := hargs c
    rw [Cert.ReferenceIdeal.Mla.res_eq]
    unfold Cert.KernelIdeal.Mla.goal
    exact congr (congr (congr (congr (congrArg _ a0) a2) a4) a1) a3

theorem claim : Cert.Claim := ⟨Cert.Kernel.Gen.facts, Cert.KernelIdeal.Gen.facts, Cert.ReferenceIdeal.Gen.facts,
  Cert.EvenIn.Gen.facts, Cert.EvenInIdeal.Gen.facts, Cert.EvenInReferenceIdeal.Gen.facts,
  Cert.OddIn.Gen.facts, Cert.OddInIdeal.Gen.facts, Cert.OddInReferenceIdeal.Gen.facts,
  Cert.MixOut.Gen.facts, Cert.MixOutIdeal.Gen.facts, Cert.MixOutReferenceIdeal.Gen.facts,
  Cert.Qb.Gen.facts, Cert.QbIdeal.Gen.facts, Cert.QbReferenceIdeal.Gen.facts,
  Cert.Kvb.Gen.facts, Cert.KvbIdeal.Gen.facts, Cert.KvbReferenceIdeal.Gen.facts,
  Cert.FinalNorm.Gen.facts, Cert.FinalNormIdeal.Gen.facts, Cert.FinalNormReferenceIdeal.Gen.facts,
  Cert.NormMod.Gen.facts, Cert.NormModIdeal.Gen.facts, Cert.NormModReferenceIdeal.Gen.facts,
  Cert.Modulation.Gen.facts, Cert.ModulationIdeal.Gen.facts, Cert.ModulationReferenceIdeal.Gen.facts,
  Cert.OddRotary.Gen.facts, Cert.OddRotaryIdeal.Gen.facts, Cert.OddRotaryReferenceIdeal.Gen.facts,
  Cert.Pre_finite_scores.Mla.facts,
  fun m ρ _ => Cert.Kernel.Mla.frame_kernel m ρ, fun m ρ _ => Cert.KernelIdeal.Mla.frame_ideal m ρ, fun m ρ _ => Cert.KernelIdeal.Mla.frame_ideal m ρ,
  fun m ρ _ => Cert.ReferenceIdeal.Mla.frame_reference m ρ, fun m ρ _ => Cert.ReferenceIdeal.Mla.frame_reference m ρ,
  fun m ρ _ => Cert.EvenIn.Gen.frame m ρ, fun m ρ _ => Cert.EvenInIdeal.Gen.frame m ρ, fun m ρ _ => Cert.EvenInReferenceIdeal.Proj.frame_reference m ρ,
  fun m ρ _ => Cert.OddIn.Gen.frame m ρ, fun m ρ _ => Cert.OddInIdeal.Gen.frame m ρ, fun m ρ _ => Cert.OddInReferenceIdeal.Proj.frame_reference m ρ,
  fun m ρ _ => Cert.MixOut.Gen.frame m ρ, fun m ρ _ => Cert.MixOutIdeal.Gen.frame m ρ, fun m ρ _ => Cert.MixOutReferenceIdeal.Proj.frame_reference m ρ,
  fun m ρ _ => Cert.Qb.Gen.frame m ρ, fun m ρ _ => Cert.QbIdeal.Gen.frame m ρ, fun m ρ _ => Cert.QbReferenceIdeal.Proj.frame_reference m ρ,
  fun m ρ _ => Cert.Kvb.Gen.frame m ρ, fun m ρ _ => Cert.KvbIdeal.Gen.frame m ρ, fun m ρ _ => Cert.KvbReferenceIdeal.Proj.frame_reference m ρ,
  fun m ρ _ => Cert.FinalNorm.Gen.frame m ρ, fun m ρ _ => Cert.FinalNormIdeal.Gen.frame m ρ, fun m ρ _ => Cert.FinalNormReferenceIdeal.Proj.frame_reference m ρ,
  fun m ρ _ => Cert.NormMod.Gen.frame m ρ, fun m ρ _ => Cert.NormModIdeal.Gen.frame m ρ, fun m ρ _ => Cert.NormModReferenceIdeal.Proj.frame_reference m ρ,
  fun m ρ _ => Cert.Modulation.Gen.frame m ρ, fun m ρ _ => Cert.ModulationIdeal.Gen.frame m ρ, fun m ρ _ => Cert.ModulationReferenceIdeal.Proj.frame_reference m ρ,
  fun m ρ _ => Cert.OddRotary.Gen.frame m ρ, fun m ρ _ => Cert.OddRotaryIdeal.Gen.frame m ρ, fun m ρ _ => Cert.OddRotaryReferenceIdeal.Proj.frame_reference m ρ,
  preserves, algebraic, trivial, algebraic_even, trivial, algebraic_odd, trivial, algebraic_mix, trivial, algebraic_qb, trivial, algebraic_kvb,
  trivial, algebraic_final_norm, trivial, algebraic_norm_mod, trivial, algebraic_modulation, trivial, algebraic_odd_rotary⟩

end Cert.Proof

end
